-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_d" .f32 0x394CCCCD#32 ((1 / 5120 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S30x1024x5120 : Shape := ⟨3, ![30, 1024, 5120]⟩
abbrev S5120 : Shape := ⟨1, ![5120]⟩
abbrev S30x1024 : Shape := ⟨2, ![30, 1024]⟩
abbrev S30x1024x1 : Shape := ⟨3, ![30, 1024, 1]⟩
abbrev S1x1x5120 : Shape := ⟨3, ![1, 1, 5120]⟩
abbrev S_ : Shape := ⟨0, ![]⟩

class Facts : Prop where
  bitsLt_bf16_f32 : FTy.bits .bf16 < FTy.bits .f32
  bcast_S30x1024_S30x1024x1_0_1 : S30x1024.BroadcastsInDim S30x1024x1 (![0, 1] : Fin 2 → Fin S30x1024x1.rank)
  bcast_S30x1024x1_S30x1024x5120_0_1_2 : S30x1024x1.BroadcastsInDim S30x1024x5120 (![0, 1, 2] : Fin 3 → Fin S30x1024x5120.rank)
  bcast_S5120_S1x1x5120_2 : S5120.BroadcastsInDim S1x1x5120 (![2] : Fin 1 → Fin S1x1x5120.rank)
  bcast_S1x1x5120_S30x1024x5120_0_1_2 : S1x1x5120.BroadcastsInDim S30x1024x5120 (![0, 1, 2] : Fin 3 → Fin S30x1024x5120.rank)
  reducesTo_S30x1024x5120_S30x1024_d2 : S30x1024x5120.ReducesTo [2] S30x1024
  h_S_ : 0 < S_.numel
  bcast_S_S30x1024x1 : S_.BroadcastsInDim S30x1024x1 (![] : Fin 0 → Fin S30x1024x1.rank)
  reducesTo_S30x1024x5120_S5120_d0_1 : S30x1024x5120.ReducesTo [0, 1] S5120
  bcast_S_S5120 : S_.BroadcastsInDim S5120 (![] : Fin 0 → Fin S5120.rank)
  reducesTo_S5120_S_d0 : S5120.ReducesTo [0] S_
  reducesTo_S30x1024x1_S_d0_1_2 : S30x1024x1.ReducesTo [0, 1, 2] S_

variable [Facts]

def fn_where {F : FTy → Type} [FloatOps F] (arg0 : IVec S30x1024x1 1) (arg1 : FVec F S_ .f32) (arg2 : FVec F S30x1024x1 .f32) : FVec F S30x1024x1 .f32 :=
  let v0 : FVec F S_ .f32 := id arg1
  let v1 : FVec F S30x1024x1 .f32 := broadcastInDim S30x1024x1 ![] bcast_S_S30x1024x1 v0
  let v2 : FVec F S30x1024x1 .f32 := select arg0 v1 arg2
  v2

def fn_part3 {F : FTy → Type} [FloatOps F] (main_arg4 : FVec F S30x1024 .f32) (main_v34 : FVec F S30x1024x1 .f32) (main_v45 : FVec F S30x1024x1 .f32) (main_v49 : IVec S_ 1) (main_v51 : IVec S30x1024x1 1) (main_v53 : IVec S30x1024x1 1) (main_v54 : FVec F S30x1024x1 .f32) : IVec S_ 1 :=
  let main_v55 : IVec S30x1024x1 1 := cmpf .olt main_v34 main_v54
  let main_v56 : IVec S30x1024x1 1 := andi main_v53 main_v55
  let main_v57 : IVec S30x1024x1 1 := ori main_v51 main_v56
  let main_c_15 : IVec S_ 1 := constantI S_ 1 1#1
  let main_v58 : IVec S_ 1 := (fun x v => Host.reduce IntOp.andi x v reducesTo_S30x1024x1_S_d0_1_2 h_S_) main_v57 main_c_15
  let main_v59 : IVec S_ 1 := andi main_v49 main_v58
  let main_v60 : FVec F S30x1024 .f32 := Host.absf main_arg4
  let main_v61 : FVec F S30x1024x1 .f32 := broadcastInDim S30x1024x1 ![0, 1] bcast_S30x1024_S30x1024x1_0_1 main_v60
  let main_v62 : FVec F S30x1024x1 .f32 := Host.negf main_v45
  let main_cst_16 : FVec F S_ .f32 := constant S_ .f32 0x40000000#32
  let main_v63 : FVec F S30x1024x1 .f32 := broadcastInDim S30x1024x1 ![] bcast_S_S30x1024x1 main_cst_16
  let main_v64 : FVec F S30x1024x1 .f32 := Host.powf main_v63 main_v62
  let main_v65 : FVec F S30x1024x1 .f32 := mulf main_v61 main_v64
  let main_cst_17 : FVec F S_ .f32 := constant S_ .f32 0x7F7FFFFF#32
  let main_v66 : FVec F S30x1024x1 .f32 := broadcastInDim S30x1024x1 ![] bcast_S_S30x1024x1 main_cst_17
  let main_v67 : IVec S30x1024x1 1 := cmpf .ole main_v65 main_v66
  let main_c_18 : IVec S_ 1 := constantI S_ 1 1#1
  let main_v68 : IVec S_ 1 := (fun x v => Host.reduce IntOp.andi x v reducesTo_S30x1024x1_S_d0_1_2 h_S_) main_v67 main_c_18
  let main_v69 : IVec S_ 1 := andi main_v59 main_v68
  main_v69

def fn_part2 {F : FTy → Type} [FloatOps F] (main_arg2 : FVec F S5120 .f32) (main_arg4 : FVec F S30x1024 .f32) (main_v34 : FVec F S30x1024x1 .f32) (main_v36 : IVec S30x1024x1 1) (main_v37 : FVec F S30x1024x1 .f32) (main_cst_8 : FVec F S_ .f32) : IVec S_ 1 :=
  let main_v38 : FVec F S_ .f32 := Host.log main_cst_8
  let main_v39 : FVec F S_ .f32 := id main_v38
  let main_v40 : FVec F S30x1024x1 .f32 := broadcastInDim S30x1024x1 ![] bcast_S_S30x1024x1 main_v39
  let main_v41 : FVec F S30x1024x1 .f32 := Host.divf main_v37 main_v40
  let main_v42 : FVec F S30x1024x1 .f32 := Host.floor main_v41
  let main_cst_9 : FVec F S_ .f32 := constant S_ .f32 0x3F800000#32
  let main_v43 : FVec F S30x1024x1 .f32 := broadcastInDim S30x1024x1 ![] bcast_S_S30x1024x1 main_cst_9
  let main_v44 : FVec F S30x1024x1 .f32 := addf main_v42 main_v43
  let main_cst_10 : FVec F S_ .f32 := constant S_ .f32 0x00000000#32
  let main_v45 : FVec F S30x1024x1 .f32 := fn_where (F := F) main_v36 main_cst_10 main_v44
  let main_v46 : FVec F S5120 .f32 := Host.absf main_arg2
  let main_cst_11 : FVec F S_ .f32 := constant S_ .f32 0x7F7FFFFF#32
  let main_v47 : FVec F S5120 .f32 := broadcastInDim S5120 ![] bcast_S_S5120 main_cst_11
  let main_v48 : IVec S5120 1 := cmpf .ole main_v46 main_v47
  let main_c : IVec S_ 1 := constantI S_ 1 1#1
  let main_v49 : IVec S_ 1 := (fun x v => Host.reduce IntOp.andi x v reducesTo_S5120_S_d0 h_S_) main_v48 main_c
  let main_cst_12 : FVec F S_ .f32 := constant S_ .f32 0x00000000#32
  let main_v50 : FVec F S30x1024x1 .f32 := broadcastInDim S30x1024x1 ![] bcast_S_S30x1024x1 main_cst_12
  let main_v51 : IVec S30x1024x1 1 := cmpf .oeq main_v34 main_v50
  let main_cst_13 : FVec F S_ .f32 := constant S_ .f32 0x00800000#32
  let main_v52 : FVec F S30x1024x1 .f32 := broadcastInDim S30x1024x1 ![] bcast_S_S30x1024x1 main_cst_13
  let main_v53 : IVec S30x1024x1 1 := cmpf .oge main_v34 main_v52
  let main_cst_14 : FVec F S_ .f32 := constant S_ .f32 0x7E800000#32
  let main_v54 : FVec F S30x1024x1 .f32 := broadcastInDim S30x1024x1 ![] bcast_S_S30x1024x1 main_cst_14
  fn_part3 (F := F) main_arg4 main_v34 main_v45 main_v49 main_v51 main_v53 main_v54

def fn_part1 {F : FTy → Type} [FloatOps F] (main_arg2 : FVec F S5120 .f32) (main_arg4 : FVec F S30x1024 .f32) (main_v1 : FVec F S30x1024x5120 .f32) (main_v2 : FVec F S30x1024x1 .f32) (main_v7 : FVec F S30x1024x5120 .f32) (main_v10 : FVec F S30x1024x5120 .f32) (main_v14 : FVec F S30x1024x1 .f32) (main_v19 : FVec F S30x1024x1 .f32) : IVec S_ 1 :=
  let main_v20 : FVec F S30x1024x5120 .f32 := broadcastInDim S30x1024x5120 ![0, 1, 2] bcast_S30x1024x1_S30x1024x5120_0_1_2 main_v14
  let main_v21 : FVec F S30x1024x5120 .f32 := subf main_v10 main_v20
  let main_v22 : FVec F S30x1024x5120 .f32 := broadcastInDim S30x1024x5120 ![0, 1, 2] bcast_S30x1024x1_S30x1024x5120_0_1_2 main_v19
  let main_v23 : FVec F S30x1024x5120 .f32 := mulf main_v7 main_v22
  let main_v24 : FVec F S30x1024x5120 .f32 := subf main_v21 main_v23
  let main_v25 : FVec F S30x1024x5120 .f32 := broadcastInDim S30x1024x5120 ![0, 1, 2] bcast_S30x1024x1_S30x1024x5120_0_1_2 main_v2
  let main_v26 : FVec F S30x1024x5120 .f32 := mulf main_v25 main_v24
  let main_v27 : FVec F S30x1024x5120 .f32 := mulf main_v1 main_v7
  let main_cst_3 : FVec F S_ .f32 := constant S_ .f32 0x00000000#32
  let main_v28 : FVec F S5120 .f32 := (fun x v => Host.reduceAdd x v reducesTo_S30x1024x5120_S5120_d0_1 h_S_) main_v27 main_cst_3
  let main_cst_4 : FVec F S_ .f32 := constant S_ .f32 0x00000000#32
  let main_v29 : FVec F S5120 .f32 := (fun x v => Host.reduceAdd x v reducesTo_S30x1024x5120_S5120_d0_1 h_S_) main_v1 main_cst_4
  let main_v30 : FVec F S30x1024x5120 .f32 := Host.absf main_v26
  let main_cst_5 : FVec F S_ .f32 := constant S_ .f32 0xFF800000#32
  let main_v31 : FVec F S30x1024 .f32 := (fun x v => Host.reduce FloatOps.maximumf x v reducesTo_S30x1024x5120_S30x1024_d2 h_S_) main_v30 main_cst_5
  let main_v32 : FVec F S30x1024x1 .f32 := broadcastInDim S30x1024x1 ![0, 1] bcast_S30x1024_S30x1024x1_0_1 main_v31
  let main_cst_6 : FVec F S_ .f32 := constant S_ .f32 0x37924925#32
  let main_v33 : FVec F S30x1024x1 .f32 := broadcastInDim S30x1024x1 ![] bcast_S_S30x1024x1 main_cst_6
  let main_v34 : FVec F S30x1024x1 .f32 := mulf main_v32 main_v33
  let main_cst_7 : FVec F S_ .f32 := constant S_ .f32 0x00000000#32
  let main_v35 : FVec F S30x1024x1 .f32 := broadcastInDim S30x1024x1 ![] bcast_S_S30x1024x1 main_cst_7
  let main_v36 : IVec S30x1024x1 1 := cmpf .oeq main_v32 main_v35
  let main_v37 : FVec F S30x1024x1 .f32 := Host.log main_v34
  let main_cst_8 : FVec F S_ .f32 := constant S_ .f32 0x40000000#32
  fn_part2 (F := F) main_arg2 main_arg4 main_v34 main_v36 main_v37 main_cst_8

def fn {F : FTy → Type} [FloatOps F] (main_arg0 : FVec F S30x1024x5120 .bf16) (main_arg1 : FVec F S30x1024x5120 .bf16) (main_arg2 : FVec F S5120 .f32) (main_arg3 : FVec F S30x1024 .f32) (main_arg4 : FVec F S30x1024 .f32) : IVec S_ 1 :=
  let main_v0 : FVec F S30x1024x5120 .f32 := (extf .f32 · bitsLt_bf16_f32) main_arg0
  let main_v1 : FVec F S30x1024x5120 .f32 := (extf .f32 · bitsLt_bf16_f32) main_arg1
  let main_v2 : FVec F S30x1024x1 .f32 := broadcastInDim S30x1024x1 ![0, 1] bcast_S30x1024_S30x1024x1_0_1 main_arg4
  let main_v3 : FVec F S30x1024x1 .f32 := broadcastInDim S30x1024x1 ![0, 1] bcast_S30x1024_S30x1024x1_0_1 main_arg3
  let main_v4 : FVec F S30x1024x5120 .f32 := broadcastInDim S30x1024x5120 ![0, 1, 2] bcast_S30x1024x1_S30x1024x5120_0_1_2 main_v3
  let main_v5 : FVec F S30x1024x5120 .f32 := subf main_v0 main_v4
  let main_v6 : FVec F S30x1024x5120 .f32 := broadcastInDim S30x1024x5120 ![0, 1, 2] bcast_S30x1024x1_S30x1024x5120_0_1_2 main_v2
  let main_v7 : FVec F S30x1024x5120 .f32 := mulf main_v5 main_v6
  let main_v8 : FVec F S1x1x5120 .f32 := broadcastInDim S1x1x5120 ![2] bcast_S5120_S1x1x5120_2 main_arg2
  let main_v9 : FVec F S30x1024x5120 .f32 := broadcastInDim S30x1024x5120 ![0, 1, 2] bcast_S1x1x5120_S30x1024x5120_0_1_2 main_v8
  let main_v10 : FVec F S30x1024x5120 .f32 := mulf main_v1 main_v9
  let main_cst : FVec F S_ .f32 := constant S_ .f32 0x00000000#32
  let main_v11 : FVec F S30x1024 .f32 := (fun x v => Host.reduceAdd x v reducesTo_S30x1024x5120_S30x1024_d2 h_S_) main_v10 main_cst
  let main_v12 : FVec F S30x1024x1 .f32 := broadcastInDim S30x1024x1 ![0, 1] bcast_S30x1024_S30x1024x1_0_1 main_v11
  let main_cst_0 : FVec F S_ .f32 := constant S_ .f32 0x45A00000#32
  let main_v13 : FVec F S30x1024x1 .f32 := broadcastInDim S30x1024x1 ![] bcast_S_S30x1024x1 main_cst_0
  let main_v14 : FVec F S30x1024x1 .f32 := Host.divf main_v12 main_v13
  let main_v15 : FVec F S30x1024x5120 .f32 := mulf main_v10 main_v7
  let main_cst_1 : FVec F S_ .f32 := constant S_ .f32 0x00000000#32
  let main_v16 : FVec F S30x1024 .f32 := (fun x v => Host.reduceAdd x v reducesTo_S30x1024x5120_S30x1024_d2 h_S_) main_v15 main_cst_1
  let main_v17 : FVec F S30x1024x1 .f32 := broadcastInDim S30x1024x1 ![0, 1] bcast_S30x1024_S30x1024x1_0_1 main_v16
  let main_cst_2 : FVec F S_ .f32 := constant S_ .f32 0x45A00000#32
  let main_v18 : FVec F S30x1024x1 .f32 := broadcastInDim S30x1024x1 ![] bcast_S_S30x1024x1 main_cst_2
  let main_v19 : FVec F S30x1024x1 .f32 := Host.divf main_v17 main_v18
  fn_part1 (F := F) main_arg2 main_arg4 main_v1 main_v2 main_v7 main_v10 main_v14 main_v19
-- ==== Kernel.lean ====
abbrev S30x1024x5120 : Shape := ⟨3, ![30, 1024, 5120]⟩
abbrev S5120 : Shape := ⟨1, ![5120]⟩
abbrev S30x1024 : Shape := ⟨2, ![30, 1024]⟩
abbrev S30720x5120 : Shape := ⟨2, ![30720, 5120]⟩
abbrev S1x5120 : Shape := ⟨2, ![1, 5120]⟩
abbrev S256x5120 : Shape := ⟨2, ![256, 5120]⟩
abbrev S128x5120 : Shape := ⟨2, ![128, 5120]⟩
abbrev S256x128 : Shape := ⟨2, ![256, 128]⟩
abbrev S8x5120 : Shape := ⟨2, ![8, 5120]⟩
abbrev S125x5120 : Shape := ⟨2, ![125, 5120]⟩
abbrev S1x256 : Shape := ⟨2, ![1, 256]⟩
abbrev S1x128 : Shape := ⟨2, ![1, 128]⟩
abbrev S128x128 : Shape := ⟨2, ![128, 128]⟩
abbrev S256x512 : Shape := ⟨2, ![256, 512]⟩
abbrev S128x512 : Shape := ⟨2, ![128, 512]⟩
abbrev S8x256 : Shape := ⟨2, ![8, 256]⟩
abbrev S8x512 : Shape := ⟨2, ![8, 512]⟩
abbrev S32x128 : Shape := ⟨2, ![32, 128]⟩
abbrev S8x128 : Shape := ⟨2, ![8, 128]⟩
abbrev S256 : Shape := ⟨1, ![256]⟩
abbrev S256x1 : Shape := ⟨2, ![256, 1]⟩

abbrev nBuf : Space → Nat
  | .hbm => 12
  | .vmem => 27
  | .smem => 0
  | _ => 0

abbrev bufTy : (tb : Table) → Fin (tcTables nBuf tb) → BufTy
  | .hbm, ⟨0, _⟩ => ⟨S30x1024x5120, .bf16⟩
  | .hbm, ⟨1, _⟩ => ⟨S30x1024x5120, .bf16⟩
  | .hbm, ⟨2, _⟩ => ⟨S5120, .f32⟩
  | .hbm, ⟨3, _⟩ => ⟨S30x1024, .f32⟩
  | .hbm, ⟨4, _⟩ => ⟨S30x1024, .f32⟩
  | .hbm, ⟨5, _⟩ => ⟨S30720x5120, .bf16⟩
  | .hbm, ⟨6, _⟩ => ⟨S30720x5120, .bf16⟩
  | .hbm, ⟨7, _⟩ => ⟨S1x5120, .f32⟩
  | .hbm, ⟨8, _⟩ => ⟨S1x5120, .f32⟩
  | .hbm, ⟨9, _⟩ => ⟨S1x5120, .f32⟩
  | .hbm, ⟨10, _⟩ => ⟨S30720x5120, .fp8e5m2⟩
  | .hbm, ⟨11, _⟩ => ⟨S30x1024, .f32⟩
  | .local _ .vmem, ⟨0, _⟩ => ⟨S256x5120, .bf16⟩
  | .local _ .vmem, ⟨1, _⟩ => ⟨S256x5120, .bf16⟩
  | .local _ .vmem, ⟨2, _⟩ => ⟨S256x5120, .bf16⟩
  | .local _ .vmem, ⟨3, _⟩ => ⟨S256x5120, .bf16⟩
  | .local _ .vmem, ⟨4, _⟩ => ⟨S1x5120, .f32⟩
  | .local _ .vmem, ⟨5, _⟩ => ⟨S30x1024, .f32⟩
  | .local _ .vmem, ⟨6, _⟩ => ⟨S30x1024, .f32⟩
  | .local _ .vmem, ⟨7, _⟩ => ⟨S1x5120, .f32⟩
  | .local _ .vmem, ⟨8, _⟩ => ⟨S1x5120, .f32⟩
  | .local _ .vmem, ⟨9, _⟩ => ⟨S256x5120, .fp8e5m2⟩
  | .local _ .vmem, ⟨10, _⟩ => ⟨S256x5120, .fp8e5m2⟩
  | .local _ .vmem, ⟨11, _⟩ => ⟨S30x1024, .f32⟩
  | .local _ .vmem, ⟨12, _⟩ => ⟨S256x5120, .f32⟩
  | .local _ .vmem, ⟨13, _⟩ => ⟨S256x5120, .f32⟩
  | .local _ .vmem, ⟨14, _⟩ => ⟨S256x5120, .f32⟩
  | .local _ .vmem, ⟨15, _⟩ => ⟨S128x5120, .bf16⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S8x5120, .f32⟩
  | .local _ .vmem, ⟨26, _⟩ => ⟨S8x5120, .f32⟩
  | _, _ => ⟨S30x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_scratch10 : Ref sig .tc := ⟨.vmem, 22, rfl⟩
abbrev cc0_scratch11 : Ref sig .tc := ⟨.vmem, 23, rfl⟩
abbrev cc0_scratch12 : Ref sig .tc := ⟨.vmem, 24, rfl⟩
abbrev cc0_scratch13 : Ref sig .tc := ⟨.vmem, 25, rfl⟩
abbrev cc0_scratch14 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11

abbrev nD : Nat := 1
abbrev τ : Topo := Topo.v7x

variable {F : FTy → Type} [FloatOps F]

abbrev grid0 : Pipeline.Grid := ⟨1, ![122], ![false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_mult1 (i : grid0.Coords) : BitVec 32 :=
  let arg0 : BitVec 32 := BitVec.ofNat 32 (i 0).val
  let c4_i32_14 : BitVec 32 := 4#32
  let c0_i32_15 : BitVec 32 := 0#32
  let v37 : BitVec 1 := Scalar.cmpi .eq c4_i32_14 c0_i32_15
  let c1_i32_16 : BitVec 32 := 1#32
  let v38 : BitVec 32 := Scalar.select v37 c1_i32_16 c4_i32_14
  let v39 : BitVec 32 := Scalar.remsi arg0 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c256_i32 : BitVec 32 := 256#32
  let v47 : BitVec 32 := Scalar.muli v46 c256_i32
  v47
def k0_off1 (i : grid0.Coords) : Fin 2 → Nat :=
  let arg0 : BitVec 32 := BitVec.ofNat 32 (i 0).val
  let c0_i32_8 : BitVec 32 := 0#32
  let v21 : BitVec 1 := Scalar.cmpi .sgt arg0 c0_i32_8
  let v22 : BitVec 32 := Scalar.extui v21
  let c0_i32_9 : BitVec 32 := 0#32
  let v23 : BitVec 1 := Scalar.cmpi .slt arg0 c0_i32_9
  let v24 : BitVec 32 := Scalar.extui v23
  let v25 : BitVec 32 := Scalar.subi v22 v24
  let c4_i32 : BitVec 32 := 4#32
  let c0_i32_10 : BitVec 32 := 0#32
  let v26 : BitVec 1 := Scalar.cmpi .sgt c4_i32 c0_i32_10
  let v27 : BitVec 32 := Scalar.extui v26
  let c0_i32_11 : BitVec 32 := 0#32
  let v28 : BitVec 1 := Scalar.cmpi .slt c4_i32 c0_i32_11
  let v29 : BitVec 32 := Scalar.extui v28
  let v30 : BitVec 32 := Scalar.subi v27 v29
  let v31 : BitVec 1 := Scalar.cmpi .ne v25 v30
  let v32 : BitVec 32 := Scalar.remsi arg0 c4_i32
  let c0_i32_12 : BitVec 32 := 0#32
  let v33 : BitVec 1 := Scalar.cmpi .ne v32 c0_i32_12
  let v34 : BitVec 1 := Scalar.andi v31 v33
  let v20 : BitVec 32 := Scalar.divsi arg0 c4_i32
  let c1_i32_13 : BitVec 32 := 1#32
  let v35 : BitVec 32 := Scalar.subi v20 c1_i32_13
  let v36 : BitVec 32 := Scalar.select v34 v35 v20
  let v49 : Index := Scalar.indexCast v36
  let c4_i32_14 : BitVec 32 := 4#32
  let c0_i32_15 : BitVec 32 := 0#32
  let v37 : BitVec 1 := Scalar.cmpi .eq c4_i32_14 c0_i32_15
  let c1_i32_16 : BitVec 32 := 1#32
  let v38 : BitVec 32 := Scalar.select v37 c1_i32_16 c4_i32_14
  let v39 : BitVec 32 := Scalar.remsi arg0 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c256_i32 : BitVec 32 := 256#32
  let v47 : BitVec 32 := Scalar.muli v46 c256_i32
  let v48 : BitVec 32 := v47
  let v50 : Index := Scalar.indexCast v48
  ![v49.toNat, v50.toNat]
def k0_mult2 (i : grid0.Coords) : BitVec 32 :=
  let arg0 : BitVec 32 := BitVec.ofNat 32 (i 0).val
  let c4_i32_28 : BitVec 32 := 4#32
  let c0_i32_29 : BitVec 32 := 0#32
  let v81 : BitVec 1 := Scalar.cmpi .eq c4_i32_28 c0_i32_29
  let c1_i32_30 : BitVec 32 := 1#32
  let v82 : BitVec 32 := Scalar.select v81 c1_i32_30 c4_i32_28
  let v83 : BitVec 32 := Scalar.remsi arg0 v82
  let c0_i32_32 : BitVec 32 := 0#32
  let v85 : BitVec 1 := Scalar.cmpi .slt v83 c0_i32_32
  let c0_i32_33 : BitVec 32 := 0#32
  let v86 : BitVec 1 := Scalar.cmpi .slt v82 c0_i32_33
  let v87 : BitVec 1 := Scalar.xori v85 v86
  let c0_i32_31 : BitVec 32 := 0#32
  let v84 : BitVec 1 := Scalar.cmpi .ne v83 c0_i32_31
  let v88 : BitVec 1 := Scalar.andi v87 v84
  let v89 : BitVec 32 := Scalar.addi v83 v82
  let v90 : BitVec 32 := Scalar.select v88 v89 v83
  let c256_i32_34 : BitVec 32 := 256#32
  let v91 : BitVec 32 := Scalar.muli v90 c256_i32_34
  v91
@[reducible] def k0_t1_loop : Scf.Loop 32 :=
  let c0_i32_42 : BitVec 32 := 0#32
  let c10_i32 : BitVec 32 := 10#32
  let v116 : BitVec 32 := Scalar.addi c0_i32_42 c10_i32
  let c1_i32_43 : BitVec 32 := 1#32
  ⟨c0_i32_42, v116, c1_i32_43⟩
def k0_mult3 (k0_t1 : Fin k0_t1_loop.trips) : BitVec 32 :=
  let c0_i32_42 : BitVec 32 := 0#32
  let c1_i32_43 : BitVec 32 := 1#32
  let arg25 : BitVec 32 := Scf.iv c0_i32_42 c1_i32_43 k0_t1
  let c512_i32 : BitVec 32 := 512#32
  let v117 : BitVec 32 := Scalar.muli arg25 c512_i32
  v117
def k0_off2 (k0_t1 : Fin k0_t1_loop.trips) : Fin 2 → Nat :=
  let c0_45 : Index := 0#32
  let c0_i32_42 : BitVec 32 := 0#32
  let c1_i32_43 : BitVec 32 := 1#32
  let arg25 : BitVec 32 := Scf.iv c0_i32_42 c1_i32_43 k0_t1
  let c512_i32 : BitVec 32 := 512#32
  let v117 : BitVec 32 := Scalar.muli arg25 c512_i32
  let v118 : BitVec 32 := v117
  let v119 : Index := Scalar.indexCast v118
  ![0, v119.toNat]
def k0_off3 (k0_t1 : Fin k0_t1_loop.trips) : Fin 2 → Nat :=
  let c0_48 : Index := 0#32
  let c0_i32_42 : BitVec 32 := 0#32
  let c1_i32_43 : BitVec 32 := 1#32
  let arg25 : BitVec 32 := Scf.iv c0_i32_42 c1_i32_43 k0_t1
  let c512_i32 : BitVec 32 := 512#32
  let v117 : BitVec 32 := Scalar.muli arg25 c512_i32
  let v118 : BitVec 32 := v117
  let v123 : Index := Scalar.indexCast v118
  ![0, v123.toNat]
def k0_off4 (k0_t1 : Fin k0_t1_loop.trips) : Fin 2 → Nat :=
  let c0_53 : Index := 0#32
  let c0_i32_42 : BitVec 32 := 0#32
  let c1_i32_43 : BitVec 32 := 1#32
  let arg25 : BitVec 32 := Scf.iv c0_i32_42 c1_i32_43 k0_t1
  let c512_i32 : BitVec 32 := 512#32
  let v117 : BitVec 32 := Scalar.muli arg25 c512_i32
  let v118 : BitVec 32 := v117
  let v131 : Index := Scalar.indexCast v118
  ![0, v131.toNat]
def k0_off5 (k0_t1 : Fin k0_t1_loop.trips) (c0_i32_56 : BitVec 32) : Fin 2 → Nat :=
  let c0_57 : Index := 0#32
  let c0_i32_42 : BitVec 32 := 0#32
  let c1_i32_43 : BitVec 32 := 1#32
  let arg25 : BitVec 32 := Scf.iv c0_i32_42 c1_i32_43 k0_t1
  let c512_i32 : BitVec 32 := 512#32
  let v117 : BitVec 32 := Scalar.muli arg25 c512_i32
  let v118 : BitVec 32 := v117
  let v139 : BitVec 32 := Scalar.addi v118 c0_i32_56
  let v140 : Index := Scalar.indexCast v139
  ![0, v140.toNat]
def k0_off6 (k0_t1 : Fin k0_t1_loop.trips) (c0_i32_56 : BitVec 32) : Fin 2 → Nat :=
  let c0_58 : Index := 0#32
  let c0_i32_42 : BitVec 32 := 0#32
  let c1_i32_43 : BitVec 32 := 1#32
  let arg25 : BitVec 32 := Scf.iv c0_i32_42 c1_i32_43 k0_t1
  let c512_i32 : BitVec 32 := 512#32
  let v117 : BitVec 32 := Scalar.muli arg25 c512_i32
  let v118 : BitVec 32 := v117
  let v139 : BitVec 32 := Scalar.addi v118 c0_i32_56
  let v143 : Index := Scalar.indexCast v139
  ![0, v143.toNat]
def k0_off7 (k0_t1 : Fin k0_t1_loop.trips) (c0_i32_98 : BitVec 32) : Fin 2 → Nat :=
  let c32 : Index := 32#32
  let c0_i32_42 : BitVec 32 := 0#32
  let c1_i32_43 : BitVec 32 := 1#32
  let arg25 : BitVec 32 := Scf.iv c0_i32_42 c1_i32_43 k0_t1
  let c512_i32 : BitVec 32 := 512#32
  let v117 : BitVec 32 := Scalar.muli arg25 c512_i32
  let v118 : BitVec 32 := v117
  let v287 : BitVec 32 := Scalar.addi v118 c0_i32_98
  let v291 : Index := Scalar.indexCast v287
  ![32, v291.toNat]
def k0_off8 (k0_t1 : Fin k0_t1_loop.trips) (c0_i32_141 : BitVec 32) : Fin 2 → Nat :=
  let c64 : Index := 64#32
  let c0_i32_42 : BitVec 32 := 0#32
  let c1_i32_43 : BitVec 32 := 1#32
  let arg25 : BitVec 32 := Scf.iv c0_i32_42 c1_i32_43 k0_t1
  let c512_i32 : BitVec 32 := 512#32
  let v117 : BitVec 32 := Scalar.muli arg25 c512_i32
  let v118 : BitVec 32 := v117
  let v439 : BitVec 32 := Scalar.addi v118 c0_i32_141
  let v443 : Index := Scalar.indexCast v439
  ![64, v443.toNat]
def k0_off9 (k0_t1 : Fin k0_t1_loop.trips) (c0_i32_184 : BitVec 32) : Fin 2 → Nat :=
  let c96 : Index := 96#32
  let c0_i32_42 : BitVec 32 := 0#32
  let c1_i32_43 : BitVec 32 := 1#32
  let arg25 : BitVec 32 := Scf.iv c0_i32_42 c1_i32_43 k0_t1
  let c512_i32 : BitVec 32 := 512#32
  let v117 : BitVec 32 := Scalar.muli arg25 c512_i32
  let v118 : BitVec 32 := v117
  let v591 : BitVec 32 := Scalar.addi v118 c0_i32_184
  let v595 : Index := Scalar.indexCast v591
  ![96, v595.toNat]
def k0_off10 (k0_t1 : Fin k0_t1_loop.trips) (c0_i32_227 : BitVec 32) : Fin 2 → Nat :=
  let c128 : Index := 128#32
  let c0_i32_42 : BitVec 32 := 0#32
  let c1_i32_43 : BitVec 32 := 1#32
  let arg25 : BitVec 32 := Scf.iv c0_i32_42 c1_i32_43 k0_t1
  let c512_i32 : BitVec 32 := 512#32
  let v117 : BitVec 32 := Scalar.muli arg25 c512_i32
  let v118 : BitVec 32 := v117
  let v743 : BitVec 32 := Scalar.addi v118 c0_i32_227
  let v747 : Index := Scalar.indexCast v743
  ![128, v747.toNat]
def k0_off11 (k0_t1 : Fin k0_t1_loop.trips) (c0_i32_270 : BitVec 32) : Fin 2 → Nat :=
  let c160 : Index := 160#32
  let c0_i32_42 : BitVec 32 := 0#32
  let c1_i32_43 : BitVec 32 := 1#32
  let arg25 : BitVec 32 := Scf.iv c0_i32_42 c1_i32_43 k0_t1
  let c512_i32 : BitVec 32 := 512#32
  let v117 : BitVec 32 := Scalar.muli arg25 c512_i32
  let v118 : BitVec 32 := v117
  let v895 : BitVec 32 := Scalar.addi v118 c0_i32_270
  let v899 : Index := Scalar.indexCast v895
  ![160, v899.toNat]
def k0_off12 (k0_t1 : Fin k0_t1_loop.trips) (c0_i32_313 : BitVec 32) : Fin 2 → Nat :=
  let c192 : Index := 192#32
  let c0_i32_42 : BitVec 32 := 0#32
  let c1_i32_43 : BitVec 32 := 1#32
  let arg25 : BitVec 32 := Scf.iv c0_i32_42 c1_i32_43 k0_t1
  let c512_i32 : BitVec 32 := 512#32
  let v117 : BitVec 32 := Scalar.muli arg25 c512_i32
  let v118 : BitVec 32 := v117
  let v1047 : BitVec 32 := Scalar.addi v118 c0_i32_313
  let v1051 : Index := Scalar.indexCast v1047
  ![192, v1051.toNat]
def k0_off13 (k0_t1 : Fin k0_t1_loop.trips) (c0_i32_356 : BitVec 32) : Fin 2 → Nat :=
  let c224 : Index := 224#32
  let c0_i32_42 : BitVec 32 := 0#32
  let c1_i32_43 : BitVec 32 := 1#32
  let arg25 : BitVec 32 := Scf.iv c0_i32_42 c1_i32_43 k0_t1
  let c512_i32 : BitVec 32 := 512#32
  let v117 : BitVec 32 := Scalar.muli arg25 c512_i32
  let v118 : BitVec 32 := v117
  let v1199 : BitVec 32 := Scalar.addi v118 c0_i32_356
  let v1203 : Index := Scalar.indexCast v1199
  ![224, v1203.toNat]
def k0_off14 (k0_t1 : Fin k0_t1_loop.trips) (c0_i32_399 : BitVec 32) : Fin 2 → Nat :=
  let c0_400 : Index := 0#32
  let c0_i32_42 : BitVec 32 := 0#32
  let c1_i32_43 : BitVec 32 := 1#32
  let arg25 : BitVec 32 := Scf.iv c0_i32_42 c1_i32_43 k0_t1
  let c512_i32 : BitVec 32 := 512#32
  let v117 : BitVec 32 := Scalar.muli arg25 c512_i32
  let v118 : BitVec 32 := v117
  let v1351 : BitVec 32 := Scalar.addi v118 c0_i32_399
  let v1352 : Index := Scalar.indexCast v1351
  ![0, v1352.toNat]
def k0_cond3 (i : grid0.Coords) : BitVec 1 :=
  let arg0 : BitVec 32 := BitVec.ofNat 32 (i 0).val
  let c1_i32 : BitVec 32 := 1#32
  let v6 : BitVec 1 := Scalar.cmpi .eq arg0 c1_i32
  let v7 : BitVec 32 := Scalar.extui v6
  let c0_i32_3 : BitVec 32 := 0#32
  let v8 : BitVec 1 := Scalar.cmpi .ne v7 c0_i32_3
  v8

def k0_mult4 (i : grid0.Coords) : BitVec 32 :=
  let arg0 : BitVec 32 := BitVec.ofNat 32 (i 0).val
  let c4_i32_24 : BitVec 32 := 4#32
  let c0_i32_25 : BitVec 32 := 0#32
  let v57 : BitVec 1 := Scalar.cmpi .eq c4_i32_24 c0_i32_25
  let c1_i32_26 : BitVec 32 := 1#32
  let v58 : BitVec 32 := Scalar.select v57 c1_i32_26 c4_i32_24
  let v59 : BitVec 32 := Scalar.remsi arg0 v58
  let c0_i32_28 : BitVec 32 := 0#32
  let v61 : BitVec 1 := Scalar.cmpi .slt v59 c0_i32_28
  let c0_i32_29 : BitVec 32 := 0#32
  let v62 : BitVec 1 := Scalar.cmpi .slt v58 c0_i32_29
  let v63 : BitVec 1 := Scalar.xori v61 v62
  let c0_i32_27 : BitVec 32 := 0#32
  let v60 : BitVec 1 := Scalar.cmpi .ne v59 c0_i32_27
  let v64 : BitVec 1 := Scalar.andi v63 v60
  let v65 : BitVec 32 := Scalar.addi v59 v58
  let v66 : BitVec 32 := Scalar.select v64 v65 v59
  let c256_i32 : BitVec 32 := 256#32
  let v67 : BitVec 32 := Scalar.muli v66 c256_i32
  v67
def k0_off15 (i : grid0.Coords) : Fin 2 → Nat :=
  let arg0 : BitVec 32 := BitVec.ofNat 32 (i 0).val
  let c0_i32_18 : BitVec 32 := 0#32
  let v41 : BitVec 1 := Scalar.cmpi .sgt arg0 c0_i32_18
  let v42 : BitVec 32 := Scalar.extui v41
  let c0_i32_19 : BitVec 32 := 0#32
  let v43 : BitVec 1 := Scalar.cmpi .slt arg0 c0_i32_19
  let v44 : BitVec 32 := Scalar.extui v43
  let v45 : BitVec 32 := Scalar.subi v42 v44
  let c4_i32 : BitVec 32 := 4#32
  let c0_i32_20 : BitVec 32 := 0#32
  let v46 : BitVec 1 := Scalar.cmpi .sgt c4_i32 c0_i32_20
  let v47 : BitVec 32 := Scalar.extui v46
  let c0_i32_21 : BitVec 32 := 0#32
  let v48 : BitVec 1 := Scalar.cmpi .slt c4_i32 c0_i32_21
  let v49 : BitVec 32 := Scalar.extui v48
  let v50 : BitVec 32 := Scalar.subi v47 v49
  let v51 : BitVec 1 := Scalar.cmpi .ne v45 v50
  let v52 : BitVec 32 := Scalar.remsi arg0 c4_i32
  let c0_i32_22 : BitVec 32 := 0#32
  let v53 : BitVec 1 := Scalar.cmpi .ne v52 c0_i32_22
  let v54 : BitVec 1 := Scalar.andi v51 v53
  let v40 : BitVec 32 := Scalar.divsi arg0 c4_i32
  let c1_i32_23 : BitVec 32 := 1#32
  let v55 : BitVec 32 := Scalar.subi v40 c1_i32_23
  let v56 : BitVec 32 := Scalar.select v54 v55 v40
  let v69 : Index := Scalar.indexCast v56
  let c4_i32_24 : BitVec 32 := 4#32
  let c0_i32_25 : BitVec 32 := 0#32
  let v57 : BitVec 1 := Scalar.cmpi .eq c4_i32_24 c0_i32_25
  let c1_i32_26 : BitVec 32 := 1#32
  let v58 : BitVec 32 := Scalar.select v57 c1_i32_26 c4_i32_24
  let v59 : BitVec 32 := Scalar.remsi arg0 v58
  let c0_i32_28 : BitVec 32 := 0#32
  let v61 : BitVec 1 := Scalar.cmpi .slt v59 c0_i32_28
  let c0_i32_29 : BitVec 32 := 0#32
  let v62 : BitVec 1 := Scalar.cmpi .slt v58 c0_i32_29
  let v63 : BitVec 1 := Scalar.xori v61 v62
  let c0_i32_27 : BitVec 32 := 0#32
  let v60 : BitVec 1 := Scalar.cmpi .ne v59 c0_i32_27
  let v64 : BitVec 1 := Scalar.andi v63 v60
  let v65 : BitVec 32 := Scalar.addi v59 v58
  let v66 : BitVec 32 := Scalar.select v64 v65 v59
  let c256_i32 : BitVec 32 := 256#32
  let v67 : BitVec 32 := Scalar.muli v66 c256_i32
  let v68 : BitVec 32 := v67
  let v70 : Index := Scalar.indexCast v68
  ![v69.toNat, v70.toNat]
def k0_mult5 (i : grid0.Coords) : BitVec 32 :=
  let arg0 : BitVec 32 := BitVec.ofNat 32 (i 0).val
  let c4_i32_39 : BitVec 32 := 4#32
  let c0_i32_40 : BitVec 32 := 0#32
  let v101 : BitVec 1 := Scalar.cmpi .eq c4_i32_39 c0_i32_40
  let c1_i32_41 : BitVec 32 := 1#32
  let v102 : BitVec 32 := Scalar.select v101 c1_i32_41 c4_i32_39
  let v103 : BitVec 32 := Scalar.remsi arg0 v102
  let c0_i32_43 : BitVec 32 := 0#32
  let v105 : BitVec 1 := Scalar.cmpi .slt v103 c0_i32_43
  let c0_i32_44 : BitVec 32 := 0#32
  let v106 : BitVec 1 := Scalar.cmpi .slt v102 c0_i32_44
  let v107 : BitVec 1 := Scalar.xori v105 v106
  let c0_i32_42 : BitVec 32 := 0#32
  let v104 : BitVec 1 := Scalar.cmpi .ne v103 c0_i32_42
  let v108 : BitVec 1 := Scalar.andi v107 v104
  let v109 : BitVec 32 := Scalar.addi v103 v102
  let v110 : BitVec 32 := Scalar.select v108 v109 v103
  let c256_i32_45 : BitVec 32 := 256#32
  let v111 : BitVec 32 := Scalar.muli v110 c256_i32_45
  v111
@[reducible] def k0_t2_loop : Scf.Loop 32 :=
  let c0_i32_57 : BitVec 32 := 0#32
  let c10_i32 : BitVec 32 := 10#32
  let v140 : BitVec 32 := Scalar.addi c0_i32_57 c10_i32
  let c1_i32_58 : BitVec 32 := 1#32
  ⟨c0_i32_57, v140, c1_i32_58⟩
def k0_mult6 (k0_t2 : Fin k0_t2_loop.trips) : BitVec 32 :=
  let c0_i32_57 : BitVec 32 := 0#32
  let c1_i32_58 : BitVec 32 := 1#32
  let arg25 : BitVec 32 := Scf.iv c0_i32_57 c1_i32_58 k0_t2
  let c512_i32 : BitVec 32 := 512#32
  let v141 : BitVec 32 := Scalar.muli arg25 c512_i32
  v141
def k0_off16 (k0_t2 : Fin k0_t2_loop.trips) : Fin 2 → Nat :=
  let c0_60 : Index := 0#32
  let c0_i32_57 : BitVec 32 := 0#32
  let c1_i32_58 : BitVec 32 := 1#32
  let arg25 : BitVec 32 := Scf.iv c0_i32_57 c1_i32_58 k0_t2
  let c512_i32 : BitVec 32 := 512#32
  let v141 : BitVec 32 := Scalar.muli arg25 c512_i32
  let v142 : BitVec 32 := v141
  let v143 : Index := Scalar.indexCast v142
  ![0, v143.toNat]
def k0_off17 (k0_t2 : Fin k0_t2_loop.trips) : Fin 2 → Nat :=
  let c0_63 : Index := 0#32
  let c0_i32_57 : BitVec 32 := 0#32
  let c1_i32_58 : BitVec 32 := 1#32
  let arg25 : BitVec 32 := Scf.iv c0_i32_57 c1_i32_58 k0_t2
  let c512_i32 : BitVec 32 := 512#32
  let v141 : BitVec 32 := Scalar.muli arg25 c512_i32
  let v142 : BitVec 32 := v141
  let v147 : Index := Scalar.indexCast v142
  ![0, v147.toNat]
def k0_off18 (k0_t2 : Fin k0_t2_loop.trips) : Fin 2 → Nat :=
  let c0_68 : Index := 0#32
  let c0_i32_57 : BitVec 32 := 0#32
  let c1_i32_58 : BitVec 32 := 1#32
  let arg25 : BitVec 32 := Scf.iv c0_i32_57 c1_i32_58 k0_t2
  let c512_i32 : BitVec 32 := 512#32
  let v141 : BitVec 32 := Scalar.muli arg25 c512_i32
  let v142 : BitVec 32 := v141
  let v155 : Index := Scalar.indexCast v142
  ![0, v155.toNat]
def k0_off19 (k0_t2 : Fin k0_t2_loop.trips) (c0_i32_71 : BitVec 32) : Fin 2 → Nat :=
  let c0_72 : Index := 0#32
  let c0_i32_57 : BitVec 32 := 0#32
  let c1_i32_58 : BitVec 32 := 1#32
  let arg25 : BitVec 32 := Scf.iv c0_i32_57 c1_i32_58 k0_t2
  let c512_i32 : BitVec 32 := 512#32
  let v141 : BitVec 32 := Scalar.muli arg25 c512_i32
  let v142 : BitVec 32 := v141
  let v163 : BitVec 32 := Scalar.addi v142 c0_i32_71
  let v164 : Index := Scalar.indexCast v163
  ![0, v164.toNat]
def k0_off20 (k0_t2 : Fin k0_t2_loop.trips) (c0_i32_71 : BitVec 32) : Fin 2 → Nat :=
  let c0_79 : Index := 0#32
  let c0_i32_57 : BitVec 32 := 0#32
  let c1_i32_58 : BitVec 32 := 1#32
  let arg25 : BitVec 32 := Scf.iv c0_i32_57 c1_i32_58 k0_t2
  let c512_i32 : BitVec 32 := 512#32
  let v141 : BitVec 32 := Scalar.muli arg25 c512_i32
  let v142 : BitVec 32 := v141
  let v163 : BitVec 32 := Scalar.addi v142 c0_i32_71
  let v178 : Index := Scalar.indexCast v163
  ![0, v178.toNat]
def k0_off21 (k0_t2 : Fin k0_t2_loop.trips) (c0_i32_145 : BitVec 32) : Fin 2 → Nat :=
  let c32 : Index := 32#32
  let c0_i32_57 : BitVec 32 := 0#32
  let c1_i32_58 : BitVec 32 := 1#32
  let arg25 : BitVec 32 := Scf.iv c0_i32_57 c1_i32_58 k0_t2
  let c512_i32 : BitVec 32 := 512#32
  let v141 : BitVec 32 := Scalar.muli arg25 c512_i32
  let v142 : BitVec 32 := v141
  let v375 : BitVec 32 := Scalar.addi v142 c0_i32_145
  let v376 : Index := Scalar.indexCast v375
  ![32, v376.toNat]
def k0_off22 (k0_t2 : Fin k0_t2_loop.trips) (c0_i32_220 : BitVec 32) : Fin 2 → Nat :=
  let c64 : Index := 64#32
  let c0_i32_57 : BitVec 32 := 0#32
  let c1_i32_58 : BitVec 32 := 1#32
  let arg25 : BitVec 32 := Scf.iv c0_i32_57 c1_i32_58 k0_t2
  let c512_i32 : BitVec 32 := 512#32
  let v141 : BitVec 32 := Scalar.muli arg25 c512_i32
  let v142 : BitVec 32 := v141
  let v591 : BitVec 32 := Scalar.addi v142 c0_i32_220
  let v592 : Index := Scalar.indexCast v591
  ![64, v592.toNat]
def k0_off23 (k0_t2 : Fin k0_t2_loop.trips) (c0_i32_295 : BitVec 32) : Fin 2 → Nat :=
  let c96 : Index := 96#32
  let c0_i32_57 : BitVec 32 := 0#32
  let c1_i32_58 : BitVec 32 := 1#32
  let arg25 : BitVec 32 := Scf.iv c0_i32_57 c1_i32_58 k0_t2
  let c512_i32 : BitVec 32 := 512#32
  let v141 : BitVec 32 := Scalar.muli arg25 c512_i32
  let v142 : BitVec 32 := v141
  let v807 : BitVec 32 := Scalar.addi v142 c0_i32_295
  let v808 : Index := Scalar.indexCast v807
  ![96, v808.toNat]
def k0_off24 (k0_t2 : Fin k0_t2_loop.trips) (c0_i32_370 : BitVec 32) : Fin 2 → Nat :=
  let c128 : Index := 128#32
  let c0_i32_57 : BitVec 32 := 0#32
  let c1_i32_58 : BitVec 32 := 1#32
  let arg25 : BitVec 32 := Scf.iv c0_i32_57 c1_i32_58 k0_t2
  let c512_i32 : BitVec 32 := 512#32
  let v141 : BitVec 32 := Scalar.muli arg25 c512_i32
  let v142 : BitVec 32 := v141
  let v1023 : BitVec 32 := Scalar.addi v142 c0_i32_370
  let v1024 : Index := Scalar.indexCast v1023
  ![128, v1024.toNat]
def k0_off25 (k0_t2 : Fin k0_t2_loop.trips) (c0_i32_445 : BitVec 32) : Fin 2 → Nat :=
  let c160 : Index := 160#32
  let c0_i32_57 : BitVec 32 := 0#32
  let c1_i32_58 : BitVec 32 := 1#32
  let arg25 : BitVec 32 := Scf.iv c0_i32_57 c1_i32_58 k0_t2
  let c512_i32 : BitVec 32 := 512#32
  let v141 : BitVec 32 := Scalar.muli arg25 c512_i32
  let v142 : BitVec 32 := v141
  let v1239 : BitVec 32 := Scalar.addi v142 c0_i32_445
  let v1240 : Index := Scalar.indexCast v1239
  ![160, v1240.toNat]
def k0_off26 (k0_t2 : Fin k0_t2_loop.trips) (c0_i32_520 : BitVec 32) : Fin 2 → Nat :=
  let c192 : Index := 192#32
  let c0_i32_57 : BitVec 32 := 0#32
  let c1_i32_58 : BitVec 32 := 1#32
  let arg25 : BitVec 32 := Scf.iv c0_i32_57 c1_i32_58 k0_t2
  let c512_i32 : BitVec 32 := 512#32
  let v141 : BitVec 32 := Scalar.muli arg25 c512_i32
  let v142 : BitVec 32 := v141
  let v1455 : BitVec 32 := Scalar.addi v142 c0_i32_520
  let v1456 : Index := Scalar.indexCast v1455
  ![192, v1456.toNat]
def k0_off27 (k0_t2 : Fin k0_t2_loop.trips) (c0_i32_595 : BitVec 32) : Fin 2 → Nat :=
  let c224 : Index := 224#32
  let c0_i32_57 : BitVec 32 := 0#32
  let c1_i32_58 : BitVec 32 := 1#32
  let arg25 : BitVec 32 := Scf.iv c0_i32_57 c1_i32_58 k0_t2
  let c512_i32 : BitVec 32 := 512#32
  let v141 : BitVec 32 := Scalar.muli arg25 c512_i32
  let v142 : BitVec 32 := v141
  let v1671 : BitVec 32 := Scalar.addi v142 c0_i32_595
  let v1672 : Index := Scalar.indexCast v1671
  ![224, v1672.toNat]
def k0_off28 (k0_t2 : Fin k0_t2_loop.trips) (c0_i32_670 : BitVec 32) : Fin 2 → Nat :=
  let c0_671 : Index := 0#32
  let c0_i32_57 : BitVec 32 := 0#32
  let c1_i32_58 : BitVec 32 := 1#32
  let arg25 : BitVec 32 := Scf.iv c0_i32_57 c1_i32_58 k0_t2
  let c512_i32 : BitVec 32 := 512#32
  let v141 : BitVec 32 := Scalar.muli arg25 c512_i32
  let v142 : BitVec 32 := v141
  let v1887 : BitVec 32 := Scalar.addi v142 c0_i32_670
  let v1888 : Index := Scalar.indexCast v1887
  ![0, v1888.toNat]
def k0_cond4 (i : grid0.Coords) : BitVec 1 :=
  let arg0 : BitVec 32 := BitVec.ofNat 32 (i 0).val
  let c2_i32 : BitVec 32 := 2#32
  let v9 : BitVec 1 := Scalar.cmpi .sge arg0 c2_i32
  let c120_i32 : BitVec 32 := 120#32
  let v10 : BitVec 1 := Scalar.cmpi .slt arg0 c120_i32
  let v11 : BitVec 1 := Scalar.andi v9 v10
  let v12 : BitVec 32 := Scalar.extui v11
  let c0_i32_4 : BitVec 32 := 0#32
  let v13 : BitVec 1 := Scalar.cmpi .ne v12 c0_i32_4
  v13

def k0_mult7 (i : grid0.Coords) : BitVec 32 :=
  let arg0 : BitVec 32 := BitVec.ofNat 32 (i 0).val
  let c2_i32_8 : BitVec 32 := 2#32
  let v20 : BitVec 32 := Scalar.subi arg0 c2_i32_8
  let c4_i32_15 : BitVec 32 := 4#32
  let c0_i32_16 : BitVec 32 := 0#32
  let v38 : BitVec 1 := Scalar.cmpi .eq c4_i32_15 c0_i32_16
  let c1_i32_17 : BitVec 32 := 1#32
  let v39 : BitVec 32 := Scalar.select v38 c1_i32_17 c4_i32_15
  let v40 : BitVec 32 := Scalar.remsi v20 v39
  let c0_i32_19 : BitVec 32 := 0#32
  let v42 : BitVec 1 := Scalar.cmpi .slt v40 c0_i32_19
  let c0_i32_20 : BitVec 32 := 0#32
  let v43 : BitVec 1 := Scalar.cmpi .slt v39 c0_i32_20
  let v44 : BitVec 1 := Scalar.xori v42 v43
  let c0_i32_18 : BitVec 32 := 0#32
  let v41 : BitVec 1 := Scalar.cmpi .ne v40 c0_i32_18
  let v45 : BitVec 1 := Scalar.andi v44 v41
  let v46 : BitVec 32 := Scalar.addi v40 v39
  let v47 : BitVec 32 := Scalar.select v45 v46 v40
  let c256_i32 : BitVec 32 := 256#32
  let v48 : BitVec 32 := Scalar.muli v47 c256_i32
  v48
def k0_off29 (i : grid0.Coords) : Fin 2 → Nat :=
  let arg0 : BitVec 32 := BitVec.ofNat 32 (i 0).val
  let c2_i32_8 : BitVec 32 := 2#32
  let v20 : BitVec 32 := Scalar.subi arg0 c2_i32_8
  let c0_i32_9 : BitVec 32 := 0#32
  let v22 : BitVec 1 := Scalar.cmpi .sgt v20 c0_i32_9
  let v23 : BitVec 32 := Scalar.extui v22
  let c0_i32_10 : BitVec 32 := 0#32
  let v24 : BitVec 1 := Scalar.cmpi .slt v20 c0_i32_10
  let v25 : BitVec 32 := Scalar.extui v24
  let v26 : BitVec 32 := Scalar.subi v23 v25
  let c4_i32 : BitVec 32 := 4#32
  let c0_i32_11 : BitVec 32 := 0#32
  let v27 : BitVec 1 := Scalar.cmpi .sgt c4_i32 c0_i32_11
  let v28 : BitVec 32 := Scalar.extui v27
  let c0_i32_12 : BitVec 32 := 0#32
  let v29 : BitVec 1 := Scalar.cmpi .slt c4_i32 c0_i32_12
  let v30 : BitVec 32 := Scalar.extui v29
  let v31 : BitVec 32 := Scalar.subi v28 v30
  let v32 : BitVec 1 := Scalar.cmpi .ne v26 v31
  let v33 : BitVec 32 := Scalar.remsi v20 c4_i32
  let c0_i32_13 : BitVec 32 := 0#32
  let v34 : BitVec 1 := Scalar.cmpi .ne v33 c0_i32_13
  let v35 : BitVec 1 := Scalar.andi v32 v34
  let v21 : BitVec 32 := Scalar.divsi v20 c4_i32
  let c1_i32_14 : BitVec 32 := 1#32
  let v36 : BitVec 32 := Scalar.subi v21 c1_i32_14
  let v37 : BitVec 32 := Scalar.select v35 v36 v21
  let v50 : Index := Scalar.indexCast v37
  let c4_i32_15 : BitVec 32 := 4#32
  let c0_i32_16 : BitVec 32 := 0#32
  let v38 : BitVec 1 := Scalar.cmpi .eq c4_i32_15 c0_i32_16
  let c1_i32_17 : BitVec 32 := 1#32
  let v39 : BitVec 32 := Scalar.select v38 c1_i32_17 c4_i32_15
  let v40 : BitVec 32 := Scalar.remsi v20 v39
  let c0_i32_19 : BitVec 32 := 0#32
  let v42 : BitVec 1 := Scalar.cmpi .slt v40 c0_i32_19
  let c0_i32_20 : BitVec 32 := 0#32
  let v43 : BitVec 1 := Scalar.cmpi .slt v39 c0_i32_20
  let v44 : BitVec 1 := Scalar.xori v42 v43
  let c0_i32_18 : BitVec 32 := 0#32
  let v41 : BitVec 1 := Scalar.cmpi .ne v40 c0_i32_18
  let v45 : BitVec 1 := Scalar.andi v44 v41
  let v46 : BitVec 32 := Scalar.addi v40 v39
  let v47 : BitVec 32 := Scalar.select v45 v46 v40
  let c256_i32 : BitVec 32 := 256#32
  let v48 : BitVec 32 := Scalar.muli v47 c256_i32
  let v49 : BitVec 32 := v48
  let v51 : Index := Scalar.indexCast v49
  ![v50.toNat, v51.toNat]
def k0_mult8 (i : grid0.Coords) : BitVec 32 :=
  let arg0 : BitVec 32 := BitVec.ofNat 32 (i 0).val
  let c2_i32_8 : BitVec 32 := 2#32
  let v20 : BitVec 32 := Scalar.subi arg0 c2_i32_8
  let c4_i32_58 : BitVec 32 := 4#32
  let c0_i32_59 : BitVec 32 := 0#32
  let v195 : BitVec 1 := Scalar.cmpi .eq c4_i32_58 c0_i32_59
  let c1_i32_60 : BitVec 32 := 1#32
  let v196 : BitVec 32 := Scalar.select v195 c1_i32_60 c4_i32_58
  let v197 : BitVec 32 := Scalar.remsi v20 v196
  let c0_i32_62 : BitVec 32 := 0#32
  let v199 : BitVec 1 := Scalar.cmpi .slt v197 c0_i32_62
  let c0_i32_63 : BitVec 32 := 0#32
  let v200 : BitVec 1 := Scalar.cmpi .slt v196 c0_i32_63
  let v201 : BitVec 1 := Scalar.xori v199 v200
  let c0_i32_61 : BitVec 32 := 0#32
  let v198 : BitVec 1 := Scalar.cmpi .ne v197 c0_i32_61
  let v202 : BitVec 1 := Scalar.andi v201 v198
  let v203 : BitVec 32 := Scalar.addi v197 v196
  let v204 : BitVec 32 := Scalar.select v202 v203 v197
  let c256_i32_64 : BitVec 32 := 256#32
  let v205 : BitVec 32 := Scalar.muli v204 c256_i32_64
  v205
def k0_mult9 (i : grid0.Coords) : BitVec 32 :=
  let arg0 : BitVec 32 := BitVec.ofNat 32 (i 0).val
  let c4_i32_84 : BitVec 32 := 4#32
  let c0_i32_85 : BitVec 32 := 0#32
  let v247 : BitVec 1 := Scalar.cmpi .eq c4_i32_84 c0_i32_85
  let c1_i32_86 : BitVec 32 := 1#32
  let v248 : BitVec 32 := Scalar.select v247 c1_i32_86 c4_i32_84
  let v249 : BitVec 32 := Scalar.remsi arg0 v248
  let c0_i32_88 : BitVec 32 := 0#32
  let v251 : BitVec 1 := Scalar.cmpi .slt v249 c0_i32_88
  let c0_i32_89 : BitVec 32 := 0#32
  let v252 : BitVec 1 := Scalar.cmpi .slt v248 c0_i32_89
  let v253 : BitVec 1 := Scalar.xori v251 v252
  let c0_i32_87 : BitVec 32 := 0#32
  let v250 : BitVec 1 := Scalar.cmpi .ne v249 c0_i32_87
  let v254 : BitVec 1 := Scalar.andi v253 v250
  let v255 : BitVec 32 := Scalar.addi v249 v248
  let v256 : BitVec 32 := Scalar.select v254 v255 v249
  let c256_i32_90 : BitVec 32 := 256#32
  let v257 : BitVec 32 := Scalar.muli v256 c256_i32_90
  v257
def k0_off30 (i : grid0.Coords) : Fin 2 → Nat :=
  let arg0 : BitVec 32 := BitVec.ofNat 32 (i 0).val
  let c0_i32_78 : BitVec 32 := 0#32
  let v231 : BitVec 1 := Scalar.cmpi .sgt arg0 c0_i32_78
  let v232 : BitVec 32 := Scalar.extui v231
  let c0_i32_79 : BitVec 32 := 0#32
  let v233 : BitVec 1 := Scalar.cmpi .slt arg0 c0_i32_79
  let v234 : BitVec 32 := Scalar.extui v233
  let v235 : BitVec 32 := Scalar.subi v232 v234
  let c4_i32_77 : BitVec 32 := 4#32
  let c0_i32_80 : BitVec 32 := 0#32
  let v236 : BitVec 1 := Scalar.cmpi .sgt c4_i32_77 c0_i32_80
  let v237 : BitVec 32 := Scalar.extui v236
  let c0_i32_81 : BitVec 32 := 0#32
  let v238 : BitVec 1 := Scalar.cmpi .slt c4_i32_77 c0_i32_81
  let v239 : BitVec 32 := Scalar.extui v238
  let v240 : BitVec 32 := Scalar.subi v237 v239
  let v241 : BitVec 1 := Scalar.cmpi .ne v235 v240
  let v242 : BitVec 32 := Scalar.remsi arg0 c4_i32_77
  let c0_i32_82 : BitVec 32 := 0#32
  let v243 : BitVec 1 := Scalar.cmpi .ne v242 c0_i32_82
  let v244 : BitVec 1 := Scalar.andi v241 v243
  let v230 : BitVec 32 := Scalar.divsi arg0 c4_i32_77
  let c1_i32_83 : BitVec 32 := 1#32
  let v245 : BitVec 32 := Scalar.subi v230 c1_i32_83
  let v246 : BitVec 32 := Scalar.select v244 v245 v230
  let v259 : Index := Scalar.indexCast v246
  let c4_i32_84 : BitVec 32 := 4#32
  let c0_i32_85 : BitVec 32 := 0#32
  let v247 : BitVec 1 := Scalar.cmpi .eq c4_i32_84 c0_i32_85
  let c1_i32_86 : BitVec 32 := 1#32
  let v248 : BitVec 32 := Scalar.select v247 c1_i32_86 c4_i32_84
  let v249 : BitVec 32 := Scalar.remsi arg0 v248
  let c0_i32_88 : BitVec 32 := 0#32
  let v251 : BitVec 1 := Scalar.cmpi .slt v249 c0_i32_88
  let c0_i32_89 : BitVec 32 := 0#32
  let v252 : BitVec 1 := Scalar.cmpi .slt v248 c0_i32_89
  let v253 : BitVec 1 := Scalar.xori v251 v252
  let c0_i32_87 : BitVec 32 := 0#32
  let v250 : BitVec 1 := Scalar.cmpi .ne v249 c0_i32_87
  let v254 : BitVec 1 := Scalar.andi v253 v250
  let v255 : BitVec 32 := Scalar.addi v249 v248
  let v256 : BitVec 32 := Scalar.select v254 v255 v249
  let c256_i32_90 : BitVec 32 := 256#32
  let v257 : BitVec 32 := Scalar.muli v256 c256_i32_90
  let v258 : BitVec 32 := v257
  let v260 : Index := Scalar.indexCast v258
  ![v259.toNat, v260.toNat]
def k0_mult10 (i : grid0.Coords) : BitVec 32 :=
  let arg0 : BitVec 32 := BitVec.ofNat 32 (i 0).val
  let c4_i32_100 : BitVec 32 := 4#32
  let c0_i32_101 : BitVec 32 := 0#32
  let v291 : BitVec 1 := Scalar.cmpi .eq c4_i32_100 c0_i32_101
  let c1_i32_102 : BitVec 32 := 1#32
  let v292 : BitVec 32 := Scalar.select v291 c1_i32_102 c4_i32_100
  let v293 : BitVec 32 := Scalar.remsi arg0 v292
  let c0_i32_104 : BitVec 32 := 0#32
  let v295 : BitVec 1 := Scalar.cmpi .slt v293 c0_i32_104
  let c0_i32_105 : BitVec 32 := 0#32
  let v296 : BitVec 1 := Scalar.cmpi .slt v292 c0_i32_105
  let v297 : BitVec 1 := Scalar.xori v295 v296
  let c0_i32_103 : BitVec 32 := 0#32
  let v294 : BitVec 1 := Scalar.cmpi .ne v293 c0_i32_103
  let v298 : BitVec 1 := Scalar.andi v297 v294
  let v299 : BitVec 32 := Scalar.addi v293 v292
  let v300 : BitVec 32 := Scalar.select v298 v299 v293
  let c256_i32_106 : BitVec 32 := 256#32
  let v301 : BitVec 32 := Scalar.muli v300 c256_i32_106
  v301
@[reducible] def k0_t3_loop : Scf.Loop 32 :=
  let c0_i32_118 : BitVec 32 := 0#32
  let c10_i32 : BitVec 32 := 10#32
  let v330 : BitVec 32 := Scalar.addi c0_i32_118 c10_i32
  let c1_i32_119 : BitVec 32 := 1#32
  ⟨c0_i32_118, v330, c1_i32_119⟩
def k0_mult11 (k0_t3 : Fin k0_t3_loop.trips) : BitVec 32 :=
  let c0_i32_118 : BitVec 32 := 0#32
  let c1_i32_119 : BitVec 32 := 1#32
  let arg25 : BitVec 32 := Scf.iv c0_i32_118 c1_i32_119 k0_t3
  let c512_i32 : BitVec 32 := 512#32
  let v331 : BitVec 32 := Scalar.muli arg25 c512_i32
  v331
def k0_off31 (k0_t3 : Fin k0_t3_loop.trips) : Fin 2 → Nat :=
  let c0_121 : Index := 0#32
  let c0_i32_118 : BitVec 32 := 0#32
  let c1_i32_119 : BitVec 32 := 1#32
  let arg25 : BitVec 32 := Scf.iv c0_i32_118 c1_i32_119 k0_t3
  let c512_i32 : BitVec 32 := 512#32
  let v331 : BitVec 32 := Scalar.muli arg25 c512_i32
  let v332 : BitVec 32 := v331
  let v333 : Index := Scalar.indexCast v332
  ![0, v333.toNat]
def k0_off32 (k0_t3 : Fin k0_t3_loop.trips) : Fin 2 → Nat :=
  let c0_124 : Index := 0#32
  let c0_i32_118 : BitVec 32 := 0#32
  let c1_i32_119 : BitVec 32 := 1#32
  let arg25 : BitVec 32 := Scf.iv c0_i32_118 c1_i32_119 k0_t3
  let c512_i32 : BitVec 32 := 512#32
  let v331 : BitVec 32 := Scalar.muli arg25 c512_i32
  let v332 : BitVec 32 := v331
  let v337 : Index := Scalar.indexCast v332
  ![0, v337.toNat]
def k0_off33 (k0_t3 : Fin k0_t3_loop.trips) : Fin 2 → Nat :=
  let c0_129 : Index := 0#32
  let c0_i32_118 : BitVec 32 := 0#32
  let c1_i32_119 : BitVec 32 := 1#32
  let arg25 : BitVec 32 := Scf.iv c0_i32_118 c1_i32_119 k0_t3
  let c512_i32 : BitVec 32 := 512#32
  let v331 : BitVec 32 := Scalar.muli arg25 c512_i32
  let v332 : BitVec 32 := v331
  let v345 : Index := Scalar.indexCast v332
  ![0, v345.toNat]
def k0_off34 (k0_t3 : Fin k0_t3_loop.trips) (c0_i32_132 : BitVec 32) : Fin 2 → Nat :=
  let c0_133 : Index := 0#32
  let c0_i32_118 : BitVec 32 := 0#32
  let c1_i32_119 : BitVec 32 := 1#32
  let arg25 : BitVec 32 := Scf.iv c0_i32_118 c1_i32_119 k0_t3
  let c512_i32 : BitVec 32 := 512#32
  let v331 : BitVec 32 := Scalar.muli arg25 c512_i32
  let v332 : BitVec 32 := v331
  let v353 : BitVec 32 := Scalar.addi v332 c0_i32_132
  let v354 : Index := Scalar.indexCast v353
  ![0, v354.toNat]
def k0_off35 (k0_t3 : Fin k0_t3_loop.trips) (c0_i32_132 : BitVec 32) : Fin 2 → Nat :=
  let c0_146 : Index := 0#32
  let c0_i32_118 : BitVec 32 := 0#32
  let c1_i32_119 : BitVec 32 := 1#32
  let arg25 : BitVec 32 := Scf.iv c0_i32_118 c1_i32_119 k0_t3
  let c512_i32 : BitVec 32 := 512#32
  let v331 : BitVec 32 := Scalar.muli arg25 c512_i32
  let v332 : BitVec 32 := v331
  let v353 : BitVec 32 := Scalar.addi v332 c0_i32_132
  let v379 : Index := Scalar.indexCast v353
  ![0, v379.toNat]
def k0_off36 (k0_t3 : Fin k0_t3_loop.trips) (c0_i32_231 : BitVec 32) : Fin 2 → Nat :=
  let c32 : Index := 32#32
  let c0_i32_118 : BitVec 32 := 0#32
  let c1_i32_119 : BitVec 32 := 1#32
  let arg25 : BitVec 32 := Scf.iv c0_i32_118 c1_i32_119 k0_t3
  let c512_i32 : BitVec 32 := 512#32
  let v331 : BitVec 32 := Scalar.muli arg25 c512_i32
  let v332 : BitVec 32 := v331
  let v609 : BitVec 32 := Scalar.addi v332 c0_i32_231
  let v610 : Index := Scalar.indexCast v609
  ![32, v610.toNat]
def k0_off37 (k0_t3 : Fin k0_t3_loop.trips) (c0_i32_330 : BitVec 32) : Fin 2 → Nat :=
  let c64 : Index := 64#32
  let c0_i32_118 : BitVec 32 := 0#32
  let c1_i32_119 : BitVec 32 := 1#32
  let arg25 : BitVec 32 := Scf.iv c0_i32_118 c1_i32_119 k0_t3
  let c512_i32 : BitVec 32 := 512#32
  let v331 : BitVec 32 := Scalar.muli arg25 c512_i32
  let v332 : BitVec 32 := v331
  let v869 : BitVec 32 := Scalar.addi v332 c0_i32_330
  let v870 : Index := Scalar.indexCast v869
  ![64, v870.toNat]
def k0_off38 (k0_t3 : Fin k0_t3_loop.trips) (c0_i32_429 : BitVec 32) : Fin 2 → Nat :=
  let c96 : Index := 96#32
  let c0_i32_118 : BitVec 32 := 0#32
  let c1_i32_119 : BitVec 32 := 1#32
  let arg25 : BitVec 32 := Scf.iv c0_i32_118 c1_i32_119 k0_t3
  let c512_i32 : BitVec 32 := 512#32
  let v331 : BitVec 32 := Scalar.muli arg25 c512_i32
  let v332 : BitVec 32 := v331
  let v1129 : BitVec 32 := Scalar.addi v332 c0_i32_429
  let v1130 : Index := Scalar.indexCast v1129
  ![96, v1130.toNat]
def k0_off39 (k0_t3 : Fin k0_t3_loop.trips) (c0_i32_528 : BitVec 32) : Fin 2 → Nat :=
  let c128 : Index := 128#32
  let c0_i32_118 : BitVec 32 := 0#32
  let c1_i32_119 : BitVec 32 := 1#32
  let arg25 : BitVec 32 := Scf.iv c0_i32_118 c1_i32_119 k0_t3
  let c512_i32 : BitVec 32 := 512#32
  let v331 : BitVec 32 := Scalar.muli arg25 c512_i32
  let v332 : BitVec 32 := v331
  let v1389 : BitVec 32 := Scalar.addi v332 c0_i32_528
  let v1390 : Index := Scalar.indexCast v1389
  ![128, v1390.toNat]
def k0_off40 (k0_t3 : Fin k0_t3_loop.trips) (c0_i32_627 : BitVec 32) : Fin 2 → Nat :=
  let c160 : Index := 160#32
  let c0_i32_118 : BitVec 32 := 0#32
  let c1_i32_119 : BitVec 32 := 1#32
  let arg25 : BitVec 32 := Scf.iv c0_i32_118 c1_i32_119 k0_t3
  let c512_i32 : BitVec 32 := 512#32
  let v331 : BitVec 32 := Scalar.muli arg25 c512_i32
  let v332 : BitVec 32 := v331
  let v1649 : BitVec 32 := Scalar.addi v332 c0_i32_627
  let v1650 : Index := Scalar.indexCast v1649
  ![160, v1650.toNat]
def k0_off41 (k0_t3 : Fin k0_t3_loop.trips) (c0_i32_726 : BitVec 32) : Fin 2 → Nat :=
  let c192 : Index := 192#32
  let c0_i32_118 : BitVec 32 := 0#32
  let c1_i32_119 : BitVec 32 := 1#32
  let arg25 : BitVec 32 := Scf.iv c0_i32_118 c1_i32_119 k0_t3
  let c512_i32 : BitVec 32 := 512#32
  let v331 : BitVec 32 := Scalar.muli arg25 c512_i32
  let v332 : BitVec 32 := v331
  let v1909 : BitVec 32 := Scalar.addi v332 c0_i32_726
  let v1910 : Index := Scalar.indexCast v1909
  ![192, v1910.toNat]
def k0_off42 (k0_t3 : Fin k0_t3_loop.trips) (c0_i32_825 : BitVec 32) : Fin 2 → Nat :=
  let c224 : Index := 224#32
  let c0_i32_118 : BitVec 32 := 0#32
  let c1_i32_119 : BitVec 32 := 1#32
  let arg25 : BitVec 32 := Scf.iv c0_i32_118 c1_i32_119 k0_t3
  let c512_i32 : BitVec 32 := 512#32
  let v331 : BitVec 32 := Scalar.muli arg25 c512_i32
  let v332 : BitVec 32 := v331
  let v2169 : BitVec 32 := Scalar.addi v332 c0_i32_825
  let v2170 : Index := Scalar.indexCast v2169
  ![224, v2170.toNat]
def k0_off43 (k0_t3 : Fin k0_t3_loop.trips) (c0_i32_924 : BitVec 32) : Fin 2 → Nat :=
  let c0_925 : Index := 0#32
  let c0_i32_118 : BitVec 32 := 0#32
  let c1_i32_119 : BitVec 32 := 1#32
  let arg25 : BitVec 32 := Scf.iv c0_i32_118 c1_i32_119 k0_t3
  let c512_i32 : BitVec 32 := 512#32
  let v331 : BitVec 32 := Scalar.muli arg25 c512_i32
  let v332 : BitVec 32 := v331
  let v2429 : BitVec 32 := Scalar.addi v332 c0_i32_924
  let v2430 : Index := Scalar.indexCast v2429
  ![0, v2430.toNat]
def k0_cond5 (i : grid0.Coords) : BitVec 1 :=
  let arg0 : BitVec 32 := BitVec.ofNat 32 (i 0).val
  let c120_i32_5 : BitVec 32 := 120#32
  let v14 : BitVec 1 := Scalar.cmpi .eq arg0 c120_i32_5
  let v15 : BitVec 32 := Scalar.extui v14
  let c0_i32_6 : BitVec 32 := 0#32
  let v16 : BitVec 1 := Scalar.cmpi .ne v15 c0_i32_6
  v16

def k0_mult12 (i : grid0.Coords) : BitVec 32 :=
  let arg0 : BitVec 32 := BitVec.ofNat 32 (i 0).val
  let c2_i32_8 : BitVec 32 := 2#32
  let v20 : BitVec 32 := Scalar.subi arg0 c2_i32_8
  let c4_i32_15 : BitVec 32 := 4#32
  let c0_i32_16 : BitVec 32 := 0#32
  let v38 : BitVec 1 := Scalar.cmpi .eq c4_i32_15 c0_i32_16
  let c1_i32_17 : BitVec 32 := 1#32
  let v39 : BitVec 32 := Scalar.select v38 c1_i32_17 c4_i32_15
  let v40 : BitVec 32 := Scalar.remsi v20 v39
  let c0_i32_19 : BitVec 32 := 0#32
  let v42 : BitVec 1 := Scalar.cmpi .slt v40 c0_i32_19
  let c0_i32_20 : BitVec 32 := 0#32
  let v43 : BitVec 1 := Scalar.cmpi .slt v39 c0_i32_20
  let v44 : BitVec 1 := Scalar.xori v42 v43
  let c0_i32_18 : BitVec 32 := 0#32
  let v41 : BitVec 1 := Scalar.cmpi .ne v40 c0_i32_18
  let v45 : BitVec 1 := Scalar.andi v44 v41
  let v46 : BitVec 32 := Scalar.addi v40 v39
  let v47 : BitVec 32 := Scalar.select v45 v46 v40
  let c256_i32 : BitVec 32 := 256#32
  let v48 : BitVec 32 := Scalar.muli v47 c256_i32
  v48
def k0_off44 (i : grid0.Coords) : Fin 2 → Nat :=
  let arg0 : BitVec 32 := BitVec.ofNat 32 (i 0).val
  let c2_i32_8 : BitVec 32 := 2#32
  let v20 : BitVec 32 := Scalar.subi arg0 c2_i32_8
  let c0_i32_9 : BitVec 32 := 0#32
  let v22 : BitVec 1 := Scalar.cmpi .sgt v20 c0_i32_9
  let v23 : BitVec 32 := Scalar.extui v22
  let c0_i32_10 : BitVec 32 := 0#32
  let v24 : BitVec 1 := Scalar.cmpi .slt v20 c0_i32_10
  let v25 : BitVec 32 := Scalar.extui v24
  let v26 : BitVec 32 := Scalar.subi v23 v25
  let c4_i32 : BitVec 32 := 4#32
  let c0_i32_11 : BitVec 32 := 0#32
  let v27 : BitVec 1 := Scalar.cmpi .sgt c4_i32 c0_i32_11
  let v28 : BitVec 32 := Scalar.extui v27
  let c0_i32_12 : BitVec 32 := 0#32
  let v29 : BitVec 1 := Scalar.cmpi .slt c4_i32 c0_i32_12
  let v30 : BitVec 32 := Scalar.extui v29
  let v31 : BitVec 32 := Scalar.subi v28 v30
  let v32 : BitVec 1 := Scalar.cmpi .ne v26 v31
  let v33 : BitVec 32 := Scalar.remsi v20 c4_i32
  let c0_i32_13 : BitVec 32 := 0#32
  let v34 : BitVec 1 := Scalar.cmpi .ne v33 c0_i32_13
  let v35 : BitVec 1 := Scalar.andi v32 v34
  let v21 : BitVec 32 := Scalar.divsi v20 c4_i32
  let c1_i32_14 : BitVec 32 := 1#32
  let v36 : BitVec 32 := Scalar.subi v21 c1_i32_14
  let v37 : BitVec 32 := Scalar.select v35 v36 v21
  let v50 : Index := Scalar.indexCast v37
  let c4_i32_15 : BitVec 32 := 4#32
  let c0_i32_16 : BitVec 32 := 0#32
  let v38 : BitVec 1 := Scalar.cmpi .eq c4_i32_15 c0_i32_16
  let c1_i32_17 : BitVec 32 := 1#32
  let v39 : BitVec 32 := Scalar.select v38 c1_i32_17 c4_i32_15
  let v40 : BitVec 32 := Scalar.remsi v20 v39
  let c0_i32_19 : BitVec 32 := 0#32
  let v42 : BitVec 1 := Scalar.cmpi .slt v40 c0_i32_19
  let c0_i32_20 : BitVec 32 := 0#32
  let v43 : BitVec 1 := Scalar.cmpi .slt v39 c0_i32_20
  let v44 : BitVec 1 := Scalar.xori v42 v43
  let c0_i32_18 : BitVec 32 := 0#32
  let v41 : BitVec 1 := Scalar.cmpi .ne v40 c0_i32_18
  let v45 : BitVec 1 := Scalar.andi v44 v41
  let v46 : BitVec 32 := Scalar.addi v40 v39
  let v47 : BitVec 32 := Scalar.select v45 v46 v40
  let c256_i32 : BitVec 32 := 256#32
  let v48 : BitVec 32 := Scalar.muli v47 c256_i32
  let v49 : BitVec 32 := v48
  let v51 : Index := Scalar.indexCast v49
  ![v50.toNat, v51.toNat]
def k0_mult13 (i : grid0.Coords) : BitVec 32 :=
  let arg0 : BitVec 32 := BitVec.ofNat 32 (i 0).val
  let c2_i32_8 : BitVec 32 := 2#32
  let v20 : BitVec 32 := Scalar.subi arg0 c2_i32_8
  let c4_i32_58 : BitVec 32 := 4#32
  let c0_i32_59 : BitVec 32 := 0#32
  let v195 : BitVec 1 := Scalar.cmpi .eq c4_i32_58 c0_i32_59
  let c1_i32_60 : BitVec 32 := 1#32
  let v196 : BitVec 32 := Scalar.select v195 c1_i32_60 c4_i32_58
  let v197 : BitVec 32 := Scalar.remsi v20 v196
  let c0_i32_62 : BitVec 32 := 0#32
  let v199 : BitVec 1 := Scalar.cmpi .slt v197 c0_i32_62
  let c0_i32_63 : BitVec 32 := 0#32
  let v200 : BitVec 1 := Scalar.cmpi .slt v196 c0_i32_63
  let v201 : BitVec 1 := Scalar.xori v199 v200
  let c0_i32_61 : BitVec 32 := 0#32
  let v198 : BitVec 1 := Scalar.cmpi .ne v197 c0_i32_61
  let v202 : BitVec 1 := Scalar.andi v201 v198
  let v203 : BitVec 32 := Scalar.addi v197 v196
  let v204 : BitVec 32 := Scalar.select v202 v203 v197
  let c256_i32_64 : BitVec 32 := 256#32
  let v205 : BitVec 32 := Scalar.muli v204 c256_i32_64
  v205
@[reducible] def k0_t4_loop : Scf.Loop 32 :=
  let c0_i32_80 : BitVec 32 := 0#32
  let c10_i32 : BitVec 32 := 10#32
  let v234 : BitVec 32 := Scalar.addi c0_i32_80 c10_i32
  let c1_i32_81 : BitVec 32 := 1#32
  ⟨c0_i32_80, v234, c1_i32_81⟩
def k0_mult14 (k0_t4 : Fin k0_t4_loop.trips) : BitVec 32 :=
  let c0_i32_80 : BitVec 32 := 0#32
  let c1_i32_81 : BitVec 32 := 1#32
  let arg25 : BitVec 32 := Scf.iv c0_i32_80 c1_i32_81 k0_t4
  let c512_i32 : BitVec 32 := 512#32
  let v235 : BitVec 32 := Scalar.muli arg25 c512_i32
  v235
def k0_off45 (k0_t4 : Fin k0_t4_loop.trips) (c0_i32_83 : BitVec 32) : Fin 2 → Nat :=
  let c0_84 : Index := 0#32
  let c0_i32_80 : BitVec 32 := 0#32
  let c1_i32_81 : BitVec 32 := 1#32
  let arg25 : BitVec 32 := Scf.iv c0_i32_80 c1_i32_81 k0_t4
  let c512_i32 : BitVec 32 := 512#32
  let v235 : BitVec 32 := Scalar.muli arg25 c512_i32
  let v236 : BitVec 32 := v235
  let v237 : BitVec 32 := Scalar.addi v236 c0_i32_83
  let v238 : Index := Scalar.indexCast v237
  ![0, v238.toNat]
def k0_off46 (k0_t4 : Fin k0_t4_loop.trips) (c0_i32_142 : BitVec 32) : Fin 2 → Nat :=
  let c32 : Index := 32#32
  let c0_i32_80 : BitVec 32 := 0#32
  let c1_i32_81 : BitVec 32 := 1#32
  let arg25 : BitVec 32 := Scf.iv c0_i32_80 c1_i32_81 k0_t4
  let c512_i32 : BitVec 32 := 512#32
  let v235 : BitVec 32 := Scalar.muli arg25 c512_i32
  let v236 : BitVec 32 := v235
  let v349 : BitVec 32 := Scalar.addi v236 c0_i32_142
  let v350 : Index := Scalar.indexCast v349
  ![32, v350.toNat]
def k0_off47 (k0_t4 : Fin k0_t4_loop.trips) (c0_i32_201 : BitVec 32) : Fin 2 → Nat :=
  let c64 : Index := 64#32
  let c0_i32_80 : BitVec 32 := 0#32
  let c1_i32_81 : BitVec 32 := 1#32
  let arg25 : BitVec 32 := Scf.iv c0_i32_80 c1_i32_81 k0_t4
  let c512_i32 : BitVec 32 := 512#32
  let v235 : BitVec 32 := Scalar.muli arg25 c512_i32
  let v236 : BitVec 32 := v235
  let v461 : BitVec 32 := Scalar.addi v236 c0_i32_201
  let v462 : Index := Scalar.indexCast v461
  ![64, v462.toNat]
def k0_off48 (k0_t4 : Fin k0_t4_loop.trips) (c0_i32_260 : BitVec 32) : Fin 2 → Nat :=
  let c96 : Index := 96#32
  let c0_i32_80 : BitVec 32 := 0#32
  let c1_i32_81 : BitVec 32 := 1#32
  let arg25 : BitVec 32 := Scf.iv c0_i32_80 c1_i32_81 k0_t4
  let c512_i32 : BitVec 32 := 512#32
  let v235 : BitVec 32 := Scalar.muli arg25 c512_i32
  let v236 : BitVec 32 := v235
  let v573 : BitVec 32 := Scalar.addi v236 c0_i32_260
  let v574 : Index := Scalar.indexCast v573
  ![96, v574.toNat]
def k0_off49 (k0_t4 : Fin k0_t4_loop.trips) (c0_i32_319 : BitVec 32) : Fin 2 → Nat :=
  let c128 : Index := 128#32
  let c0_i32_80 : BitVec 32 := 0#32
  let c1_i32_81 : BitVec 32 := 1#32
  let arg25 : BitVec 32 := Scf.iv c0_i32_80 c1_i32_81 k0_t4
  let c512_i32 : BitVec 32 := 512#32
  let v235 : BitVec 32 := Scalar.muli arg25 c512_i32
  let v236 : BitVec 32 := v235
  let v685 : BitVec 32 := Scalar.addi v236 c0_i32_319
  let v686 : Index := Scalar.indexCast v685
  ![128, v686.toNat]
def k0_off50 (k0_t4 : Fin k0_t4_loop.trips) (c0_i32_378 : BitVec 32) : Fin 2 → Nat :=
  let c160 : Index := 160#32
  let c0_i32_80 : BitVec 32 := 0#32
  let c1_i32_81 : BitVec 32 := 1#32
  let arg25 : BitVec 32 := Scf.iv c0_i32_80 c1_i32_81 k0_t4
  let c512_i32 : BitVec 32 := 512#32
  let v235 : BitVec 32 := Scalar.muli arg25 c512_i32
  let v236 : BitVec 32 := v235
  let v797 : BitVec 32 := Scalar.addi v236 c0_i32_378
  let v798 : Index := Scalar.indexCast v797
  ![160, v798.toNat]
def k0_off51 (k0_t4 : Fin k0_t4_loop.trips) (c0_i32_437 : BitVec 32) : Fin 2 → Nat :=
  let c192 : Index := 192#32
  let c0_i32_80 : BitVec 32 := 0#32
  let c1_i32_81 : BitVec 32 := 1#32
  let arg25 : BitVec 32 := Scf.iv c0_i32_80 c1_i32_81 k0_t4
  let c512_i32 : BitVec 32 := 512#32
  let v235 : BitVec 32 := Scalar.muli arg25 c512_i32
  let v236 : BitVec 32 := v235
  let v909 : BitVec 32 := Scalar.addi v236 c0_i32_437
  let v910 : Index := Scalar.indexCast v909
  ![192, v910.toNat]
def k0_off52 (k0_t4 : Fin k0_t4_loop.trips) (c0_i32_496 : BitVec 32) : Fin 2 → Nat :=
  let c224 : Index := 224#32
  let c0_i32_80 : BitVec 32 := 0#32
  let c1_i32_81 : BitVec 32 := 1#32
  let arg25 : BitVec 32 := Scf.iv c0_i32_80 c1_i32_81 k0_t4
  let c512_i32 : BitVec 32 := 512#32
  let v235 : BitVec 32 := Scalar.muli arg25 c512_i32
  let v236 : BitVec 32 := v235
  let v1021 : BitVec 32 := Scalar.addi v236 c0_i32_496
  let v1022 : Index := Scalar.indexCast v1021
  ![224, v1022.toNat]
def k0_cond6 (i : grid0.Coords) : BitVec 1 :=
  let arg0 : BitVec 32 := BitVec.ofNat 32 (i 0).val
  let c121_i32 : BitVec 32 := 121#32
  let v17 : BitVec 1 := Scalar.cmpi .eq arg0 c121_i32
  let v18 : BitVec 32 := Scalar.extui v17
  let c0_i32_7 : BitVec 32 := 0#32
  let v19 : BitVec 1 := Scalar.cmpi .ne v18 c0_i32_7
  v19

def k0_mult15 (i : grid0.Coords) : BitVec 32 :=
  let arg0 : BitVec 32 := BitVec.ofNat 32 (i 0).val
  let c2_i32_8 : BitVec 32 := 2#32
  let v20 : BitVec 32 := Scalar.subi arg0 c2_i32_8
  let c4_i32_15 : BitVec 32 := 4#32
  let c0_i32_16 : BitVec 32 := 0#32
  let v38 : BitVec 1 := Scalar.cmpi .eq c4_i32_15 c0_i32_16
  let c1_i32_17 : BitVec 32 := 1#32
  let v39 : BitVec 32 := Scalar.select v38 c1_i32_17 c4_i32_15
  let v40 : BitVec 32 := Scalar.remsi v20 v39
  let c0_i32_19 : BitVec 32 := 0#32
  let v42 : BitVec 1 := Scalar.cmpi .slt v40 c0_i32_19
  let c0_i32_20 : BitVec 32 := 0#32
  let v43 : BitVec 1 := Scalar.cmpi .slt v39 c0_i32_20
  let v44 : BitVec 1 := Scalar.xori v42 v43
  let c0_i32_18 : BitVec 32 := 0#32
  let v41 : BitVec 1 := Scalar.cmpi .ne v40 c0_i32_18
  let v45 : BitVec 1 := Scalar.andi v44 v41
  let v46 : BitVec 32 := Scalar.addi v40 v39
  let v47 : BitVec 32 := Scalar.select v45 v46 v40
  let c256_i32 : BitVec 32 := 256#32
  let v48 : BitVec 32 := Scalar.muli v47 c256_i32
  v48
def k0_off53 (i : grid0.Coords) : Fin 2 → Nat :=
  let arg0 : BitVec 32 := BitVec.ofNat 32 (i 0).val
  let c2_i32_8 : BitVec 32 := 2#32
  let v20 : BitVec 32 := Scalar.subi arg0 c2_i32_8
  let c0_i32_9 : BitVec 32 := 0#32
  let v22 : BitVec 1 := Scalar.cmpi .sgt v20 c0_i32_9
  let v23 : BitVec 32 := Scalar.extui v22
  let c0_i32_10 : BitVec 32 := 0#32
  let v24 : BitVec 1 := Scalar.cmpi .slt v20 c0_i32_10
  let v25 : BitVec 32 := Scalar.extui v24
  let v26 : BitVec 32 := Scalar.subi v23 v25
  let c4_i32 : BitVec 32 := 4#32
  let c0_i32_11 : BitVec 32 := 0#32
  let v27 : BitVec 1 := Scalar.cmpi .sgt c4_i32 c0_i32_11
  let v28 : BitVec 32 := Scalar.extui v27
  let c0_i32_12 : BitVec 32 := 0#32
  let v29 : BitVec 1 := Scalar.cmpi .slt c4_i32 c0_i32_12
  let v30 : BitVec 32 := Scalar.extui v29
  let v31 : BitVec 32 := Scalar.subi v28 v30
  let v32 : BitVec 1 := Scalar.cmpi .ne v26 v31
  let v33 : BitVec 32 := Scalar.remsi v20 c4_i32
  let c0_i32_13 : BitVec 32 := 0#32
  let v34 : BitVec 1 := Scalar.cmpi .ne v33 c0_i32_13
  let v35 : BitVec 1 := Scalar.andi v32 v34
  let v21 : BitVec 32 := Scalar.divsi v20 c4_i32
  let c1_i32_14 : BitVec 32 := 1#32
  let v36 : BitVec 32 := Scalar.subi v21 c1_i32_14
  let v37 : BitVec 32 := Scalar.select v35 v36 v21
  let v50 : Index := Scalar.indexCast v37
  let c4_i32_15 : BitVec 32 := 4#32
  let c0_i32_16 : BitVec 32 := 0#32
  let v38 : BitVec 1 := Scalar.cmpi .eq c4_i32_15 c0_i32_16
  let c1_i32_17 : BitVec 32 := 1#32
  let v39 : BitVec 32 := Scalar.select v38 c1_i32_17 c4_i32_15
  let v40 : BitVec 32 := Scalar.remsi v20 v39
  let c0_i32_19 : BitVec 32 := 0#32
  let v42 : BitVec 1 := Scalar.cmpi .slt v40 c0_i32_19
  let c0_i32_20 : BitVec 32 := 0#32
  let v43 : BitVec 1 := Scalar.cmpi .slt v39 c0_i32_20
  let v44 : BitVec 1 := Scalar.xori v42 v43
  let c0_i32_18 : BitVec 32 := 0#32
  let v41 : BitVec 1 := Scalar.cmpi .ne v40 c0_i32_18
  let v45 : BitVec 1 := Scalar.andi v44 v41
  let v46 : BitVec 32 := Scalar.addi v40 v39
  let v47 : BitVec 32 := Scalar.select v45 v46 v40
  let c256_i32 : BitVec 32 := 256#32
  let v48 : BitVec 32 := Scalar.muli v47 c256_i32
  let v49 : BitVec 32 := v48
  let v51 : Index := Scalar.indexCast v49
  ![v50.toNat, v51.toNat]
def k0_mult16 (i : grid0.Coords) : BitVec 32 :=
  let arg0 : BitVec 32 := BitVec.ofNat 32 (i 0).val
  let c2_i32_8 : BitVec 32 := 2#32
  let v20 : BitVec 32 := Scalar.subi arg0 c2_i32_8
  let c4_i32_58 : BitVec 32 := 4#32
  let c0_i32_59 : BitVec 32 := 0#32
  let v195 : BitVec 1 := Scalar.cmpi .eq c4_i32_58 c0_i32_59
  let c1_i32_60 : BitVec 32 := 1#32
  let v196 : BitVec 32 := Scalar.select v195 c1_i32_60 c4_i32_58
  let v197 : BitVec 32 := Scalar.remsi v20 v196
  let c0_i32_62 : BitVec 32 := 0#32
  let v199 : BitVec 1 := Scalar.cmpi .slt v197 c0_i32_62
  let c0_i32_63 : BitVec 32 := 0#32
  let v200 : BitVec 1 := Scalar.cmpi .slt v196 c0_i32_63
  let v201 : BitVec 1 := Scalar.xori v199 v200
  let c0_i32_61 : BitVec 32 := 0#32
  let v198 : BitVec 1 := Scalar.cmpi .ne v197 c0_i32_61
  let v202 : BitVec 1 := Scalar.andi v201 v198
  let v203 : BitVec 32 := Scalar.addi v197 v196
  let v204 : BitVec 32 := Scalar.select v202 v203 v197
  let c256_i32_64 : BitVec 32 := 256#32
  let v205 : BitVec 32 := Scalar.muli v204 c256_i32_64
  v205
@[reducible] def k0_t5_loop : Scf.Loop 32 :=
  let c0_i32_65 : BitVec 32 := 0#32
  let c10_i32 : BitVec 32 := 10#32
  let v210 : BitVec 32 := Scalar.addi c0_i32_65 c10_i32
  let c1_i32_66 : BitVec 32 := 1#32
  ⟨c0_i32_65, v210, c1_i32_66⟩
def k0_mult17 (k0_t5 : Fin k0_t5_loop.trips) : BitVec 32 :=
  let c0_i32_65 : BitVec 32 := 0#32
  let c1_i32_66 : BitVec 32 := 1#32
  let arg25 : BitVec 32 := Scf.iv c0_i32_65 c1_i32_66 k0_t5
  let c512_i32 : BitVec 32 := 512#32
  let v217 : BitVec 32 := Scalar.muli arg25 c512_i32
  v217
def k0_off54 (k0_t5 : Fin k0_t5_loop.trips) (c0_i32_77 : BitVec 32) : Fin 2 → Nat :=
  let c0_78 : Index := 0#32
  let c0_i32_65 : BitVec 32 := 0#32
  let c1_i32_66 : BitVec 32 := 1#32
  let arg25 : BitVec 32 := Scf.iv c0_i32_65 c1_i32_66 k0_t5
  let c512_i32 : BitVec 32 := 512#32
  let v217 : BitVec 32 := Scalar.muli arg25 c512_i32
  let v218 : BitVec 32 := v217
  let v219 : BitVec 32 := Scalar.addi v218 c0_i32_77
  let v220 : Index := Scalar.indexCast v219
  ![0, v220.toNat]
def k0_off55 (k0_t5 : Fin k0_t5_loop.trips) (c0_i32_104 : BitVec 32) : Fin 2 → Nat :=
  let c32 : Index := 32#32
  let c0_i32_65 : BitVec 32 := 0#32
  let c1_i32_66 : BitVec 32 := 1#32
  let arg25 : BitVec 32 := Scf.iv c0_i32_65 c1_i32_66 k0_t5
  let c512_i32 : BitVec 32 := 512#32
  let v217 : BitVec 32 := Scalar.muli arg25 c512_i32
  let v218 : BitVec 32 := v217
  let v267 : BitVec 32 := Scalar.addi v218 c0_i32_104
  let v268 : Index := Scalar.indexCast v267
  ![32, v268.toNat]
def k0_off56 (k0_t5 : Fin k0_t5_loop.trips) (c0_i32_131 : BitVec 32) : Fin 2 → Nat :=
  let c64 : Index := 64#32
  let c0_i32_65 : BitVec 32 := 0#32
  let c1_i32_66 : BitVec 32 := 1#32
  let arg25 : BitVec 32 := Scf.iv c0_i32_65 c1_i32_66 k0_t5
  let c512_i32 : BitVec 32 := 512#32
  let v217 : BitVec 32 := Scalar.muli arg25 c512_i32
  let v218 : BitVec 32 := v217
  let v315 : BitVec 32 := Scalar.addi v218 c0_i32_131
  let v316 : Index := Scalar.indexCast v315
  ![64, v316.toNat]
def k0_off57 (k0_t5 : Fin k0_t5_loop.trips) (c0_i32_158 : BitVec 32) : Fin 2 → Nat :=
  let c96 : Index := 96#32
  let c0_i32_65 : BitVec 32 := 0#32
  let c1_i32_66 : BitVec 32 := 1#32
  let arg25 : BitVec 32 := Scf.iv c0_i32_65 c1_i32_66 k0_t5
  let c512_i32 : BitVec 32 := 512#32
  let v217 : BitVec 32 := Scalar.muli arg25 c512_i32
  let v218 : BitVec 32 := v217
  let v363 : BitVec 32 := Scalar.addi v218 c0_i32_158
  let v364 : Index := Scalar.indexCast v363
  ![96, v364.toNat]
def k0_off58 (k0_t5 : Fin k0_t5_loop.trips) (c0_i32_185 : BitVec 32) : Fin 2 → Nat :=
  let c128 : Index := 128#32
  let c0_i32_65 : BitVec 32 := 0#32
  let c1_i32_66 : BitVec 32 := 1#32
  let arg25 : BitVec 32 := Scf.iv c0_i32_65 c1_i32_66 k0_t5
  let c512_i32 : BitVec 32 := 512#32
  let v217 : BitVec 32 := Scalar.muli arg25 c512_i32
  let v218 : BitVec 32 := v217
  let v411 : BitVec 32 := Scalar.addi v218 c0_i32_185
  let v412 : Index := Scalar.indexCast v411
  ![128, v412.toNat]
def k0_off59 (k0_t5 : Fin k0_t5_loop.trips) (c0_i32_212 : BitVec 32) : Fin 2 → Nat :=
  let c160 : Index := 160#32
  let c0_i32_65 : BitVec 32 := 0#32
  let c1_i32_66 : BitVec 32 := 1#32
  let arg25 : BitVec 32 := Scf.iv c0_i32_65 c1_i32_66 k0_t5
  let c512_i32 : BitVec 32 := 512#32
  let v217 : BitVec 32 := Scalar.muli arg25 c512_i32
  let v218 : BitVec 32 := v217
  let v459 : BitVec 32 := Scalar.addi v218 c0_i32_212
  let v460 : Index := Scalar.indexCast v459
  ![160, v460.toNat]
def k0_off60 (k0_t5 : Fin k0_t5_loop.trips) (c0_i32_239 : BitVec 32) : Fin 2 → Nat :=
  let c192 : Index := 192#32
  let c0_i32_65 : BitVec 32 := 0#32
  let c1_i32_66 : BitVec 32 := 1#32
  let arg25 : BitVec 32 := Scf.iv c0_i32_65 c1_i32_66 k0_t5
  let c512_i32 : BitVec 32 := 512#32
  let v217 : BitVec 32 := Scalar.muli arg25 c512_i32
  let v218 : BitVec 32 := v217
  let v507 : BitVec 32 := Scalar.addi v218 c0_i32_239
  let v508 : Index := Scalar.indexCast v507
  ![192, v508.toNat]
def k0_off61 (k0_t5 : Fin k0_t5_loop.trips) (c0_i32_266 : BitVec 32) : Fin 2 → Nat :=
  let c224 : Index := 224#32
  let c0_i32_65 : BitVec 32 := 0#32
  let c1_i32_66 : BitVec 32 := 1#32
  let arg25 : BitVec 32 := Scf.iv c0_i32_65 c1_i32_66 k0_t5
  let c512_i32 : BitVec 32 := 512#32
  let v217 : BitVec 32 := Scalar.muli arg25 c512_i32
  let v218 : BitVec 32 := v217
  let v555 : BitVec 32 := Scalar.addi v218 c0_i32_266
  let v556 : Index := Scalar.indexCast v555
  ![224, v556.toNat]
def cc0_transform_0 (i : grid0.Coords) : Fin 2 → Nat :=
  let arg0 : BitVec 32 := BitVec.ofNat 32 (i 0).val
  let c119_i32 : BitVec 32 := 119#32
  let v0 : BitVec 32 := Scalar.minsi arg0 c119_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c119_i32 : BitVec 32 := 119#32
  let v0 : BitVec 32 := Scalar.minsi arg0 c119_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S30x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S30x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x5120 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S30x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "inv_d" => some ((1 / 5120 : ℝ) : EReal)
  | _ => none
-- ==== ReferenceIdeal.lean ====
abbrev S30x1024x5120 : Shape := ⟨3, ![30, 1024, 5120]⟩
abbrev S5120 : Shape := ⟨1, ![5120]⟩
abbrev S30x1024 : Shape := ⟨2, ![30, 1024]⟩
abbrev S30x1024x1 : Shape := ⟨3, ![30, 1024, 1]⟩
abbrev S1x1x5120 : Shape := ⟨3, ![1, 1, 5120]⟩
abbrev S_ : Shape := ⟨0, ![]⟩
abbrev S30720x5120 : Shape := ⟨2, ![30720, 5120]⟩
abbrev S1x5120 : Shape := ⟨2, ![1, 5120]⟩

abbrev nBuf : Space → Nat
  | .hbm => 87
  | .vmem => 2
  | .smem => 0
  | _ => 0

abbrev bufTy : (tb : Table) → Fin (tcTables nBuf tb) → BufTy
  | .hbm, ⟨0, _⟩ => ⟨S30x1024x5120, .bf16⟩
  | .hbm, ⟨1, _⟩ => ⟨S30x1024x5120, .bf16⟩
  | .hbm, ⟨2, _⟩ => ⟨S5120, .f32⟩
  | .hbm, ⟨3, _⟩ => ⟨S30x1024, .f32⟩
  | .hbm, ⟨4, _⟩ => ⟨S30x1024, .f32⟩
  | .hbm, ⟨5, _⟩ => ⟨S30x1024x5120, .f32⟩
  | .hbm, ⟨6, _⟩ => ⟨S30x1024x5120, .f32⟩
  | .hbm, ⟨7, _⟩ => ⟨S30x1024x1, .f32⟩
  | .hbm, ⟨8, _⟩ => ⟨S30x1024x1, .f32⟩
  | .hbm, ⟨9, _⟩ => ⟨S30x1024x5120, .f32⟩
  | .hbm, ⟨10, _⟩ => ⟨S30x1024x5120, .f32⟩
  | .hbm, ⟨11, _⟩ => ⟨S30x1024x5120, .f32⟩
  | .hbm, ⟨12, _⟩ => ⟨S30x1024x5120, .f32⟩
  | .hbm, ⟨13, _⟩ => ⟨S1x1x5120, .f32⟩
  | .hbm, ⟨14, _⟩ => ⟨S30x1024x5120, .f32⟩
  | .hbm, ⟨15, _⟩ => ⟨S30x1024x5120, .f32⟩
  | .hbm, ⟨16, _⟩ => ⟨S_, .f32⟩
  | .hbm, ⟨17, _⟩ => ⟨S30x1024, .f32⟩
  | .hbm, ⟨18, _⟩ => ⟨S30x1024x1, .f32⟩
  | .hbm, ⟨19, _⟩ => ⟨S_, .f32⟩
  | .hbm, ⟨20, _⟩ => ⟨S30x1024x1, .f32⟩
  | .hbm, ⟨21, _⟩ => ⟨S30x1024x1, .f32⟩
  | .hbm, ⟨22, _⟩ => ⟨S30x1024x5120, .f32⟩
  | .hbm, ⟨23, _⟩ => ⟨S_, .f32⟩
  | .hbm, ⟨24, _⟩ => ⟨S30x1024, .f32⟩
  | .hbm, ⟨25, _⟩ => ⟨S30x1024x1, .f32⟩
  | .hbm, ⟨26, _⟩ => ⟨S_, .f32⟩
  | .hbm, ⟨27, _⟩ => ⟨S30x1024x1, .f32⟩
  | .hbm, ⟨28, _⟩ => ⟨S30x1024x1, .f32⟩
  | .hbm, ⟨29, _⟩ => ⟨S30x1024x5120, .f32⟩
  | .hbm, ⟨30, _⟩ => ⟨S30x1024x5120, .f32⟩
  | .hbm, ⟨31, _⟩ => ⟨S30x1024x5120, .f32⟩
  | .hbm, ⟨32, _⟩ => ⟨S30x1024x5120, .f32⟩
  | .hbm, ⟨33, _⟩ => ⟨S30x1024x5120, .f32⟩
  | .hbm, ⟨34, _⟩ => ⟨S30x1024x5120, .f32⟩
  | .hbm, ⟨35, _⟩ => ⟨S30x1024x5120, .f32⟩
  | .hbm, ⟨36, _⟩ => ⟨S30x1024x5120, .f32⟩
  | .hbm, ⟨37, _⟩ => ⟨S_, .f32⟩
  | .hbm, ⟨38, _⟩ => ⟨S5120, .f32⟩
  | .hbm, ⟨39, _⟩ => ⟨S_, .f32⟩
  | .hbm, ⟨40, _⟩ => ⟨S5120, .f32⟩
  | .hbm, ⟨41, _⟩ => ⟨S30x1024x5120, .f32⟩
  | .hbm, ⟨42, _⟩ => ⟨S_, .f32⟩
  | .hbm, ⟨43, _⟩ => ⟨S30x1024, .f32⟩
  | .hbm, ⟨44, _⟩ => ⟨S30x1024x1, .f32⟩
  | .hbm, ⟨45, _⟩ => ⟨S_, .f32⟩
  | .hbm, ⟨46, _⟩ => ⟨S30x1024x1, .f32⟩
  | .hbm, ⟨47, _⟩ => ⟨S30x1024x1, .f32⟩
  | .hbm, ⟨48, _⟩ => ⟨S_, .f32⟩
  | .hbm, ⟨49, _⟩ => ⟨S30x1024x1, .f32⟩
  | .hbm, ⟨50, _⟩ => ⟨S30x1024x1, .i1⟩
  | .hbm, ⟨51, _⟩ => ⟨S30x1024x1, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S30x1024x1, .f32⟩
  | .hbm, ⟨56, _⟩ => ⟨S30x1024x1, .f32⟩
  | .hbm, ⟨57, _⟩ => ⟨S30x1024x1, .f32⟩
  | .hbm, ⟨58, _⟩ => ⟨S_, .f32⟩
  | .hbm, ⟨59, _⟩ => ⟨S30x1024x1, .f32⟩
  | .hbm, ⟨60, _⟩ => ⟨S30x1024x1, .f32⟩
  | .hbm, ⟨61, _⟩ => ⟨S_, .f32⟩
  | .hbm, ⟨62, _⟩ => ⟨S_, .f32⟩
  | .hbm, ⟨63, _⟩ => ⟨S30x1024x1, .f32⟩
  | .hbm, ⟨64, _⟩ => ⟨S30x1024x1, .f32⟩
  | .hbm, ⟨65, _⟩ => ⟨S_, .f32⟩
  | .hbm, ⟨66, _⟩ => ⟨S30x1024x1, .f32⟩
  | .hbm, ⟨67, _⟩ => ⟨S30x1024x1, .f32⟩
  | .hbm, ⟨68, _⟩ => ⟨S30x1024x1, .f32⟩
  | .hbm, ⟨69, _⟩ => ⟨S_, .f32⟩
  | .hbm, ⟨70, _⟩ => ⟨S30x1024x1, .f32⟩
  | .hbm, ⟨71, _⟩ => ⟨S30x1024x1, .f32⟩
  | .hbm, ⟨72, _⟩ => ⟨S30x1024x5120, .f32⟩
  | .hbm, ⟨73, _⟩ => ⟨S30x1024x5120, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S30x1024x5120, .f32⟩
  | .hbm, ⟨78, _⟩ => ⟨S30x1024x5120, .f32⟩
  | .hbm, ⟨79, _⟩ => ⟨S_, .f32⟩
  | .hbm, ⟨80, _⟩ => ⟨S30x1024x5120, .f32⟩
  | .hbm, ⟨81, _⟩ => ⟨S30x1024x5120, .f32⟩
  | .hbm, ⟨82, _⟩ => ⟨S30720x5120, .f32⟩
  | .hbm, ⟨83, _⟩ => ⟨S1x5120, .f32⟩
  | .hbm, ⟨84, _⟩ => ⟨S1x5120, .f32⟩
  | .hbm, ⟨85, _⟩ => ⟨S30x1024, .f32⟩
  | .hbm, ⟨86, _⟩ => ⟨S30720x5120, .fp8e5m2⟩
  | .local _ .vmem, ⟨0, _⟩ => ⟨S30720x5120, .f32⟩
  | .local _ .vmem, ⟨1, _⟩ => ⟨S30720x5120, .fp8e5m2⟩
  | _, _ => ⟨S30x1024x5120, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_call0_v0 : Ref sig .tc := ⟨.hbm, 62, rfl⟩
abbrev main_call0_v1 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_13 : Ref sig .tc := ⟨.hbm, 74, rfl⟩
abbrev main_cst_14 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S30720x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S30720x5120 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Machine.lean ====
/- A small language for the kernel's body: programs that only load and store whole-buffer windows, over a fixed family of
   buffers. `exec` says what such a program computes as a plain function of the buffers' contents; `toProg` turns it into
   a program of the machine, given a memref for each buffer; `wp_toProg` says that the machine's program does what `exec`
   says. The body of the kernel is then studied by `exec` alone. -/
module

public import Idealize.ShloMosaic.Lib.VecWindow
public import Idealize.ShloMosaic.Lib.Memref
public import Idealize.ShloMosaic.Lib.Scf
public import Idealize.ShloMosaic.Rules
public import Idealize.SL.ProofMode.BigOp

@[expose] public section

noncomputable section

namespace Cert.Machine

open Idealize.ShloMosaic
open Idealize.SL Idealize.SL.RA Idealize.SL.Sem Idealize.SL.ProofMode
open Idealize.SL.BI (sProp bigSep)
open scoped Idealize.SL.BI
open Idealize.SL.BI.BIBase Idealize.SL.BI.Laws

variable {B : Type} (sh : B → Shape) (el : B → EltTy) (Val : EltTy → Type)

/-- One load or one store of a window of a buffer, with the evidence the machine asks for. -/
inductive Cmd : Type → Type where
  | load (b : B) (off size : Fin (sh b).rank → ℕ) (inb : ∀ a, off a + size a ≤ (sh b).size a)
      (hl : 0 < (Rect.unit off size inb).shape.numel) : Cmd ((Rect.unit off size inb).shape.Idx → Val (el b))
  | store (b : B) (off size : Fin (sh b).rank → ℕ) (inb : ∀ a, off a + size a ≤ (sh b).size a)
      (w : (Rect.unit off size inb).shape.Idx → Val (el b))
      (hs : ∀ (sig : RefSig) (m : Memref sig .tc .vmem (sh b) (el b)), m.IsWhole → (m.access (Rect.unit off size inb)).Stores Finset.univ) :
      Cmd PUnit

/-- What every buffer holds. -/
abbrev St : Type := (b : B) → (sh b).Idx → Val (el b)

variable {sh el Val} [DecidableEq B]

/-- What one command answers and leaves. -/
def Cmd.run {β : Type} : Cmd sh el Val β → St sh el Val → β × St sh el Val
  | .load b off size inb _, S => (VecWindow.window (S b) off size inb, S)
  | .store b off size _ w _, S => (⟨⟩, Function.update S b (VecWindow.put (S b) off size w))

/-- What a program answers and leaves. -/
def exec {α : Type} : Prog (Cmd sh el Val) α → St sh el Val → α × St sh el Val
  | .ret a, S => (a, S)
  | .op e k, S => exec (k (e.run S).1) (e.run S).2

theorem exec_bind {α β : Type} (p : Prog (Cmd sh el Val) α) (k : α → Prog (Cmd sh el Val) β) (S : St sh el Val) :
    exec (p >>= k) S = exec (k (exec p S).1) (exec p S).2 := by
  induction p generalizing S with
  | ret a => rfl
  | op e c ih => exact ih _ _

@[simp] theorem exec_ret {α : Type} (a : α) (S : St sh el Val) : exec (.ret a : Prog (Cmd sh el Val) α) S = (a, S) := rfl

variable {nD : Nat} {τ : Topo} {sig : RefSig} {Λ : Labels}

/-- The machine's program, at a memref for each buffer. -/
def toProg (M : (b : B) → Memref sig .tc .vmem (sh b) (el b)) (hM : ∀ b, (M b).IsWhole) {α : Type} :
    Prog (Cmd sh el Val) α → Prog (TpuEff nD τ sig Val Λ .tc) α
  | .ret a => .ret a
  | .op (.load b off size inb hl) k =>
      .op (.load (M b) (Rect.unit off size inb).toLoadRect (View.loadsAt_vmem hl)) fun x => toProg M hM (k x)
  | .op (.store b off size inb w hs) k =>
      .op (.store (M b) (Rect.unit off size inb) w Finset.univ (hs sig (M b) (hM b)) (.inl rfl)) fun x => toProg M hM (k x)

theorem toProg_bind (M : (b : B) → Memref sig .tc .vmem (sh b) (el b)) (hM : ∀ b, (M b).IsWhole) {α β : Type}
    (p : Prog (Cmd sh el Val) α) (k : α → Prog (Cmd sh el Val) β) :
    (toProg M hM (p >>= k) : Prog (TpuEff nD τ sig Val Λ .tc) β) = toProg M hM p >>= fun a => toProg M hM (k a) := by
  induction p with
  | ret a => rfl
  | op e c ih =>
    cases e with
    | load => exact congrArg (Prog.op _) (funext fun x => ih x)
    | store => exact congrArg (Prog.op _) (funext fun x => ih x)

/-- A counted loop of such programs is the machine's counted loop of theirs. -/
theorem toProg_for (M : (b : B) → Memref sig .tc .vmem (sh b) (el b)) (hM : ∀ b, (M b).IsWhole) (l : Scf.Loop 32) (hok : l.OK)
    (body : Fin l.trips → Unit → Prog (Cmd sh el Val) Unit) :
    (toProg M hM (Scf.Loop.for l hok () body) : Prog (TpuEff nD τ sig Val Λ .tc) Unit)
      = Scf.Loop.for l hok () fun k u => toProg M hM (body k u) := by
  unfold Scf.Loop.for
  rw [Scf.for_eq, Scf.for_eq]
  generalize List.finRange _ = L
  generalize () = u
  induction L generalizing u with
  | nil => rfl
  | cons k ks ih =>
    rw [Scf.forFrom_cons, Scf.forFrom_cons, toProg_bind]
    exact congrArg _ (funext fun u => ih u)

section Own

variable {Ix : Type} [DecidableEq Ix] {Name : Type} [DecidableEq Name] {U : Type} [URA U] {Lvl : Type} [Preorder Lvl]
local notation "𝕄" => MT nD τ sig Ix Val Name U Lvl

/-- Every buffer is owned, and holds what `S` says. -/
def own [Fintype B] (c : Dev nD) (M : (b : B) → Memref sig .tc .vmem (sh b) (el b)) (S : St sh el Val) : sProp 𝕄 :=
  bigSep Finset.univ fun b => owns (c.tc : Thread nD τ) (M b) fullShare (S b)

theorem toProg_op_load (M : (b : B) → Memref sig .tc .vmem (sh b) (el b)) (hM : ∀ b, (M b).IsWhole) {α : Type} (b : B)
    (off size : Fin (sh b).rank → ℕ) (inb hl) (k : _ → Prog (Cmd sh el Val) α) :
    (toProg M hM (.op (.load b off size inb hl) k) : Prog (TpuEff nD τ sig Val Λ .tc) α)
      = .op (.load (M b) (Rect.unit off size inb).toLoadRect (View.loadsAt_vmem hl)) fun x => toProg M hM (k x) := rfl

theorem toProg_op_store (M : (b : B) → Memref sig .tc .vmem (sh b) (el b)) (hM : ∀ b, (M b).IsWhole) {α : Type} (b : B)
    (off size : Fin (sh b).rank → ℕ) (inb w hs) (k : _ → Prog (Cmd sh el Val) α) :
    (toProg M hM (.op (.store b off size inb w hs) k) : Prog (TpuEff nD τ sig Val Λ .tc) α)
      = .op (.store (M b) (Rect.unit off size inb) w Finset.univ (hs sig (M b) (hM b)) (.inl rfl)) fun x => toProg M hM (k x) := rfl

/-- The machine's program does what `exec` says. -/
theorem wp_toProg [Fintype B] {defs : Defs nD τ sig Val Λ} (𝒱 : Variants) (c : Dev nD) (bd : Option 𝒱.V)
    {Γ : PendingWaitsCtx sig Ix} (E : Set Name)
    (M : (b : B) → Memref sig .tc .vmem (sh b) (el b)) (hM : ∀ b, (M b).IsWhole) {α : Type} (p : Prog (Cmd sh el Val) α)
    (S : St sh el Val) (Q : α → sProp 𝕄) :
    iprop(own c M S ∗ (own c M (exec p S).2 -∗ Q (exec p S).1))
      ⊢ wp frame (wpE' defs 𝒱 (c.tc : Thread nD τ) bd Γ) E (toProg M hM p) Q := by
  induction p generalizing S with
  | ret a =>
    refine Entails.trans ?_ (le_wp_ret _ _ _ a Q)
    simp only [exec_ret]
    iintro ⟨H, Hk⟩
    iapply Hk; iexact H
  | op e k ih =>
    cases e with
    | load b off size inb hl =>
      rw [toProg_op_load]
      iintro ⟨H, Hk⟩
      unfold own
      ihave H := (Idealize.SL.BI.bigSep_univ_turn (fun b s => owns (c.tc : Thread nD τ) (M b) fullShare s) S b) $$ H
      icases H with ⟨Hb, Hrest⟩
      unfold owns
      icases Hb with ⟨%f, %hf, Hb⟩
      iapply (wp_load (defs := defs) 𝒱 (c.tc : Thread nD τ) bd E (m := M b) (f := f) (S := (M b).view.set) (View.setOn_subset_set _ _)) $$ Hb
      iintro Hb
      have hr : (M b).view.readAt Val (Rect.unit off size inb).toLoadRect f = VecWindow.window (S b) off size inb := by
        rw [View.readAt_unit _ f inb rfl inb, hf]
      rw [hr]
      iapply (ih (VecWindow.window (S b) off size inb) S)
      isplitr [Hk]
      · ispecialize Hrest $$ %(S b)
        rw [Function.update_eq_self]
        unfold own owns
        iapply Hrest
        iexists f
        isplitr
        · ipureintro; exact hf
        · iexact Hb
      · iexact Hk
    | store b off size inb w hs =>
      rw [toProg_op_store]
      iintro ⟨H, Hk⟩
      unfold own
      ihave H := (Idealize.SL.BI.bigSep_univ_turn (fun b s => owns (c.tc : Thread nD τ) (M b) fullShare s) S b) $$ H
      icases H with ⟨Hb, Hrest⟩
      unfold owns
      icases Hb with ⟨%f, %hf, Hb⟩
      iapply (wp_store (defs := defs) 𝒱 (c.tc : Thread nD τ) bd E (m := M b) (r := Rect.unit off size inb) (Mk := Finset.univ) (f := f)
        (S := (M b).view.set) (View.set_slice_subset _ _)) $$ Hb
      iintro Hb
      have hr : (M b).view.read Val (((M b).access (Rect.unit off size inb)).write Val f w Finset.univ) = VecWindow.put (S b) off size w := by
        rw [← hf]
        exact View.read_writes_cons_put (M b).view f inb w [] rfl
      iapply (ih ⟨⟩ (Function.update S b (VecWindow.put (S b) off size w)))
      isplitr [Hk]
      · ispecialize Hrest $$ %(VecWindow.put (S b) off size w)
        unfold own owns
        iapply Hrest
        iexists _
        isplitr
        · ipureintro; exact hr
        · iexact Hb
      · iexact Hk

end Own

end Cert.Machine

end
-- ==== Proof.Chunk.lean ====
/- The kernel's body as programs over its twenty-four buffers, written once for the five ways it runs (which of the sums of
   one block, the gradient of the block before it and the codes of the block before that are done in the step). The printed
   kernel and the idealized one are both these programs, at the constant `1 / d` each of them has. -/
module

public import proofs.«01_k».proof.Proof.Machine
public import proofs.«01_k».proof.Proof.Gen.KernelIdeal

@[expose] public section

noncomputable section

namespace Cert.Body

open Idealize.ShloMosaic Idealize.SL.Sem
open Cert.KernelIdeal Cert.KernelIdeal.Gen Cert.Machine

/-- The buffers of a step: the windows of the five inputs and four results, then the scratch buffers. -/
inductive Buf where
  | x | dy | gamma | mu | rstd | dgammaO | dbetaO | codes | scaleO
  | xhat | g | w | gsplit | muS | rS | rfin | mg | mgx | inv | sg | sgx | wmax | dgammaS | dbetaS
  deriving DecidableEq

instance : Fintype Buf where
  elems := {.x, .dy, .gamma, .mu, .rstd, .dgammaO, .dbetaO, .codes, .scaleO,
    .xhat, .g, .w, .gsplit, .muS, .rS, .rfin, .mg, .mgx, .inv, .sg, .sgx, .wmax, .dgammaS, .dbetaS}
  complete b := by cases b <;> decide

/-- A buffer's shape. -/
@[reducible] def sh : Buf → Shape
  | .x | .dy | .codes | .xhat | .g | .w => S256x5120
  | .gamma | .dgammaO | .dbetaO => S1x5120
  | .mu | .rstd | .scaleO => S30x1024
  | .gsplit => S128x5120
  | .muS | .rS | .rfin | .mg | .mgx | .inv | .sg | .sgx | .wmax => S256x128
  | .dgammaS | .dbetaS => S8x5120

/-- A buffer's element type. -/
@[reducible] def el : Buf → EltTy
  | .x | .dy | .gsplit => .bf16
  | .codes => .fp8e5m2
  | _ => .f32

variable {F : FTy → Type} [FloatOps F]

/-- A program over the buffers. -/
abbrev Pr (F : FTy → Type) : Type → Type 1 := Prog (Cmd sh el (Elt F))

/-- Load a window. -/
@[reducible] def ld (b : Buf) (off size : Fin (sh b).rank → ℕ) (inb : ∀ a, off a + size a ≤ (sh b).size a)
    (h : 0 < (Rect.unit off size inb).shape.numel) : Pr F ((Rect.unit off size inb).shape.Idx → Elt F (el b)) :=
  Prog.lift (.load b off size inb h)

/-- Store a window of a buffer of 32-bit floats. -/
@[reducible] def st (b : Buf) (off size : Fin (sh b).rank → ℕ) (inb : ∀ a, off a + size a ≤ (sh b).size a)
    (h : 0 < (Rect.unit off size inb).shape.numel) (w : (Rect.unit off size inb).shape.Idx → Elt F (el b)) (he : (el b).bits = 32) :
    Pr F PUnit :=
  Prog.lift (.store b off size inb w fun _ _ _ => View.stores_vmem_bits_univ h he)

/-- The loop over the column chunks. -/
@[reducible] def colLoop : Scf.Loop 32 := ⟨0#32, Scalar.addi 0#32 10#32, 1#32⟩

theorem colLoop_ok : colLoop.OK := k0_t1_abs.1

/-- The first column of chunk `k`. -/
def base (k : Fin colLoop.trips) : ℕ := (Scalar.indexCast (Scalar.muli (Scf.iv 0#32 1#32 k) 512#32)).toNat

/-- The first column of lane group `j` of chunk `k`. -/
def col (k : Fin colLoop.trips) (j : Fin 4) : ℕ :=
  (Scalar.indexCast (Scalar.addi (Scalar.muli (Scf.iv 0#32 1#32 k) 512#32) (BitVec.ofNat 32 (128 * j.val)))).toNat

theorem base_eq : ∀ k : Fin colLoop.trips, base k = 512 * k.val := by decide +kernel

theorem col_eq : ∀ (k : Fin colLoop.trips) (j : Fin 4), col k j = 512 * k.val + 128 * j.val := by decide +kernel

theorem trips_eq : colLoop.trips = 10 := by decide +kernel

theorem k_lt (k : Fin colLoop.trips) : k.val < 10 := lt_of_lt_of_eq k.isLt trips_eq

theorem inb_cell (k : Fin colLoop.trips) (i : Fin 8) (j : Fin 4) :
    ∀ a, (![32 * i.val, col k j] : Fin 2 → ℕ) a + S32x128.size a ≤ S256x5120.size a := by
  have := k_lt k
  rw [col_eq]
  intro a; fin_cases a <;> simp <;> omega

theorem inb_gam (k : Fin colLoop.trips) (j : Fin 4) : ∀ a, (![0, col k j] : Fin 2 → ℕ) a + S1x128.size a ≤ S1x5120.size a := by
  have := k_lt k
  rw [col_eq]
  intro a; fin_cases a <;> simp <;> omega

theorem inb_dg (k : Fin colLoop.trips) (j : Fin 4) : ∀ a, (![0, col k j] : Fin 2 → ℕ) a + S8x128.size a ≤ S8x5120.size a := by
  have := k_lt k
  rw [col_eq]
  intro a; fin_cases a <;> simp <;> omega

theorem inb_rows (i : Fin 8) : ∀ a, (![32 * i.val, 0] : Fin 2 → ℕ) a + S32x128.size a ≤ S256x128.size a := by
  intro a; fin_cases a <;> simp <;> omega

theorem inb_dyc (k : Fin colLoop.trips) : ∀ a, (![0, base k] : Fin 2 → ℕ) a + S256x512.size a ≤ S256x5120.size a := by
  have := k_lt k
  rw [base_eq]
  intro a; fin_cases a <;> simp <;> omega

theorem inb_gs (k : Fin colLoop.trips) : ∀ a, (![0, base k] : Fin 2 → ℕ) a + S128x512.size a ≤ S128x5120.size a := by
  have := k_lt k
  rw [base_eq]
  intro a; fin_cases a <;> simp <;> omega

theorem inb_db (k : Fin colLoop.trips) : ∀ a, (![0, base k] : Fin 2 → ℕ) a + S8x512.size a ≤ S8x5120.size a := by
  have := k_lt k
  rw [base_eq]
  intro a; fin_cases a <;> simp <;> omega

theorem packed_cell (k : Fin colLoop.trips) (i : Fin 8) (j : Fin 4) :
    (Rect.unit (s := S256x5120) ![32 * i.val, col k j] S32x128.size (inb_cell k i j)).PackedRows (EltTy.packing .fp8e5m2) := by
  refine Affine.packed_dvd (of_decide_eq_true rfl) ?_ (by decide)
  exact ⟨8 * i.val, by show 32 * i.val = 4 * (8 * i.val); omega⟩

section
variable (k : Fin colLoop.trips) (i : Fin 8) (j : Fin 4)

/-! ## What a cell computes -/

/-- `x - mu` over the deviation. -/
def xhatV (x : Vec F S32x128 .bf16) (mu r : Vec F S32x128 .f32) : FVec F S32x128 .f32 :=
  mulf (subf (extf .f32 (shapeCast S32x128 x shapeCasts_S32x128_S32x128) bitsLt_bf16_f32) mu) r

/-- The cotangent as a 32-bit float. -/
def dyV (dy : Vec F S32x128 .bf16) : FVec F S32x128 .f32 :=
  extf .f32 (shapeCast S32x128 dy shapeCasts_S32x128_S32x128) bitsLt_bf16_f32

/-- The cotangent by gamma. -/
def gV (gam : Vec F S1x128 .f32) (dy : Vec F S32x128 .bf16) : FVec F S32x128 .f32 :=
  mulf (dyV dy) (broadcastTo S32x128 (shapeCast S1x128 gam shapeCasts_S1x128_S1x128) broadcasts_S1x128_S32x128)

/-- The four tiles of eight rows. -/
def p0 (q : FVec F S32x128 .f32) : FVec F S8x128 .f32 := extractStridedSlice S8x128 ![0, 0] q slices_S32x128_o0_0_S8x128
def p1 (q : FVec F S32x128 .f32) : FVec F S8x128 .f32 := extractStridedSlice S8x128 ![8, 0] q slices_S32x128_o8_0_S8x128
def p2 (q : FVec F S32x128 .f32) : FVec F S8x128 .f32 := extractStridedSlice S8x128 ![16, 0] q slices_S32x128_o16_0_S8x128
def p3 (q : FVec F S32x128 .f32) : FVec F S8x128 .f32 := extractStridedSlice S8x128 ![24, 0] q slices_S32x128_o24_0_S8x128

/-- The tiles added onto what was summed before them, if anything was. -/
def dgV (d : Option (FVec F S8x128 .f32)) (q : FVec F S32x128 .f32) : FVec F S8x128 .f32 :=
  match d with
  | none => addf (addf (addf (p0 q) (p1 q)) (p2 q)) (p3 q)
  | some d => addf (addf (addf (addf d (p0 q)) (p1 q)) (p2 q)) (p3 q)

/-- A value added onto what was summed before it, if anything was. -/
def addO (s : Option (FVec F S32x128 .f32)) (v : FVec F S32x128 .f32) : FVec F S32x128 .f32 :=
  match s with
  | none => v
  | some s => addf s v

/-- The larger of a value and what was seen before it, if anything was. -/
def maxO (s : Option (FVec F S32x128 .f32)) (v : FVec F S32x128 .f32) : FVec F S32x128 .f32 :=
  match s with
  | none => v
  | some s => maximumf s v

/-- The gradient over the deviation. -/
def wV (g mg xhat mgx : Vec F S32x128 .f32) : FVec F S32x128 .f32 := subf (subf g mg) (mulf xhat mgx)

/-- The quantised gradient. -/
def codesV (w inv : Vec F S32x128 .f32) : FVec F S32x128 .fp8e5m2 :=
  truncf .fp8e5m2 (minimumf (broadcast S32x128 (Scalar.ofBits .f32 0x47600000#32))
    (maximumf (broadcast S32x128 (Scalar.ofBits .f32 0xC7600000#32)) (mulf w inv))) bitsLt_fp8e5m2_f32

/-- A vector cast to its own shape, as a store casts it. -/
abbrev same (v : FVec F S32x128 .f32) : FVec F S32x128 .f32 := shapeCast S32x128 v shapeCasts_S32x128_S32x128

/-! ## A cell -/

/-- The codes of one cell. -/
def codesCell : Pr F PUnit := do
  let w : Vec F S32x128 .f32 ← ld .w ![32 * i.val, col k j] S32x128.size (inb_cell k i j) h_S32x128
  let inv : Vec F S32x128 .f32 ← ld .inv ![32 * i.val, 0] S32x128.size (inb_rows i) h_S32x128
  let _ : Vec F S32x128 .fp8e5m2 ← ld .codes ![32 * i.val, col k j] S32x128.size (inb_cell k i j) h_S32x128
  Prog.lift (.store .codes ![32 * i.val, col k j] S32x128.size (inb_cell k i j) (codesV w inv) fun _ _ hm =>
    View.stores_vmem h_S32x128 (hm.storeExact_slice rfl _ (packed_cell k i j)) (fun _ => rfl))

/-- The gradient of one cell, and the larger of its size and what was seen before. -/
def dxCell (s : Option (FVec F S32x128 .f32)) : Pr F (FVec F S32x128 .f32) := do
  let g : Vec F S32x128 .f32 ← ld .g ![32 * i.val, col k j] S32x128.size (inb_cell k i j) h_S32x128
  let mg : Vec F S32x128 .f32 ← ld .mg ![32 * i.val, 0] S32x128.size (inb_rows i) h_S32x128
  let xhat : Vec F S32x128 .f32 ← ld .xhat ![32 * i.val, col k j] S32x128.size (inb_cell k i j) h_S32x128
  let mgx : Vec F S32x128 .f32 ← ld .mgx ![32 * i.val, 0] S32x128.size (inb_rows i) h_S32x128
  let _ : Vec F S32x128 .f32 ← ld .w ![32 * i.val, col k j] S32x128.size (inb_cell k i j) h_S32x128
  st .w ![32 * i.val, col k j] S32x128.size (inb_cell k i j) h_S32x128 (same (wV g mg xhat mgx)) rfl
  pure (maxO s (absf (wV g mg xhat mgx)))

/-- What the sums of one cell hand on. -/
structure Sums (F : FTy → Type) where
  sgx : FVec F S32x128 .f32
  dg : FVec F S8x128 .f32

/-- The sums of one cell. -/
def sumsCell (s : Option (FVec F S32x128 .f32)) (d : Option (FVec F S8x128 .f32)) : Pr F (Sums F) := do
  let gam : Vec F S1x128 .f32 ← ld .gamma ![0, col k j] S1x128.size (inb_gam k j) h_S1x128
  let x : Vec F S32x128 .bf16 ← ld .x ![32 * i.val, col k j] S32x128.size (inb_cell k i j) h_S32x128
  let mu : Vec F S32x128 .f32 ← ld .muS ![32 * i.val, 0] S32x128.size (inb_rows i) h_S32x128
  let r : Vec F S32x128 .f32 ← ld .rS ![32 * i.val, 0] S32x128.size (inb_rows i) h_S32x128
  let dy : Vec F S32x128 .bf16 ← ld .dy ![32 * i.val, col k j] S32x128.size (inb_cell k i j) h_S32x128
  let _ : Vec F S32x128 .f32 ← ld .xhat ![32 * i.val, col k j] S32x128.size (inb_cell k i j) h_S32x128
  st .xhat ![32 * i.val, col k j] S32x128.size (inb_cell k i j) h_S32x128 (same (xhatV x mu r)) rfl
  let _ : Vec F S32x128 .f32 ← ld .g ![32 * i.val, col k j] S32x128.size (inb_cell k i j) h_S32x128
  st .g ![32 * i.val, col k j] S32x128.size (inb_cell k i j) h_S32x128 (same (gV gam dy)) rfl
  pure ⟨addO s (mulf (gV gam dy) (xhatV x mu r)), dgV d (mulf (dyV dy) (xhatV x mu r))⟩

/-- Which of the three a step does. -/
structure Flags where
  sums : Bool
  dx : Bool
  codes : Bool

/-- What a cell hands to the next: the sizes seen in its rows, the sums of its rows, the sums of its columns. -/
structure Regs (F : FTy → Type) where
  wmax : Option (FVec F S32x128 .f32)
  sgx : Option (FVec F S32x128 .f32)
  dg : Option (FVec F S8x128 .f32)

variable (fl : Flags)

/-- A cell's codes, if the step does them. -/
def codesPart : Pr F PUnit := match fl.codes with
  | true => codesCell k i j
  | false => pure ⟨⟩

/-- A cell's gradient, if the step does it. -/
def dxPart (s : Option (FVec F S32x128 .f32)) : Pr F (Option (FVec F S32x128 .f32)) := match fl.dx with
  | true => do pure (some (← dxCell k i j s))
  | false => pure none

/-- A cell's sums, if the step does them, after the sizes seen in its rows. -/
def sumsPart (w : Option (FVec F S32x128 .f32)) (s : Option (FVec F S32x128 .f32)) (d : Option (FVec F S8x128 .f32)) : Pr F (Regs F) :=
  match fl.sums with
  | true => do
    let r ← sumsCell k i j s d
    pure ⟨w, some r.sgx, some r.dg⟩
  | false => pure ⟨w, none, none⟩

/-- One cell. -/
def cell (w s : Option (FVec F S32x128 .f32)) (d : Option (FVec F S8x128 .f32)) : Pr F (Regs F) := do
  codesPart k i j fl
  let w ← dxPart k i j fl w
  sumsPart k i j fl w s d

/-- A vector that is there. -/
def held {s : Shape} (v : Option (FVec F s .f32)) : FVec F s .f32 := match v with
  | some v => v
  | none => broadcast s (Scalar.ofBits .f32 0x00000000#32)

/-- The rows' sizes join the running ones. -/
def wmaxEnd (w : Option (FVec F S32x128 .f32)) : Pr F PUnit := match fl.dx with
  | true => do
    let o : Vec F S32x128 .f32 ← ld .wmax ![32 * i.val, 0] S32x128.size (inb_rows i) h_S32x128
    let _ : Vec F S32x128 .f32 ← ld .wmax ![32 * i.val, 0] S32x128.size (inb_rows i) h_S32x128
    st .wmax ![32 * i.val, 0] S32x128.size (inb_rows i) h_S32x128 (same (maximumf o (held w))) rfl
  | false => pure ⟨⟩

/-- The rows' sums join the running ones. -/
def sgxEnd (s : Option (FVec F S32x128 .f32)) : Pr F PUnit := match fl.sums with
  | true => do
    let o : Vec F S32x128 .f32 ← ld .sgx ![32 * i.val, 0] S32x128.size (inb_rows i) h_S32x128
    let _ : Vec F S32x128 .f32 ← ld .sgx ![32 * i.val, 0] S32x128.size (inb_rows i) h_S32x128
    st .sgx ![32 * i.val, 0] S32x128.size (inb_rows i) h_S32x128 (same (addf o (held s))) rfl
  | false => pure ⟨⟩

/-- The columns' sums of the four lane groups. -/
structure Four (F : FTy → Type) where
  d0 : Option (FVec F S8x128 .f32)
  d1 : Option (FVec F S8x128 .f32)
  d2 : Option (FVec F S8x128 .f32)
  d3 : Option (FVec F S8x128 .f32)

/-- A group of thirty-two rows. -/
def rowGroup (d : Four F) : Pr F (Four F) := do
  let c0 ← cell k i ⟨0, by decide⟩ fl none none d.d0
  let c1 ← cell k i ⟨1, by decide⟩ fl c0.wmax c0.sgx d.d1
  let c2 ← cell k i ⟨2, by decide⟩ fl c1.wmax c1.sgx d.d2
  let c3 ← cell k i ⟨3, by decide⟩ fl c2.wmax c2.sgx d.d3
  wmaxEnd i fl c3.wmax
  sgxEnd i fl c3.sgx
  pure ⟨c0.dg, c1.dg, c2.dg, c3.dg⟩

/-- The sums a chunk takes by matrix products. -/
def dots : Pr F PUnit := do
  let dy : Vec F S256x512 .bf16 ← ld .dy ![0, base k] S256x512.size (inb_dyc k) h_S256x512
  let sg : Vec F S256x128 .f32 ← ld .sg ![0, 0] S256x128.size inb_S256x128_S256x128_0_0 h_S256x128
  let gs : Vec F S128x512 .bf16 ← ld .gsplit ![0, base k] S128x512.size (inb_gs k) h_S128x512
  let _ : Vec F S256x128 .f32 ← ld .sg ![0, 0] S256x128.size inb_S256x128_S256x128_0_0 h_S256x128
  st .sg ![0, 0] S256x128.size inb_S256x128_S256x128_0_0 h_S256x128
    (shapeCast S256x128 (addf sg (matmul dot_S256x512_S128x512_S256x128_1_1_0_0_n_n none
      (shapeCast S256x512 dy shapeCasts_S256x512_S256x512) gs (constant S256x128 .f32 0x00000000#32))) shapeCasts_S256x128_S256x128) rfl
  let db : Vec F S8x512 .f32 ← ld .dbetaS ![0, base k] S8x512.size (inb_db k) h_S8x512
  let _ : Vec F S8x512 .f32 ← ld .dbetaS ![0, base k] S8x512.size (inb_db k) h_S8x512
  st .dbetaS ![0, base k] S8x512.size (inb_db k) h_S8x512
    (shapeCast S8x512 (addf db (matmul dot_S8x256_S256x512_S8x512_1_0_0_1_n_n none
      (broadcast S8x256 (Scalar.ofBits .bf16 0x3F80#16))
      (shapeCast S256x512 dy shapeCasts_S256x512_S256x512) (constant S8x512 .f32 0x00000000#32))) shapeCasts_S8x512_S8x512) rfl

/-- The columns' sums of one lane group join the running ones. -/
def dgEnd (d : Option (FVec F S8x128 .f32)) : Pr F PUnit := do
  let o : Vec F S8x128 .f32 ← ld .dgammaS ![0, col k j] S8x128.size (inb_dg k j) h_S8x128
  let _ : Vec F S8x128 .f32 ← ld .dgammaS ![0, col k j] S8x128.size (inb_dg k j) h_S8x128
  st .dgammaS ![0, col k j] S8x128.size (inb_dg k j) h_S8x128 (shapeCast S8x128 (addf o (held d)) shapeCasts_S8x128_S8x128) rfl

/-- A chunk's matrix products, if the step does the sums. -/
def chunkStart : Pr F PUnit := match fl.sums with
  | true => dots k
  | false => pure ⟨⟩

/-- The eight groups of rows of a chunk. -/
def chunkRows : Pr F (Four F) := do
  let d ← rowGroup k ⟨0, by decide⟩ fl ⟨none, none, none, none⟩
  let d ← rowGroup k ⟨1, by decide⟩ fl d
  let d ← rowGroup k ⟨2, by decide⟩ fl d
  let d ← rowGroup k ⟨3, by decide⟩ fl d
  let d ← rowGroup k ⟨4, by decide⟩ fl d
  let d ← rowGroup k ⟨5, by decide⟩ fl d
  let d ← rowGroup k ⟨6, by decide⟩ fl d
  rowGroup k ⟨7, by decide⟩ fl d

/-- A chunk's column sums, if the step does the sums. -/
def chunkEnd (d : Four F) : Pr F PUnit := match fl.sums with
  | true => do
    dgEnd k ⟨0, by decide⟩ d.d0
    dgEnd k ⟨1, by decide⟩ d.d1
    dgEnd k ⟨2, by decide⟩ d.d2
    dgEnd k ⟨3, by decide⟩ d.d3
  | false => pure ⟨⟩

/-- One chunk of columns. -/
def chunk : Pr F Unit := do
  chunkStart k fl
  let d ← chunkRows k fl
  chunkEnd k fl d
  pure ⟨⟩

end

/-- The chunks of columns in turn. -/
def columns (fl : Flags) : Pr F Unit := Scf.Loop.for colLoop colLoop_ok () fun k _ => chunk k fl

/-! ## What a step does before and after its columns -/

/-- The first three lanes of gamma's split hold its leading, middle and trailing part, the others zero. -/
def splitV (gam : Vec F S1x5120 .f32) : FVec F S128x5120 .bf16 :=
  have v : FVec F S1x5120 .f32 := shapeCast S1x5120 gam shapeCasts_S1x5120_S1x5120
  have hi : FVec F S1x5120 .bf16 := truncf .bf16 v bitsLt_bf16_f32
  have rest : FVec F S1x5120 .f32 := subf v (extf .f32 hi bitsLt_bf16_f32)
  have mid : FVec F S1x5120 .bf16 := truncf .bf16 rest bitsLt_bf16_f32
  have lo : FVec F S1x5120 .bf16 := truncf .bf16 (subf rest (extf .f32 mid bitsLt_bf16_f32)) bitsLt_bf16_f32
  shapeCast S128x5120 (concatenate S128x5120 0 [⟨S1x5120, hi⟩, ⟨S1x5120, mid⟩, ⟨S1x5120, lo⟩,
    ⟨S125x5120, broadcast S125x5120 (Scalar.ofBits .bf16 0x0000#16)⟩] concatenates_S1x5120_S1x5120_S1x5120_S125x5120_S128x5120_d0)
    shapeCasts_S128x5120_S128x5120

/-- Zeros over all rows and lanes. -/
def zeroV : FVec F S256x128 .f32 :=
  shapeCast S256x128 (broadcast S256x128 (Scalar.ofBits .f32 0x00000000#32)) shapeCasts_S256x128_S256x128

/-- Zeros over the column sums. -/
def zeroD : FVec F S8x5120 .f32 :=
  shapeCast S8x5120 (broadcast S8x5120 (Scalar.ofBits .f32 0x00000000#32)) shapeCasts_S8x5120_S8x5120

/-- A vector cast to its own shape, over all rows. -/
abbrev sameR (v : FVec F S256x128 .f32) : FVec F S256x128 .f32 := shapeCast S256x128 v shapeCasts_S256x128_S256x128

/-- Two hundred and fifty-six lanes as rows, each over its row. -/
def lanesV (v : Vec F S1x256 .f32) : FVec F S256x128 .f32 :=
  concatenate S256x128 0
    [⟨S128x128, transpose S128x128 [1, 0] (broadcastTo S128x128 (shapeCast S1x128
        (extractStridedSlice S1x128 ![0, 0] v slices_S1x256_o0_0_S1x128) shapeCasts_S1x128_S1x128) broadcasts_S1x128_S128x128)
        transposes_S128x128_p1_0_S128x128⟩,
     ⟨S128x128, transpose S128x128 [1, 0] (broadcastTo S128x128 (shapeCast S1x128
        (extractStridedSlice S1x128 ![0, 128] v slices_S1x256_o0_128_S1x128) shapeCasts_S1x128_S1x128) broadcasts_S1x128_S128x128)
        transposes_S128x128_p1_0_S128x128⟩]
    concatenates_S128x128_S128x128_S256x128_d0

/-- Rows, each the same over its row, as lanes. -/
def rowsV (v : FVec F S256x128 .f32) : FVec F S1x256 .f32 :=
  concatenate S1x256 1
    [⟨S1x128, extractStridedSlice S1x128 ![0, 0] (transpose S128x128 [1, 0]
        (extractStridedSlice S128x128 ![0, 0] v slices_S256x128_o0_0_S128x128) transposes_S128x128_p1_0_S128x128)
        slices_S128x128_o0_0_S1x128⟩,
     ⟨S1x128, extractStridedSlice S1x128 ![0, 0] (transpose S128x128 [1, 0]
        (extractStridedSlice S128x128 ![128, 0] v slices_S256x128_o128_0_S128x128) transposes_S128x128_p1_0_S128x128)
        slices_S128x128_o0_0_S1x128⟩]
    concatenates_S1x128_S1x128_S1x256_d1

/-- A row's lanes summed and divided by the width, over the row. -/
def meanV (invd : F .f32) (v : Vec F S256x128 .f32) : FVec F S256x128 .f32 :=
  sameR (mulf (broadcastTo S256x128 (shapeCast S256x1 (shapeCast S256x1
    (multiReduction .add [1] S256 v 0x00000000#32 reduces_S256x128_S256 (.inl rfl) rfl)
    shapeCasts_S256_S256x1) shapeCasts_S256x1_S256x1) broadcasts_S256x1_S256x128) (broadcast S256x128 invd))

/-- The size of a row's gradient over the largest code. -/
def sizeV (r : FVec F S256x128 .f32) (wmax : Vec F S256x128 .f32) : FVec F S256x128 .f32 :=
  mulf (mulf (absf r) (broadcastTo S256x128 (shapeCast S256x1 (shapeCast S256x1
    (multiReduction .maximumf [1] S256 wmax 0xFF800000#32 reduces_S256x128_S256 (.inl rfl) rfl)
    shapeCasts_S256_S256x1) shapeCasts_S256x1_S256x1) broadcasts_S256x1_S256x128)) (broadcast S256x128 (Scalar.ofBits .f32 0x37924925#32))

/-- The power of two whose biased exponent is `b`. -/
def powV (b : IVec S256x128 32) : FVec F S256x128 .f32 := bitcastToFloat .f32 (shli b (broadcast S256x128 23#32))

/-- One step of the search for a biased exponent: `bit` joins it if the power of two it then names is not above `m`. -/
def probeV (m : FVec F S256x128 .f32) (bit : BitVec 32) (b : IVec S256x128 32) : IVec S256x128 32 :=
  select (cmpf .oge m (powV (addi b (broadcast S256x128 bit)))) (addi b (broadcast S256x128 bit)) b

/-- The biased exponent of `m`, by search. -/
def biasedV (m : FVec F S256x128 .f32) : IVec S256x128 32 :=
  probeV m 1#32 (probeV m 2#32 (probeV m 4#32 (probeV m 8#32 (probeV m 16#32 (probeV m 32#32 (probeV m 64#32 (probeV m 128#32
    (broadcast S256x128 0#32))))))))

/-- The exponent of the scale. -/
def expV (b : IVec S256x128 32) : IVec S256x128 32 :=
  select (ori (cmpi .eq b (broadcast S256x128 0#32)) (cmpi .eq b (broadcast S256x128 255#32)))
    (broadcast S256x128 0#32) (subi b (broadcast S256x128 126#32))

/-- The deviation's reciprocal over the scale, kept finite. -/
def invV (r : FVec F S256x128 .f32) (e : IVec S256x128 32) : FVec F S256x128 .f32 :=
  sameR (minimumf (broadcast S256x128 (Scalar.ofBits .f32 0x7F7FFFFF#32))
    (maximumf (broadcast S256x128 (Scalar.ofBits .f32 0xFF7FFFFF#32)) (mulf r (powV (subi (broadcast S256x128 127#32) e)))))

/-- The scales of the rows. -/
def scaleV (e : IVec S256x128 32) : FVec F S1x256 .f32 := rowsV (powV (addi (broadcast S256x128 127#32) e))

/-- The start of the whole: gamma is split, the column sums are zero. -/
def setup : Pr F PUnit := do
  let gam : Vec F S1x5120 .f32 ← ld .gamma ![0, 0] S1x5120.size inb_S1x5120_S1x5120_0_0 h_S1x5120
  let _ : Vec F S128x5120 .bf16 ← ld .gsplit ![0, 0] S128x5120.size inb_S128x5120_S128x5120_0_0 h_S128x5120
  Prog.lift (.store .gsplit ![0, 0] S128x5120.size inb_S128x5120_S128x5120_0_0 (splitV gam) fun _ _ hm =>
    View.stores_vmem h_S128x5120 (hm.storeExact_slice rfl _ packedbf16_S128x5120_S128x5120_0_0) (fun _ => rfl))
  let _ : Vec F S8x5120 .f32 ← ld .dgammaS ![0, 0] S8x5120.size inb_S8x5120_S8x5120_0_0 h_S8x5120
  st .dgammaS ![0, 0] S8x5120.size inb_S8x5120_S8x5120_0_0 h_S8x5120 zeroD rfl
  let _ : Vec F S8x5120 .f32 ← ld .dbetaS ![0, 0] S8x5120.size inb_S8x5120_S8x5120_0_0 h_S8x5120
  st .dbetaS ![0, 0] S8x5120.size inb_S8x5120_S8x5120_0_0 h_S8x5120 zeroD rfl

/-- The means of the block whose sums are done. -/
def finishSums (invd : F .f32) : Pr F PUnit := do
  let sg : Vec F S256x128 .f32 ← ld .sg ![0, 0] S256x128.size inb_S256x128_S256x128_0_0 h_S256x128
  let _ : Vec F S256x128 .f32 ← ld .mg ![0, 0] S256x128.size inb_S256x128_S256x128_0_0 h_S256x128
  st .mg ![0, 0] S256x128.size inb_S256x128_S256x128_0_0 h_S256x128 (meanV invd sg) rfl
  let sgx : Vec F S256x128 .f32 ← ld .sgx ![0, 0] S256x128.size inb_S256x128_S256x128_0_0 h_S256x128
  let _ : Vec F S256x128 .f32 ← ld .mgx ![0, 0] S256x128.size inb_S256x128_S256x128_0_0 h_S256x128
  st .mgx ![0, 0] S256x128.size inb_S256x128_S256x128_0_0 h_S256x128 (meanV invd sgx) rfl

section
variable (off : Fin 2 → ℕ) (inb : ∀ a, off a + S1x256.size a ≤ S30x1024.size a)

/-- The scale of the block whose gradient is done, at its place in the scales. -/
def finishScale : Pr F PUnit := do
  let r : Vec F S1x256 .f32 ← ld .rstd off S1x256.size inb h_S1x256
  let wmax : Vec F S256x128 .f32 ← ld .wmax ![0, 0] S256x128.size inb_S256x128_S256x128_0_0 h_S256x128
  let _ : Vec F S256x128 .f32 ← ld .inv ![0, 0] S256x128.size inb_S256x128_S256x128_0_0 h_S256x128
  st .inv ![0, 0] S256x128.size inb_S256x128_S256x128_0_0 h_S256x128 (invV (lanesV r) (expV (biasedV (sizeV (lanesV r) wmax)))) rfl
  let _ : Vec F S1x256 .f32 ← ld .scaleO off S1x256.size inb h_S1x256
  st .scaleO off S1x256.size inb h_S1x256 (scaleV (expV (biasedV (sizeV (lanesV r) wmax)))) rfl

/-- The rows' statistics of the block to be summed, and zero sums. -/
def startSums : Pr F PUnit := do
  let mu : Vec F S1x256 .f32 ← ld .mu off S1x256.size inb h_S1x256
  let _ : Vec F S256x128 .f32 ← ld .muS ![0, 0] S256x128.size inb_S256x128_S256x128_0_0 h_S256x128
  st .muS ![0, 0] S256x128.size inb_S256x128_S256x128_0_0 h_S256x128 (sameR (lanesV mu)) rfl
  let r : Vec F S1x256 .f32 ← ld .rstd off S1x256.size inb h_S1x256
  let _ : Vec F S256x128 .f32 ← ld .rS ![0, 0] S256x128.size inb_S256x128_S256x128_0_0 h_S256x128
  st .rS ![0, 0] S256x128.size inb_S256x128_S256x128_0_0 h_S256x128 (sameR (lanesV r)) rfl
  let _ : Vec F S256x128 .f32 ← ld .sg ![0, 0] S256x128.size inb_S256x128_S256x128_0_0 h_S256x128
  st .sg ![0, 0] S256x128.size inb_S256x128_S256x128_0_0 h_S256x128 zeroV rfl
  let _ : Vec F S256x128 .f32 ← ld .sgx ![0, 0] S256x128.size inb_S256x128_S256x128_0_0 h_S256x128
  st .sgx ![0, 0] S256x128.size inb_S256x128_S256x128_0_0 h_S256x128 zeroV rfl
end

/-- Zero sizes. -/
def startDx : Pr F PUnit := do
  let _ : Vec F S256x128 .f32 ← ld .wmax ![0, 0] S256x128.size inb_S256x128_S256x128_0_0 h_S256x128
  st .wmax ![0, 0] S256x128.size inb_S256x128_S256x128_0_0 h_S256x128 zeroV rfl

/-- The column sums leave. -/
def finishOut : Pr F PUnit := do
  let dg : Vec F S8x5120 .f32 ← ld .dgammaS ![0, 0] S8x5120.size inb_S8x5120_S8x5120_0_0 h_S8x5120
  let _ : Vec F S1x5120 .f32 ← ld .dgammaO ![0, 0] S1x5120.size inb_S1x5120_S1x5120_0_0 h_S1x5120
  st .dgammaO ![0, 0] S1x5120.size inb_S1x5120_S1x5120_0_0 h_S1x5120
    (shapeCast S1x5120 (multiReduction .add [0] S5120 dg 0x00000000#32 reduces_S8x5120_S5120 (.inl rfl) rfl) shapeCasts_S5120_S1x5120) rfl
  let db : Vec F S1x5120 .f32 ← ld .dbetaS ![0, 0] S1x5120.size inb_S8x5120_S1x5120_0_0 h_S1x5120
  let _ : Vec F S1x5120 .f32 ← ld .dbetaO ![0, 0] S1x5120.size inb_S1x5120_S1x5120_0_0 h_S1x5120
  st .dbetaO ![0, 0] S1x5120.size inb_S1x5120_S1x5120_0_0 h_S1x5120 db rfl

/-! ## The five ways a step runs -/

section
variable (invd : F .f32) (off off' : Fin 2 → ℕ) (inb : ∀ a, off a + S1x256.size a ≤ S30x1024.size a)
  (inb' : ∀ a, off' a + S1x256.size a ≤ S30x1024.size a)

/-- The first step: sums only. -/
def pass1 : Pr F PUnit := do
  startSums off inb
  columns ⟨true, false, false⟩

/-- The second: sums and gradient. -/
def pass2 : Pr F PUnit := do
  finishSums invd
  startSums off inb
  startDx
  columns ⟨true, true, false⟩

/-- A step in the middle: sums, gradient and codes; the codes' block is two before. -/
def pass3 : Pr F PUnit := do
  finishScale off' inb'
  finishSums invd
  startSums off inb
  startDx
  columns ⟨true, true, true⟩

/-- The last but one: gradient and codes. -/
def pass4 : Pr F PUnit := do
  finishScale off' inb'
  finishSums invd
  startDx
  columns ⟨false, true, true⟩

/-- The last: codes, and the column sums leave. -/
def pass5 : Pr F PUnit := do
  finishScale off' inb'
  columns ⟨false, false, true⟩
  finishOut
end

section
variable {F : FTy → Type} [FloatOps F] {nD : Nat} {τ : Topo} {sig : RefSig} {Λ : Labels}
variable (M : (b : Buf) → Memref sig .tc .vmem (sh b) (el b)) (hM : ∀ b, (M b).IsWhole)
variable (invd : F .f32) (off off' : Fin 2 → ℕ) (inb : ∀ a, off a + S1x256.size a ≤ S30x1024.size a)
  (inb' : ∀ a, off' a + S1x256.size a ≤ S30x1024.size a)

/-- The columns, as the machine's loop. -/
abbrev loopOf (fl : Flags) : Prog (TpuEff nD τ sig (Elt F) Λ .tc) PUnit :=
  Scf.Loop.for colLoop colLoop_ok () fun k _ => toProg M hM (chunk k fl)

theorem toProg_columns (fl : Flags) :
    toProg (nD := nD) (τ := τ) (Λ := Λ) M hM (columns (F := F) fl) = loopOf M hM fl := toProg_for ..

theorem loopOf_ret (fl : Flags) :
    ((loopOf M hM fl).bind fun _ => .ret ⟨⟩) = toProg (nD := nD) (τ := τ) (Λ := Λ) M hM (columns (F := F) fl) :=
  (Prog.bind_pure _).trans (toProg_columns ..).symm

theorem toProg_pass1 : toProg (nD := nD) (τ := τ) (Λ := Λ) M hM (do setup; pass1 (F := F) off inb) =
    ((toProg M hM (do setup; startSums off inb)).bind fun _ => (loopOf M hM ⟨true, false, false⟩).bind fun _ => .ret ⟨⟩) := by
  rw [loopOf_ret]; exact toProg_bind M hM (do setup; startSums off inb) fun _ => columns _

theorem toProg_pass2 : toProg (nD := nD) (τ := τ) (Λ := Λ) M hM (pass2 invd off inb) =
    ((toProg M hM (do finishSums invd; startSums off inb; startDx)).bind fun _ => (loopOf M hM ⟨true, true, false⟩).bind fun _ => .ret ⟨⟩) := by
  rw [loopOf_ret]; exact toProg_bind M hM (do finishSums invd; startSums off inb; startDx) fun _ => columns _

theorem toProg_pass3 : toProg (nD := nD) (τ := τ) (Λ := Λ) M hM (pass3 invd off off' inb inb') =
    ((toProg M hM (do finishScale off' inb'; finishSums invd; startSums off inb; startDx)).bind
      fun _ => (loopOf M hM ⟨true, true, true⟩).bind fun _ => .ret ⟨⟩) := by
  rw [loopOf_ret]; exact toProg_bind M hM (do finishScale off' inb'; finishSums invd; startSums off inb; startDx) fun _ => columns _

theorem toProg_pass4 : toProg (nD := nD) (τ := τ) (Λ := Λ) M hM (pass4 invd off' inb') =
    ((toProg M hM (do finishScale off' inb'; finishSums invd; startDx)).bind fun _ => (loopOf M hM ⟨false, true, true⟩).bind fun _ => .ret ⟨⟩) := by
  rw [loopOf_ret]; exact toProg_bind M hM (do finishScale off' inb'; finishSums invd; startDx) fun _ => columns _

theorem toProg_pass5 : toProg (nD := nD) (τ := τ) (Λ := Λ) M hM (pass5 (F := F) off' inb') =
    ((toProg M hM (finishScale off' inb')).bind fun _ => (loopOf M hM ⟨false, false, true⟩).bind
      fun _ => toProg M hM finishOut) := by
  rw [← toProg_columns]
  refine (toProg_bind M hM (finishScale off' inb') fun _ => columns _ >>= fun _ => finishOut).trans ?_
  exact congrArg (Prog.bind _) (funext fun _ => toProg_bind M hM (columns _) fun _ => finishOut)
end

end Cert.Body

end
-- ==== Proof.Ideal.lean ====
/- The idealized kernel's body is the body of `Chunk`, run by the machine: each trip of each of its five loops, and each of its
   conditional stretches. -/
module

public import proofs.«01_k».proof.Proof.Chunk
public import proofs.«01_k».proof.Proof.Gen.KernelIdeal.Skeleton

@[expose] public section

set_option maxRecDepth 100000
set_option maxHeartbeats 4000000

noncomputable section

namespace Cert.KernelIdeal.Gen

open Idealize.ShloMosaic Idealize.SL.Sem
open Cert.Machine Cert.Body

variable {F : FTy → Type} [FloatOps F] [Named F]
variable (M : (b : Buf) → Memref sig .tc .vmem (sh b) (el b)) (hM : ∀ b, (M b).IsWhole)

/-- A trip of loop 1 is a chunk. -/
theorem t1_eq (i : grid0.Coords) (h : k0_cond2 i = 1#1) :
    k0_t1_body (F := F) i
    (M .x) (hM .x) (M .dy) (hM .dy) (M .gamma) (hM .gamma) (M .mu) (hM .mu) (M .rstd) (hM .rstd) (M .dgammaO) (hM .dgammaO) (M .dbetaO) (hM
    .dbetaO) (M .codes) (hM .codes) (M .scaleO) (hM .scaleO) (M .xhat) (hM .xhat) (M .g) (hM .g) (M .w) (hM .w) (M .gsplit) (hM .gsplit) (M
    .muS) (hM .muS) (M .rS) (hM .rS) (M .rfin) (hM .rfin) (M .mg) (hM .mg) (M .mgx) (hM .mgx) (M .inv) (hM .inv) (M .sg) (hM .sg) (M .sgx) (hM
    .sgx) (M .wmax) (hM .wmax) (M .dgammaS) (hM .dgammaS) (M .dbetaS) (hM .dbetaS) h
      = fun k _ => toProg M hM (chunk k ⟨true, false, false⟩) := rfl

/-- A trip of loop 2 is a chunk. -/
theorem t2_eq (i : grid0.Coords) (h : k0_cond3 i = 1#1) :
    k0_t2_body (F := F) i
    (M .x) (hM .x) (M .dy) (hM .dy) (M .gamma) (hM .gamma) (M .mu) (hM .mu) (M .rstd) (hM .rstd) (M .dgammaO) (hM .dgammaO) (M .dbetaO) (hM
    .dbetaO) (M .codes) (hM .codes) (M .scaleO) (hM .scaleO) (M .xhat) (hM .xhat) (M .g) (hM .g) (M .w) (hM .w) (M .gsplit) (hM .gsplit) (M
    .muS) (hM .muS) (M .rS) (hM .rS) (M .rfin) (hM .rfin) (M .mg) (hM .mg) (M .mgx) (hM .mgx) (M .inv) (hM .inv) (M .sg) (hM .sg) (M .sgx) (hM
    .sgx) (M .wmax) (hM .wmax) (M .dgammaS) (hM .dgammaS) (M .dbetaS) (hM .dbetaS) h
      = fun k _ => toProg M hM (chunk k ⟨true, true, false⟩) := rfl

/-- A trip of loop 3 is a chunk. -/
theorem t3_eq (i : grid0.Coords) (h : k0_cond4 i = 1#1) :
    k0_t3_body (F := F) i
    (M .x) (hM .x) (M .dy) (hM .dy) (M .gamma) (hM .gamma) (M .mu) (hM .mu) (M .rstd) (hM .rstd) (M .dgammaO) (hM .dgammaO) (M .dbetaO) (hM
    .dbetaO) (M .codes) (hM .codes) (M .scaleO) (hM .scaleO) (M .xhat) (hM .xhat) (M .g) (hM .g) (M .w) (hM .w) (M .gsplit) (hM .gsplit) (M
    .muS) (hM .muS) (M .rS) (hM .rS) (M .rfin) (hM .rfin) (M .mg) (hM .mg) (M .mgx) (hM .mgx) (M .inv) (hM .inv) (M .sg) (hM .sg) (M .sgx) (hM
    .sgx) (M .wmax) (hM .wmax) (M .dgammaS) (hM .dgammaS) (M .dbetaS) (hM .dbetaS) h
      = fun k _ => toProg M hM (chunk k ⟨true, true, true⟩) := rfl

/-- A trip of loop 4 is a chunk. -/
theorem t4_eq (i : grid0.Coords) (h : k0_cond5 i = 1#1) :
    k0_t4_body (F := F) i
    (M .x) (hM .x) (M .dy) (hM .dy) (M .gamma) (hM .gamma) (M .mu) (hM .mu) (M .rstd) (hM .rstd) (M .dgammaO) (hM .dgammaO) (M .dbetaO) (hM
    .dbetaO) (M .codes) (hM .codes) (M .scaleO) (hM .scaleO) (M .xhat) (hM .xhat) (M .g) (hM .g) (M .w) (hM .w) (M .gsplit) (hM .gsplit) (M
    .muS) (hM .muS) (M .rS) (hM .rS) (M .rfin) (hM .rfin) (M .mg) (hM .mg) (M .mgx) (hM .mgx) (M .inv) (hM .inv) (M .sg) (hM .sg) (M .sgx) (hM
    .sgx) (M .wmax) (hM .wmax) (M .dgammaS) (hM .dgammaS) (M .dbetaS) (hM .dbetaS) h
      = fun k _ => toProg M hM (chunk k ⟨false, true, true⟩) := rfl

/-- A trip of loop 5 is a chunk. -/
theorem t5_eq (i : grid0.Coords) (h : k0_cond6 i = 1#1) :
    k0_t5_body (F := F) i
    (M .x) (hM .x) (M .dy) (hM .dy) (M .gamma) (hM .gamma) (M .mu) (hM .mu) (M .rstd) (hM .rstd) (M .dgammaO) (hM .dgammaO) (M .dbetaO) (hM
    .dbetaO) (M .codes) (hM .codes) (M .scaleO) (hM .scaleO) (M .xhat) (hM .xhat) (M .g) (hM .g) (M .w) (hM .w) (M .gsplit) (hM .gsplit) (M
    .muS) (hM .muS) (M .rS) (hM .rS) (M .rfin) (hM .rfin) (M .mg) (hM .mg) (M .mgx) (hM .mgx) (M .inv) (hM .inv) (M .sg) (hM .sg) (M .sgx) (hM
    .sgx) (M .wmax) (hM .wmax) (M .dgammaS) (hM .dgammaS) (M .dbetaS) (hM .dbetaS) h
      = fun k _ => toProg M hM (chunk k ⟨false, false, true⟩) := rfl

/-- The constant `1 / d`. -/
abbrev invd : F .f32 := Named.named κ "inv_d" 0x394CCCCD#32

/-- The first step's first test. -/
abbrev first (i : grid0.Coords) : Prop := Scalar.cmpi .ne (Scalar.extui (Scalar.cmpi .eq (BitVec.ofNat 32 (i 0).val) 0#32)) 0#32 = 1#1

/-- Where only test 2 holds (and the first). -/
theorem step1_eq (i : grid0.Coords) (h1 : first i) (h2 : k0_cond2 i = 1#1) (h3 : ¬ k0_cond3 i = 1#1) (h4 : ¬ k0_cond4 i = 1#1) (h5 : ¬ k0_cond5 i = 1#1) (h6 : ¬ k0_cond6 i = 1#1) :
    cc0_layernorm_bwd_e5m2 (F := F) i
    (M .x) (hM .x) (M .dy) (hM .dy) (M .gamma) (hM .gamma) (M .mu) (hM .mu) (M .rstd) (hM .rstd) (M .dgammaO) (hM .dgammaO) (M .dbetaO) (hM
    .dbetaO) (M .codes) (hM .codes) (M .scaleO) (hM .scaleO) (M .xhat) (hM .xhat) (M .g) (hM .g) (M .w) (hM .w) (M .gsplit) (hM .gsplit) (M
    .muS) (hM .muS) (M .rS) (hM .rS) (M .rfin) (hM .rfin) (M .mg) (hM .mg) (M .mgx) (hM .mgx) (M .inv) (hM .inv) (M .sg) (hM .sg) (M .sgx) (hM
    .sgx) (M .wmax) (hM .wmax) (M .dgammaS) (hM .dgammaS) (M .dbetaS) (hM .dbetaS)
      = toProg M hM (do setup; pass1 (k0_off1 i) (k0_off1_inb i h2)) := by
  rw [cc0_layernorm_bwd_e5m2_eq_skeleton, toProg_pass1]
  unfold cc0_layernorm_bwd_e5m2_skel
  simp only [dif_pos h1, dif_pos h2, dif_neg h3, dif_neg h4, dif_neg h5, dif_neg h6, t1_eq]
  rfl

/-- Where only test 3 holds. -/
theorem step2_eq (i : grid0.Coords) (h1 : ¬ first i) (h2 : ¬ k0_cond2 i = 1#1) (h3 : k0_cond3 i = 1#1) (h4 : ¬ k0_cond4 i = 1#1) (h5 : ¬ k0_cond5 i = 1#1) (h6 : ¬ k0_cond6 i = 1#1) :
    cc0_layernorm_bwd_e5m2 (F := F) i
    (M .x) (hM .x) (M .dy) (hM .dy) (M .gamma) (hM .gamma) (M .mu) (hM .mu) (M .rstd) (hM .rstd) (M .dgammaO) (hM .dgammaO) (M .dbetaO) (hM
    .dbetaO) (M .codes) (hM .codes) (M .scaleO) (hM .scaleO) (M .xhat) (hM .xhat) (M .g) (hM .g) (M .w) (hM .w) (M .gsplit) (hM .gsplit) (M
    .muS) (hM .muS) (M .rS) (hM .rS) (M .rfin) (hM .rfin) (M .mg) (hM .mg) (M .mgx) (hM .mgx) (M .inv) (hM .inv) (M .sg) (hM .sg) (M .sgx) (hM
    .sgx) (M .wmax) (hM .wmax) (M .dgammaS) (hM .dgammaS) (M .dbetaS) (hM .dbetaS)
      = toProg M hM (pass2 invd (k0_off15 i) (k0_off15_inb i h3)) := by
  rw [cc0_layernorm_bwd_e5m2_eq_skeleton, toProg_pass2]
  unfold cc0_layernorm_bwd_e5m2_skel
  simp only [dif_neg h1, dif_neg h2, dif_pos h3, dif_neg h4, dif_neg h5, dif_neg h6, t2_eq]
  rfl

/-- Where only test 4 holds. -/
theorem step3_eq (i : grid0.Coords) (h1 : ¬ first i) (h2 : ¬ k0_cond2 i = 1#1) (h3 : ¬ k0_cond3 i = 1#1) (h4 : k0_cond4 i = 1#1) (h5 : ¬ k0_cond5 i = 1#1) (h6 : ¬ k0_cond6 i = 1#1) :
    cc0_layernorm_bwd_e5m2 (F := F) i
    (M .x) (hM .x) (M .dy) (hM .dy) (M .gamma) (hM .gamma) (M .mu) (hM .mu) (M .rstd) (hM .rstd) (M .dgammaO) (hM .dgammaO) (M .dbetaO) (hM
    .dbetaO) (M .codes) (hM .codes) (M .scaleO) (hM .scaleO) (M .xhat) (hM .xhat) (M .g) (hM .g) (M .w) (hM .w) (M .gsplit) (hM .gsplit) (M
    .muS) (hM .muS) (M .rS) (hM .rS) (M .rfin) (hM .rfin) (M .mg) (hM .mg) (M .mgx) (hM .mgx) (M .inv) (hM .inv) (M .sg) (hM .sg) (M .sgx) (hM
    .sgx) (M .wmax) (hM .wmax) (M .dgammaS) (hM .dgammaS) (M .dbetaS) (hM .dbetaS)
      = toProg M hM (pass3 invd (k0_off30 i) (k0_off29 i) (k0_off30_inb i h4) (k0_off29_inb i h4)) := by
  rw [cc0_layernorm_bwd_e5m2_eq_skeleton, toProg_pass3]
  unfold cc0_layernorm_bwd_e5m2_skel
  simp only [dif_neg h1, dif_neg h2, dif_neg h3, dif_pos h4, dif_neg h5, dif_neg h6, t3_eq]
  rfl

/-- Where only test 5 holds. -/
theorem step4_eq (i : grid0.Coords) (h1 : ¬ first i) (h2 : ¬ k0_cond2 i = 1#1) (h3 : ¬ k0_cond3 i = 1#1) (h4 : ¬ k0_cond4 i = 1#1) (h5 : k0_cond5 i = 1#1) (h6 : ¬ k0_cond6 i = 1#1) :
    cc0_layernorm_bwd_e5m2 (F := F) i
    (M .x) (hM .x) (M .dy) (hM .dy) (M .gamma) (hM .gamma) (M .mu) (hM .mu) (M .rstd) (hM .rstd) (M .dgammaO) (hM .dgammaO) (M .dbetaO) (hM
    .dbetaO) (M .codes) (hM .codes) (M .scaleO) (hM .scaleO) (M .xhat) (hM .xhat) (M .g) (hM .g) (M .w) (hM .w) (M .gsplit) (hM .gsplit) (M
    .muS) (hM .muS) (M .rS) (hM .rS) (M .rfin) (hM .rfin) (M .mg) (hM .mg) (M .mgx) (hM .mgx) (M .inv) (hM .inv) (M .sg) (hM .sg) (M .sgx) (hM
    .sgx) (M .wmax) (hM .wmax) (M .dgammaS) (hM .dgammaS) (M .dbetaS) (hM .dbetaS)
      = toProg M hM (pass4 invd (k0_off44 i) (k0_off44_inb i h5)) := by
  rw [cc0_layernorm_bwd_e5m2_eq_skeleton, toProg_pass4]
  unfold cc0_layernorm_bwd_e5m2_skel
  simp only [dif_neg h1, dif_neg h2, dif_neg h3, dif_neg h4, dif_pos h5, dif_neg h6, t4_eq]
  rfl

/-- Where only test 6 holds. -/
theorem step5_eq (i : grid0.Coords) (h1 : ¬ first i) (h2 : ¬ k0_cond2 i = 1#1) (h3 : ¬ k0_cond3 i = 1#1) (h4 : ¬ k0_cond4 i = 1#1) (h5 : ¬ k0_cond5 i = 1#1) (h6 : k0_cond6 i = 1#1) :
    cc0_layernorm_bwd_e5m2 (F := F) i
    (M .x) (hM .x) (M .dy) (hM .dy) (M .gamma) (hM .gamma) (M .mu) (hM .mu) (M .rstd) (hM .rstd) (M .dgammaO) (hM .dgammaO) (M .dbetaO) (hM
    .dbetaO) (M .codes) (hM .codes) (M .scaleO) (hM .scaleO) (M .xhat) (hM .xhat) (M .g) (hM .g) (M .w) (hM .w) (M .gsplit) (hM .gsplit) (M
    .muS) (hM .muS) (M .rS) (hM .rS) (M .rfin) (hM .rfin) (M .mg) (hM .mg) (M .mgx) (hM .mgx) (M .inv) (hM .inv) (M .sg) (hM .sg) (M .sgx) (hM
    .sgx) (M .wmax) (hM .wmax) (M .dgammaS) (hM .dgammaS) (M .dbetaS) (hM .dbetaS)
      = toProg M hM (pass5 (k0_off53 i) (k0_off53_inb i h6)) := by
  rw [cc0_layernorm_bwd_e5m2_eq_skeleton, toProg_pass5]
  unfold cc0_layernorm_bwd_e5m2_skel
  simp only [dif_neg h1, dif_neg h2, dif_neg h3, dif_neg h4, dif_neg h5, dif_pos h6, t5_eq]
  rfl

end Cert.KernelIdeal.Gen

end
-- ==== Proof.IdealRun.lean ====
/- One grid step of the idealized kernel as one program of the small language over its windows and scratch buffers, and the launch
   of all steps: from an invariant of the scratch buffers that a step keeps, and relations that what a step leaves in each
   window satisfies, the run of the whole program. -/
module

public import proofs.«01_k».proof.Proof.Ideal
public import proofs.«01_k».proof.Proof.Gen.KernelIdeal.Frame
public import Idealize.ShloMosaic.Lib.Pipeline.Frame

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.Machine

variable {F : FTy → Type} [FloatOps F] [Named F]

local notation "𝕄" => MT nD τ sig Unit (Elt F) ℕ (UR sig nD τ) ℕ

/-- What the buffers hold. -/
abbrev State (F : FTy → Type) := St Body.sh Body.el (Elt F)

/-! ## A step as one program -/

/-- The program of step `i`. -/
def stepProg (i : grid0.Coords) : Body.Pr F PUnit :=
  if h : k0_cond2 i = 1#1 then do Body.setup; Body.pass1 (k0_off1 i) (k0_off1_inb i h)
  else if h : k0_cond3 i = 1#1 then Body.pass2 invd (k0_off15 i) (k0_off15_inb i h)
  else if h : k0_cond4 i = 1#1 then Body.pass3 invd (k0_off30 i) (k0_off29 i) (k0_off30_inb i h) (k0_off29_inb i h)
  else if h : k0_cond5 i = 1#1 then Body.pass4 invd (k0_off44 i) (k0_off44_inb i h)
  else if h : k0_cond6 i = 1#1 then Body.pass5 (k0_off53 i) (k0_off53_inb i h)
  else pure ⟨⟩

/-- The tests by the step's number. -/
theorem tests : ∀ t : Fin cfg0.N,
    (first (grid0.coords t) ↔ t.val = 0) ∧ (k0_cond2 (grid0.coords t) = 1#1 ↔ t.val = 0) ∧ (k0_cond3 (grid0.coords t) = 1#1 ↔ t.val = 1)
      ∧ (k0_cond4 (grid0.coords t) = 1#1 ↔ 2 ≤ t.val ∧ t.val < 120) ∧ (k0_cond5 (grid0.coords t) = 1#1 ↔ t.val = 120)
      ∧ (k0_cond6 (grid0.coords t) = 1#1 ↔ t.val = 121) := by
  show ∀ t : Fin grid0.N, _
  decide +kernel

/-- The memrefs a step is run on. -/
def refs (t : Fin cfg0.N) : (b : Body.Buf) → Memref sig .tc .vmem (Body.sh b) (Body.el b)
  | .x => win0_0.stage (cfg0.slots t 0)
  | .dy => win0_1.stage (cfg0.slots t 1)
  | .gamma => win0_2.stage (cfg0.slots t 2)
  | .mu => win0_3.stage (cfg0.slots t 3)
  | .rstd => win0_4.stage (cfg0.slots t 4)
  | .dgammaO => win0_5.stage (cfg0.slots t 5)
  | .dbetaO => win0_6.stage (cfg0.slots t 6)
  | .codes => win0_7.stage (cfg0.slots t 7)
  | .scaleO => win0_8.stage (cfg0.slots t 8)
  | .xhat => Memref.whole cc0_scratch0
  | .g => Memref.whole cc0_scratch1
  | .w => Memref.whole cc0_scratch2
  | .gsplit => Memref.whole cc0_scratch3
  | .muS => Memref.whole cc0_scratch4
  | .rS => Memref.whole cc0_scratch5
  | .rfin => Memref.whole cc0_scratch6
  | .mg => Memref.whole cc0_scratch7
  | .mgx => Memref.whole cc0_scratch8
  | .inv => Memref.whole cc0_scratch9
  | .sg => Memref.whole cc0_scratch10
  | .sgx => Memref.whole cc0_scratch11
  | .wmax => Memref.whole cc0_scratch12
  | .dgammaS => Memref.whole cc0_scratch13
  | .dbetaS => Memref.whole cc0_scratch14

theorem refs_whole (t : Fin cfg0.N) : ∀ b, (refs t b).IsWhole
  | .x => hstage0_0 ((cfg0.slots t 0).cast nbuf0_0)
  | .dy => hstage0_1 ((cfg0.slots t 1).cast nbuf0_1)
  | .gamma => hstage0_2 ((cfg0.slots t 2).cast nbuf0_2)
  | .mu => hstage0_3 ((cfg0.slots t 3).cast nbuf0_3)
  | .rstd => hstage0_4 ((cfg0.slots t 4).cast nbuf0_4)
  | .dgammaO => hstage0_5 ((cfg0.slots t 5).cast nbuf0_5)
  | .dbetaO => hstage0_6 ((cfg0.slots t 6).cast nbuf0_6)
  | .codes => hstage0_7 ((cfg0.slots t 7).cast nbuf0_7)
  | .scaleO => hstage0_8 ((cfg0.slots t 8).cast nbuf0_8)
  | .xhat => Memref.isWhole_whole _
  | .g => Memref.isWhole_whole _
  | .w => Memref.isWhole_whole _
  | .gsplit => Memref.isWhole_whole _
  | .muS => Memref.isWhole_whole _
  | .rS => Memref.isWhole_whole _
  | .rfin => Memref.isWhole_whole _
  | .mg => Memref.isWhole_whole _
  | .mgx => Memref.isWhole_whole _
  | .inv => Memref.isWhole_whole _
  | .sg => Memref.isWhole_whole _
  | .sgx => Memref.isWhole_whole _
  | .wmax => Memref.isWhole_whole _
  | .dgammaS => Memref.isWhole_whole _
  | .dbetaS => Memref.isWhole_whole _

/-- A step's body is its program, run by the machine. -/
theorem bodyAt_eq (t : Fin cfg0.N) :
    bodyAt0 (F := F) t = toProg (refs t) (refs_whole t) (stepProg (grid0.coords t)) := by
  have T := tests t
  unfold stepProg
  by_cases h2 : k0_cond2 (grid0.coords t) = 1#1
  · rw [dif_pos h2]
    refine step1_eq (refs t) (refs_whole t) _ ?_ h2 ?_ ?_ ?_ ?_ <;> simp only [T] <;> simp only [T] at h2 <;> omega
  rw [dif_neg h2]
  by_cases h3 : k0_cond3 (grid0.coords t) = 1#1
  · rw [dif_pos h3]
    refine step2_eq (refs t) (refs_whole t) _ ?_ h2 h3 ?_ ?_ ?_ <;> simp only [T] <;> simp only [T] at h3 <;> omega
  rw [dif_neg h3]
  by_cases h4 : k0_cond4 (grid0.coords t) = 1#1
  · rw [dif_pos h4]
    refine step3_eq (refs t) (refs_whole t) _ ?_ h2 h3 h4 ?_ ?_ <;> simp only [T] <;> simp only [T] at h4 <;> omega
  rw [dif_neg h4]
  by_cases h5 : k0_cond5 (grid0.coords t) = 1#1
  · rw [dif_pos h5]
    refine step4_eq (refs t) (refs_whole t) _ ?_ h2 h3 h4 h5 ?_ <;> simp only [T] <;> simp only [T] at h5 <;> omega
  rw [dif_neg h5]
  by_cases h6 : k0_cond6 (grid0.coords t) = 1#1
  · rw [dif_pos h6]
    refine step5_eq (refs t) (refs_whole t) _ ?_ h2 h3 h4 h5 h6 <;> simp only [T] <;> simp only [T] at h6 <;> omega
  exfalso
  have hl : t.val < 122 := t.isLt
  simp only [T] at h2 h3 h4 h5 h6
  omega

/-! ## The windows among the buffers -/

/-- Contents of the nine windows. -/
abbrev Wins (F : FTy → Type) := (w : Fin cfg0.W) → (cfg0.win w).block.Idx → Elt F (cfg0.win w).elt

/-- The buffers, the windows at `Y` and the scratch buffers as in `S`. -/
def enter (Y : Wins F) (S : State F) : State F
  | .x => Y 0
  | .dy => Y 1
  | .gamma => Y 2
  | .mu => Y 3
  | .rstd => Y 4
  | .dgammaO => Y 5
  | .dbetaO => Y 6
  | .codes => Y 7
  | .scaleO => Y 8
  | .xhat => S .xhat
  | .g => S .g
  | .w => S .w
  | .gsplit => S .gsplit
  | .muS => S .muS
  | .rS => S .rS
  | .rfin => S .rfin
  | .mg => S .mg
  | .mgx => S .mgx
  | .inv => S .inv
  | .sg => S .sg
  | .sgx => S .sgx
  | .wmax => S .wmax
  | .dgammaS => S .dgammaS
  | .dbetaS => S .dbetaS

/-- The windows of the buffers. -/
def leave (S : State F) : Wins F
  | 0 => S .x
  | 1 => S .dy
  | 2 => S .gamma
  | 3 => S .mu
  | 4 => S .rstd
  | 5 => S .dgammaO
  | 6 => S .dbetaO
  | 7 => S .codes
  | 8 => S .scaleO

/-- The scratch buffers are owned, at what `S` says. -/
def scratch (c : Dev nD) (S : State F) : sProp 𝕄 :=
  iprop(owns (c : Thread nD τ) (Memref.whole cc0_scratch0) fullShare (S .xhat)
    ∗ owns (c : Thread nD τ) (Memref.whole cc0_scratch1) fullShare (S .g)
    ∗ owns (c : Thread nD τ) (Memref.whole cc0_scratch2) fullShare (S .w)
    ∗ owns (c : Thread nD τ) (Memref.whole cc0_scratch3) fullShare (S .gsplit)
    ∗ owns (c : Thread nD τ) (Memref.whole cc0_scratch4) fullShare (S .muS)
    ∗ owns (c : Thread nD τ) (Memref.whole cc0_scratch5) fullShare (S .rS)
    ∗ owns (c : Thread nD τ) (Memref.whole cc0_scratch6) fullShare (S .rfin)
    ∗ owns (c : Thread nD τ) (Memref.whole cc0_scratch7) fullShare (S .mg)
    ∗ owns (c : Thread nD τ) (Memref.whole cc0_scratch8) fullShare (S .mgx)
    ∗ owns (c : Thread nD τ) (Memref.whole cc0_scratch9) fullShare (S .inv)
    ∗ owns (c : Thread nD τ) (Memref.whole cc0_scratch10) fullShare (S .sg)
    ∗ owns (c : Thread nD τ) (Memref.whole cc0_scratch11) fullShare (S .sgx)
    ∗ owns (c : Thread nD τ) (Memref.whole cc0_scratch12) fullShare (S .wmax)
    ∗ owns (c : Thread nD τ) (Memref.whole cc0_scratch13) fullShare (S .dgammaS)
    ∗ owns (c : Thread nD τ) (Memref.whole cc0_scratch14) fullShare (S .dbetaS))

/-- All buffers owned, one by one. -/
theorem own_eq (c : Dev nD) (t : Fin cfg0.N) (S : State F) :
    (own c (refs t) S : sProp 𝕄) = iprop(owns (c : Thread nD τ) (refs t .x) fullShare (S .x)
      ∗ owns (c : Thread nD τ) (refs t .dy) fullShare (S .dy)
      ∗ owns (c : Thread nD τ) (refs t .gamma) fullShare (S .gamma)
      ∗ owns (c : Thread nD τ) (refs t .mu) fullShare (S .mu)
      ∗ owns (c : Thread nD τ) (refs t .rstd) fullShare (S .rstd)
      ∗ owns (c : Thread nD τ) (refs t .dgammaO) fullShare (S .dgammaO)
      ∗ owns (c : Thread nD τ) (refs t .dbetaO) fullShare (S .dbetaO)
      ∗ owns (c : Thread nD τ) (refs t .codes) fullShare (S .codes)
      ∗ owns (c : Thread nD τ) (refs t .scaleO) fullShare (S .scaleO)
      ∗ owns (c : Thread nD τ) (refs t .xhat) fullShare (S .xhat)
      ∗ owns (c : Thread nD τ) (refs t .g) fullShare (S .g)
      ∗ owns (c : Thread nD τ) (refs t .w) fullShare (S .w)
      ∗ owns (c : Thread nD τ) (refs t .gsplit) fullShare (S .gsplit)
      ∗ owns (c : Thread nD τ) (refs t .muS) fullShare (S .muS)
      ∗ owns (c : Thread nD τ) (refs t .rS) fullShare (S .rS)
      ∗ owns (c : Thread nD τ) (refs t .rfin) fullShare (S .rfin)
      ∗ owns (c : Thread nD τ) (refs t .mg) fullShare (S .mg)
      ∗ owns (c : Thread nD τ) (refs t .mgx) fullShare (S .mgx)
      ∗ owns (c : Thread nD τ) (refs t .inv) fullShare (S .inv)
      ∗ owns (c : Thread nD τ) (refs t .sg) fullShare (S .sg)
      ∗ owns (c : Thread nD τ) (refs t .sgx) fullShare (S .sgx)
      ∗ owns (c : Thread nD τ) (refs t .wmax) fullShare (S .wmax)
      ∗ owns (c : Thread nD τ) (refs t .dgammaS) fullShare (S .dgammaS)
      ∗ owns (c : Thread nD τ) (refs t .dbetaS) fullShare (S .dbetaS)) :=
  bigSep_univ_eq_bigSepL [Body.Buf.x, Body.Buf.dy, Body.Buf.gamma, Body.Buf.mu, Body.Buf.rstd, Body.Buf.dgammaO, Body.Buf.dbetaO, Body.Buf.codes, Body.Buf.scaleO, Body.Buf.xhat, Body.Buf.g, Body.Buf.w, Body.Buf.gsplit, Body.Buf.muS, Body.Buf.rS, Body.Buf.rfin, Body.Buf.mg, Body.Buf.mgx, Body.Buf.inv, Body.Buf.sg, Body.Buf.sgx, Body.Buf.wmax, Body.Buf.dgammaS, Body.Buf.dbetaS] (by decide) (by decide) _

/-! ## The launch -/

variable (m : (ℓ : Loc nD τ sig) → Buf (Elt F) ℓ) (ρ : Dev nD → PrngReg)
variable (Inv : Dev nD → Fin (cfg0.N + 1) → State F → Prop)
variable (Aft : Dev nD → (w : Fin cfg0.W) → Fin cfg0.N → (Y X : (cfg0.win w).block.Idx → Elt F (cfg0.win w).elt) → Prop)

/-- The launch's data: the scratch buffers satisfy `Inv` between steps; a step leaves in each window what `Aft` allows. -/
def rdat (c : Dev nD) : RDat τ (Elt F) Unit ℕ (UR sig nD τ) ℕ cfg0 c where
  A w := V m c (Pipeline.arrRef spec0 w)
  after w t Y X := Aft c w t Y X
  Φ t := iprop(∃ S, ⌜Inv c t S⌝ ∗ scratch c S ∗ ∃ r, prngReg c r)
  q _ := fullShare
  owed _ := 0

theorem defs₀_row (t : Fin cfg0.N) : defs₀ (F := F) .tc cfg0.body (cfg0.bodyArgs t (cfg0.slots t)) = bodyAt0 t := by
  unfold defs₀; rw [Defs.onTc_tc]

set_option maxHeartbeats 1000000 in
/-- A step does what the launch's data ask of it, if its program does. -/
theorem body_obligation (c : Dev nD)
    (hstep : ∀ (t : Fin cfg0.N) (Y : Wins F) (S : State F), (∀ w, (rdat m Inv Aft c).Finds w t (Y w)) → Inv c t.castSucc S →
      Inv c t.succ (exec (stepProg (grid0.coords t)) (enter Y S)).2
        ∧ ∀ w, Aft c w t (Y w) (leave (exec (stepProg (grid0.coords t)) (enter Y S)).2 w)) :
    (rdat m Inv Aft c).BodyObligation (defs₀ (F := F)) Variants.none () Set.univ := fun t Y hY => by
  rw [bigSep_W0, bigSep_W0, defs₀_row, bodyAt_eq]
  rw [show (rdat m Inv Aft c).owesAt () t.succ = (rdat m Inv Aft c).owesAt () t.castSucc from rfl]
  rw [show (rdat m Inv Aft c).Φ t.castSucc = iprop(∃ S, ⌜Inv c t.castSucc S⌝ ∗ scratch c S ∗ ∃ r, prngReg c r) from rfl,
    show (rdat m Inv Aft c).Φ t.succ = iprop(∃ S, ⌜Inv c t.succ S⌝ ∗ scratch c S ∗ ∃ r, prngReg c r) from rfl]
  iintro ⟨⟨%S, %hI, Hs, Hg⟩, HO, W0, W1, W2, W3, W4, W5, W6, W7, W8⟩
  obtain ⟨h1, h2⟩ := hstep t Y S hY hI
  iapply (wp_toProg (defs := defs₀ (F := F)) Variants.none c none Set.univ (refs t) (refs_whole t) (stepProg (grid0.coords t)) (enter Y S) _)
  isplitl [Hs W0 W1 W2 W3 W4 W5 W6 W7 W8]
  · rw [own_eq]; unfold scratch
    icases Hs with ⟨H0, H1, H2, H3, H4, H5, H6, H7, H8, H9, H10, H11, H12, H13, H14⟩
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · rw [own_eq]
    iintro ⟨W0, W1, W2, W3, W4, W5, W6, W7, W8, H0, H1, H2, H3, H4, H5, H6, H7, H8, H9, H10, H11, H12, H13, H14⟩
    isplitl [H0 H1 H2 H3 H4 H5 H6 H7 H8 H9 H10 H11 H12 H13 H14 Hg]
    · iexists (exec (stepProg (grid0.coords t)) (enter Y S)).2
      isplitr
      · ipureintro; exact h1
      isplitr [Hg]
      · unfold scratch
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
      iexact Hg
    isplitl [HO]; · iexact HO
    isplitl [W0]
    · iexists (leave (exec (stepProg (grid0.coords t)) (enter Y S)).2 0); isplitr
      · ipureintro; exact h2 0
      iexact W0
    isplitl [W1]
    · iexists (leave (exec (stepProg (grid0.coords t)) (enter Y S)).2 1); isplitr
      · ipureintro; exact h2 1
      iexact W1
    isplitl [W2]
    · iexists (leave (exec (stepProg (grid0.coords t)) (enter Y S)).2 2); isplitr
      · ipureintro; exact h2 2
      iexact W2
    isplitl [W3]
    · iexists (leave (exec (stepProg (grid0.coords t)) (enter Y S)).2 3); isplitr
      · ipureintro; exact h2 3
      iexact W3
    isplitl [W4]
    · iexists (leave (exec (stepProg (grid0.coords t)) (enter Y S)).2 4); isplitr
      · ipureintro; exact h2 4
      iexact W4
    isplitl [W5]
    · iexists (leave (exec (stepProg (grid0.coords t)) (enter Y S)).2 5); isplitr
      · ipureintro; exact h2 5
      iexact W5
    isplitl [W6]
    · iexists (leave (exec (stepProg (grid0.coords t)) (enter Y S)).2 6); isplitr
      · ipureintro; exact h2 6
      iexact W6
    isplitl [W7]
    · iexists (leave (exec (stepProg (grid0.coords t)) (enter Y S)).2 7); isplitr
      · ipureintro; exact h2 7
      iexact W7
    iexists (leave (exec (stepProg (grid0.coords t)) (enter Y S)).2 8); isplitr
    · ipureintro; exact h2 8
    iexact W8

/-- The scratch buffers at anything are the launch's. -/
theorem scratch_in (c : Dev nD) :
    Pipeline.ΦA (U := UR sig nD τ) (Val := Elt F) spec0 c ⊢ iprop(∃ S : State F, scratch c S ∗ ∃ r, prngReg c r) := by
  unfold Pipeline.ΦA scratch
  rw [scopedRest0_eq]; simp only [owns_whole]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩⟩, Hg⟩
  iexists (fun b => match b with
    | .x => fun _ => Scalar.ofBits .bf16 0#16
    | .dy => fun _ => Scalar.ofBits .bf16 0#16
    | .gamma => fun _ => Scalar.ofBits .f32 0#32
    | .mu => fun _ => Scalar.ofBits .f32 0#32
    | .rstd => fun _ => Scalar.ofBits .f32 0#32
    | .dgammaO => fun _ => Scalar.ofBits .f32 0#32
    | .dbetaO => fun _ => Scalar.ofBits .f32 0#32
    | .codes => fun _ => Scalar.ofBits .fp8e5m2 0#8
    | .scaleO => fun _ => Scalar.ofBits .f32 0#32
    | .xhat => f0
    | .g => f1
    | .w => f2
    | .gsplit => f3
    | .muS => f4
    | .rS => f5
    | .rfin => f6
    | .mg => f7
    | .mgx => f8
    | .inv => f9
    | .sg => f10
    | .sgx => f11
    | .wmax => f12
    | .dgammaS => f13
    | .dbetaS => f14 : State F)
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iexact Hg

/-- The launch takes them back. -/
theorem scratch_out (c : Dev nD) (S : State F) :
    iprop(scratch c S ∗ ∃ r, prngReg c r) ⊢ Pipeline.ΦA (U := UR sig nD τ) (Val := Elt F) spec0 c := by
  unfold Pipeline.ΦA scratch
  rw [scopedRest0_eq]; simp only [owns_whole]
  iintro ⟨⟨H0, H1, H2, H3, H4, H5, H6, H7, H8, H9, H10, H11, H12, H13, H14⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14
  iexact Hg

set_option backward.isDefEq.respectTransparency.types false in
/-- The run: if any scratch contents satisfy the invariant at the start, and a step keeps it, the program ends with every
    window's array at something its relations allow, every other array as it was, and every semaphore at zero. -/
theorem run_of (hstart : ∀ c S, Inv c 0 S)
    (hstep : ∀ (c : Dev nD) (t : Fin cfg0.N) (Y : Wins F) (S : State F), (∀ w, (rdat m Inv Aft c).Finds w t (Y w)) →
      Inv c t.castSucc S → Inv c t.succ (exec (stepProg (grid0.coords t)) (enter Y S)).2
        ∧ ∀ w, Aft c w t (Y w) (leave (exec (stepProg (grid0.coords t)) (enter Y S)).2 w)) :
    θ_run defs (onTc (τ := τ) (main (F := F))) (s₀ m ρ)
      (fun r => RDat.FramePost (cfgs 0) (rdat m Inv Aft) (V m) r ∧ r.2.sem = fun _ => 0) :=
  RDat.θ_run_frame_track (Q' := _) cfgs (0 : Fin 1) launch0 defs₀ Variants.none (rdat m Inv Aft) m ρ main
    (hbody := fun c => body_obligation m Inv Aft c (hstep c))
    (hshare := fun c w => by unfold RDat.share; exact ite_self _) (howed := fun _ _ => rfl) (V := V m) (hmain := hmain m Variants.none)
    (hA := fun _ _ => rfl)
    (hin := fun c => (scratch_in c).trans (by
      show _ ⊢ iprop(∃ S, ⌜Inv c 0 S⌝ ∗ scratch c S ∗ ∃ r, prngReg c r)
      iintro ⟨%S, H⟩; iexists S; isplitr
      · ipureintro; exact hstart c S
      iexact H))
    (hout := fun c => by
      show iprop(∃ S, ⌜Inv c (Fin.last cfg0.N) S⌝ ∗ scratch c S ∗ ∃ r, prngReg c r) ⊢ _
      iintro ⟨%S, -, H⟩
      iapply (scratch_out c S); iexact H)
    (hQ' := fun _ h => h)

variable {m ρ}

/-- After the run every argument is as it was. -/
theorem args_of {r : PUnit × MemSt nD τ sig (Elt F)} (h : RDat.FramePost (cfgs 0) (rdat m Inv Aft) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c), ?_, ?_⟩
  · have h3 := (h c).1 3
    rw [RDat.ArrAt_in _ 3 rfl] at h3
    exact h3.trans (V_main_arg3 m c)
  · have h4 := (h c).1 4
    rw [RDat.ArrAt_in _ 4 rfl] at h4
    exact h4.trans (V_main_arg4 m c)

variable (m ρ) in
/-- The frame: the program ends, its arguments unchanged, every semaphore at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨args_of _ _ h.1, h.2⟩)
    (run_of m ρ (fun _ _ _ => True) (fun _ _ _ _ _ => True) (fun _ _ => trivial) fun _ _ _ _ _ _ => ⟨trivial, fun _ => trivial⟩)

end Cert.KernelIdeal.Gen

end
-- ==== Proof.Printed.lean ====
/- The printed kernel's body is the body of `Chunk`, run by the machine: each trip of each of its five loops, and each of its
   conditional stretches. -/
module

public import proofs.«01_k».proof.Proof.Chunk
public import proofs.«01_k».proof.Proof.Gen.Kernel.Skeleton

@[expose] public section

set_option maxRecDepth 100000
set_option maxHeartbeats 4000000

noncomputable section

namespace Cert.Kernel.Gen

open Idealize.ShloMosaic Idealize.SL.Sem
open Cert.Machine Cert.Body

variable {F : FTy → Type} [FloatOps F]
variable (M : (b : Buf) → Memref sig .tc .vmem (sh b) (el b)) (hM : ∀ b, (M b).IsWhole)

/-- A trip of loop 1 is a chunk. -/
theorem t1_eq (i : grid0.Coords) (h : k0_cond2 i = 1#1) :
    k0_t1_body (F := F) i
    (M .x) (hM .x) (M .dy) (hM .dy) (M .gamma) (hM .gamma) (M .mu) (hM .mu) (M .rstd) (hM .rstd) (M .dgammaO) (hM .dgammaO) (M .dbetaO) (hM
    .dbetaO) (M .codes) (hM .codes) (M .scaleO) (hM .scaleO) (M .xhat) (hM .xhat) (M .g) (hM .g) (M .w) (hM .w) (M .gsplit) (hM .gsplit) (M
    .muS) (hM .muS) (M .rS) (hM .rS) (M .rfin) (hM .rfin) (M .mg) (hM .mg) (M .mgx) (hM .mgx) (M .inv) (hM .inv) (M .sg) (hM .sg) (M .sgx) (hM
    .sgx) (M .wmax) (hM .wmax) (M .dgammaS) (hM .dgammaS) (M .dbetaS) (hM .dbetaS) h
      = fun k _ => toProg M hM (chunk k ⟨true, false, false⟩) := rfl

/-- A trip of loop 2 is a chunk. -/
theorem t2_eq (i : grid0.Coords) (h : k0_cond3 i = 1#1) :
    k0_t2_body (F := F) i
    (M .x) (hM .x) (M .dy) (hM .dy) (M .gamma) (hM .gamma) (M .mu) (hM .mu) (M .rstd) (hM .rstd) (M .dgammaO) (hM .dgammaO) (M .dbetaO) (hM
    .dbetaO) (M .codes) (hM .codes) (M .scaleO) (hM .scaleO) (M .xhat) (hM .xhat) (M .g) (hM .g) (M .w) (hM .w) (M .gsplit) (hM .gsplit) (M
    .muS) (hM .muS) (M .rS) (hM .rS) (M .rfin) (hM .rfin) (M .mg) (hM .mg) (M .mgx) (hM .mgx) (M .inv) (hM .inv) (M .sg) (hM .sg) (M .sgx) (hM
    .sgx) (M .wmax) (hM .wmax) (M .dgammaS) (hM .dgammaS) (M .dbetaS) (hM .dbetaS) h
      = fun k _ => toProg M hM (chunk k ⟨true, true, false⟩) := rfl

/-- A trip of loop 3 is a chunk. -/
theorem t3_eq (i : grid0.Coords) (h : k0_cond4 i = 1#1) :
    k0_t3_body (F := F) i
    (M .x) (hM .x) (M .dy) (hM .dy) (M .gamma) (hM .gamma) (M .mu) (hM .mu) (M .rstd) (hM .rstd) (M .dgammaO) (hM .dgammaO) (M .dbetaO) (hM
    .dbetaO) (M .codes) (hM .codes) (M .scaleO) (hM .scaleO) (M .xhat) (hM .xhat) (M .g) (hM .g) (M .w) (hM .w) (M .gsplit) (hM .gsplit) (M
    .muS) (hM .muS) (M .rS) (hM .rS) (M .rfin) (hM .rfin) (M .mg) (hM .mg) (M .mgx) (hM .mgx) (M .inv) (hM .inv) (M .sg) (hM .sg) (M .sgx) (hM
    .sgx) (M .wmax) (hM .wmax) (M .dgammaS) (hM .dgammaS) (M .dbetaS) (hM .dbetaS) h
      = fun k _ => toProg M hM (chunk k ⟨true, true, true⟩) := rfl

/-- A trip of loop 4 is a chunk. -/
theorem t4_eq (i : grid0.Coords) (h : k0_cond5 i = 1#1) :
    k0_t4_body (F := F) i
    (M .x) (hM .x) (M .dy) (hM .dy) (M .gamma) (hM .gamma) (M .mu) (hM .mu) (M .rstd) (hM .rstd) (M .dgammaO) (hM .dgammaO) (M .dbetaO) (hM
    .dbetaO) (M .codes) (hM .codes) (M .scaleO) (hM .scaleO) (M .xhat) (hM .xhat) (M .g) (hM .g) (M .w) (hM .w) (M .gsplit) (hM .gsplit) (M
    .muS) (hM .muS) (M .rS) (hM .rS) (M .rfin) (hM .rfin) (M .mg) (hM .mg) (M .mgx) (hM .mgx) (M .inv) (hM .inv) (M .sg) (hM .sg) (M .sgx) (hM
    .sgx) (M .wmax) (hM .wmax) (M .dgammaS) (hM .dgammaS) (M .dbetaS) (hM .dbetaS) h
      = fun k _ => toProg M hM (chunk k ⟨false, true, true⟩) := rfl

/-- A trip of loop 5 is a chunk. -/
theorem t5_eq (i : grid0.Coords) (h : k0_cond6 i = 1#1) :
    k0_t5_body (F := F) i
    (M .x) (hM .x) (M .dy) (hM .dy) (M .gamma) (hM .gamma) (M .mu) (hM .mu) (M .rstd) (hM .rstd) (M .dgammaO) (hM .dgammaO) (M .dbetaO) (hM
    .dbetaO) (M .codes) (hM .codes) (M .scaleO) (hM .scaleO) (M .xhat) (hM .xhat) (M .g) (hM .g) (M .w) (hM .w) (M .gsplit) (hM .gsplit) (M
    .muS) (hM .muS) (M .rS) (hM .rS) (M .rfin) (hM .rfin) (M .mg) (hM .mg) (M .mgx) (hM .mgx) (M .inv) (hM .inv) (M .sg) (hM .sg) (M .sgx) (hM
    .sgx) (M .wmax) (hM .wmax) (M .dgammaS) (hM .dgammaS) (M .dbetaS) (hM .dbetaS) h
      = fun k _ => toProg M hM (chunk k ⟨false, false, true⟩) := rfl

/-- The constant `1 / d`. -/
abbrev invd : F .f32 := Scalar.ofBits .f32 0x394CCCCD#32

/-- The first step's first test. -/
abbrev first (i : grid0.Coords) : Prop := Scalar.cmpi .ne (Scalar.extui (Scalar.cmpi .eq (BitVec.ofNat 32 (i 0).val) 0#32)) 0#32 = 1#1

/-- Where only test 2 holds (and the first). -/
theorem step1_eq (i : grid0.Coords) (h1 : first i) (h2 : k0_cond2 i = 1#1) (h3 : ¬ k0_cond3 i = 1#1) (h4 : ¬ k0_cond4 i = 1#1) (h5 : ¬ k0_cond5 i = 1#1) (h6 : ¬ k0_cond6 i = 1#1) :
    cc0_layernorm_bwd_e5m2 (F := F) i
    (M .x) (hM .x) (M .dy) (hM .dy) (M .gamma) (hM .gamma) (M .mu) (hM .mu) (M .rstd) (hM .rstd) (M .dgammaO) (hM .dgammaO) (M .dbetaO) (hM
    .dbetaO) (M .codes) (hM .codes) (M .scaleO) (hM .scaleO) (M .xhat) (hM .xhat) (M .g) (hM .g) (M .w) (hM .w) (M .gsplit) (hM .gsplit) (M
    .muS) (hM .muS) (M .rS) (hM .rS) (M .rfin) (hM .rfin) (M .mg) (hM .mg) (M .mgx) (hM .mgx) (M .inv) (hM .inv) (M .sg) (hM .sg) (M .sgx) (hM
    .sgx) (M .wmax) (hM .wmax) (M .dgammaS) (hM .dgammaS) (M .dbetaS) (hM .dbetaS)
      = toProg M hM (do setup; pass1 (k0_off1 i) (k0_off1_inb i h2)) := by
  rw [cc0_layernorm_bwd_e5m2_eq_skeleton, toProg_pass1]
  unfold cc0_layernorm_bwd_e5m2_skel
  simp only [dif_pos h1, dif_pos h2, dif_neg h3, dif_neg h4, dif_neg h5, dif_neg h6, t1_eq]
  rfl

/-- Where only test 3 holds. -/
theorem step2_eq (i : grid0.Coords) (h1 : ¬ first i) (h2 : ¬ k0_cond2 i = 1#1) (h3 : k0_cond3 i = 1#1) (h4 : ¬ k0_cond4 i = 1#1) (h5 : ¬ k0_cond5 i = 1#1) (h6 : ¬ k0_cond6 i = 1#1) :
    cc0_layernorm_bwd_e5m2 (F := F) i
    (M .x) (hM .x) (M .dy) (hM .dy) (M .gamma) (hM .gamma) (M .mu) (hM .mu) (M .rstd) (hM .rstd) (M .dgammaO) (hM .dgammaO) (M .dbetaO) (hM
    .dbetaO) (M .codes) (hM .codes) (M .scaleO) (hM .scaleO) (M .xhat) (hM .xhat) (M .g) (hM .g) (M .w) (hM .w) (M .gsplit) (hM .gsplit) (M
    .muS) (hM .muS) (M .rS) (hM .rS) (M .rfin) (hM .rfin) (M .mg) (hM .mg) (M .mgx) (hM .mgx) (M .inv) (hM .inv) (M .sg) (hM .sg) (M .sgx) (hM
    .sgx) (M .wmax) (hM .wmax) (M .dgammaS) (hM .dgammaS) (M .dbetaS) (hM .dbetaS)
      = toProg M hM (pass2 invd (k0_off15 i) (k0_off15_inb i h3)) := by
  rw [cc0_layernorm_bwd_e5m2_eq_skeleton, toProg_pass2]
  unfold cc0_layernorm_bwd_e5m2_skel
  simp only [dif_neg h1, dif_neg h2, dif_pos h3, dif_neg h4, dif_neg h5, dif_neg h6, t2_eq]
  rfl

/-- Where only test 4 holds. -/
theorem step3_eq (i : grid0.Coords) (h1 : ¬ first i) (h2 : ¬ k0_cond2 i = 1#1) (h3 : ¬ k0_cond3 i = 1#1) (h4 : k0_cond4 i = 1#1) (h5 : ¬ k0_cond5 i = 1#1) (h6 : ¬ k0_cond6 i = 1#1) :
    cc0_layernorm_bwd_e5m2 (F := F) i
    (M .x) (hM .x) (M .dy) (hM .dy) (M .gamma) (hM .gamma) (M .mu) (hM .mu) (M .rstd) (hM .rstd) (M .dgammaO) (hM .dgammaO) (M .dbetaO) (hM
    .dbetaO) (M .codes) (hM .codes) (M .scaleO) (hM .scaleO) (M .xhat) (hM .xhat) (M .g) (hM .g) (M .w) (hM .w) (M .gsplit) (hM .gsplit) (M
    .muS) (hM .muS) (M .rS) (hM .rS) (M .rfin) (hM .rfin) (M .mg) (hM .mg) (M .mgx) (hM .mgx) (M .inv) (hM .inv) (M .sg) (hM .sg) (M .sgx) (hM
    .sgx) (M .wmax) (hM .wmax) (M .dgammaS) (hM .dgammaS) (M .dbetaS) (hM .dbetaS)
      = toProg M hM (pass3 invd (k0_off30 i) (k0_off29 i) (k0_off30_inb i h4) (k0_off29_inb i h4)) := by
  rw [cc0_layernorm_bwd_e5m2_eq_skeleton, toProg_pass3]
  unfold cc0_layernorm_bwd_e5m2_skel
  simp only [dif_neg h1, dif_neg h2, dif_neg h3, dif_pos h4, dif_neg h5, dif_neg h6, t3_eq]
  rfl

/-- Where only test 5 holds. -/
theorem step4_eq (i : grid0.Coords) (h1 : ¬ first i) (h2 : ¬ k0_cond2 i = 1#1) (h3 : ¬ k0_cond3 i = 1#1) (h4 : ¬ k0_cond4 i = 1#1) (h5 : k0_cond5 i = 1#1) (h6 : ¬ k0_cond6 i = 1#1) :
    cc0_layernorm_bwd_e5m2 (F := F) i
    (M .x) (hM .x) (M .dy) (hM .dy) (M .gamma) (hM .gamma) (M .mu) (hM .mu) (M .rstd) (hM .rstd) (M .dgammaO) (hM .dgammaO) (M .dbetaO) (hM
    .dbetaO) (M .codes) (hM .codes) (M .scaleO) (hM .scaleO) (M .xhat) (hM .xhat) (M .g) (hM .g) (M .w) (hM .w) (M .gsplit) (hM .gsplit) (M
    .muS) (hM .muS) (M .rS) (hM .rS) (M .rfin) (hM .rfin) (M .mg) (hM .mg) (M .mgx) (hM .mgx) (M .inv) (hM .inv) (M .sg) (hM .sg) (M .sgx) (hM
    .sgx) (M .wmax) (hM .wmax) (M .dgammaS) (hM .dgammaS) (M .dbetaS) (hM .dbetaS)
      = toProg M hM (pass4 invd (k0_off44 i) (k0_off44_inb i h5)) := by
  rw [cc0_layernorm_bwd_e5m2_eq_skeleton, toProg_pass4]
  unfold cc0_layernorm_bwd_e5m2_skel
  simp only [dif_neg h1, dif_neg h2, dif_neg h3, dif_neg h4, dif_pos h5, dif_neg h6, t4_eq]
  rfl

/-- Where only test 6 holds. -/
theorem step5_eq (i : grid0.Coords) (h1 : ¬ first i) (h2 : ¬ k0_cond2 i = 1#1) (h3 : ¬ k0_cond3 i = 1#1) (h4 : ¬ k0_cond4 i = 1#1) (h5 : ¬ k0_cond5 i = 1#1) (h6 : k0_cond6 i = 1#1) :
    cc0_layernorm_bwd_e5m2 (F := F) i
    (M .x) (hM .x) (M .dy) (hM .dy) (M .gamma) (hM .gamma) (M .mu) (hM .mu) (M .rstd) (hM .rstd) (M .dgammaO) (hM .dgammaO) (M .dbetaO) (hM
    .dbetaO) (M .codes) (hM .codes) (M .scaleO) (hM .scaleO) (M .xhat) (hM .xhat) (M .g) (hM .g) (M .w) (hM .w) (M .gsplit) (hM .gsplit) (M
    .muS) (hM .muS) (M .rS) (hM .rS) (M .rfin) (hM .rfin) (M .mg) (hM .mg) (M .mgx) (hM .mgx) (M .inv) (hM .inv) (M .sg) (hM .sg) (M .sgx) (hM
    .sgx) (M .wmax) (hM .wmax) (M .dgammaS) (hM .dgammaS) (M .dbetaS) (hM .dbetaS)
      = toProg M hM (pass5 (k0_off53 i) (k0_off53_inb i h6)) := by
  rw [cc0_layernorm_bwd_e5m2_eq_skeleton, toProg_pass5]
  unfold cc0_layernorm_bwd_e5m2_skel
  simp only [dif_neg h1, dif_neg h2, dif_neg h3, dif_neg h4, dif_neg h5, dif_pos h6, t5_eq]
  rfl

end Cert.Kernel.Gen

end
-- ==== Proof.PrintedRun.lean ====
/- One grid step of the printed kernel as one program of the small language over its windows and scratch buffers, and the launch
   of all steps: from an invariant of the scratch buffers that a step keeps, and relations that what a step leaves in each
   window satisfies, the run of the whole program. -/
module

public import proofs.«01_k».proof.Proof.Printed
public import proofs.«01_k».proof.Proof.Gen.Kernel.Frame
public import Idealize.ShloMosaic.Lib.Pipeline.Frame

@[expose] public section

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.Machine

variable {F : FTy → Type} [FloatOps F]

local notation "𝕄" => MT nD τ sig Unit (Elt F) ℕ (UR sig nD τ) ℕ

/-- What the buffers hold. -/
abbrev State (F : FTy → Type) := St Body.sh Body.el (Elt F)

/-! ## A step as one program -/

/-- The program of step `i`. -/
def stepProg (i : grid0.Coords) : Body.Pr F PUnit :=
  if h : k0_cond2 i = 1#1 then do Body.setup; Body.pass1 (k0_off1 i) (k0_off1_inb i h)
  else if h : k0_cond3 i = 1#1 then Body.pass2 invd (k0_off15 i) (k0_off15_inb i h)
  else if h : k0_cond4 i = 1#1 then Body.pass3 invd (k0_off30 i) (k0_off29 i) (k0_off30_inb i h) (k0_off29_inb i h)
  else if h : k0_cond5 i = 1#1 then Body.pass4 invd (k0_off44 i) (k0_off44_inb i h)
  else if h : k0_cond6 i = 1#1 then Body.pass5 (k0_off53 i) (k0_off53_inb i h)
  else pure ⟨⟩

/-- The tests by the step's number. -/
theorem tests : ∀ t : Fin cfg0.N,
    (first (grid0.coords t) ↔ t.val = 0) ∧ (k0_cond2 (grid0.coords t) = 1#1 ↔ t.val = 0) ∧ (k0_cond3 (grid0.coords t) = 1#1 ↔ t.val = 1)
      ∧ (k0_cond4 (grid0.coords t) = 1#1 ↔ 2 ≤ t.val ∧ t.val < 120) ∧ (k0_cond5 (grid0.coords t) = 1#1 ↔ t.val = 120)
      ∧ (k0_cond6 (grid0.coords t) = 1#1 ↔ t.val = 121) := by
  show ∀ t : Fin grid0.N, _
  decide +kernel

/-- The memrefs a step is run on. -/
def refs (t : Fin cfg0.N) : (b : Body.Buf) → Memref sig .tc .vmem (Body.sh b) (Body.el b)
  | .x => win0_0.stage (cfg0.slots t 0)
  | .dy => win0_1.stage (cfg0.slots t 1)
  | .gamma => win0_2.stage (cfg0.slots t 2)
  | .mu => win0_3.stage (cfg0.slots t 3)
  | .rstd => win0_4.stage (cfg0.slots t 4)
  | .dgammaO => win0_5.stage (cfg0.slots t 5)
  | .dbetaO => win0_6.stage (cfg0.slots t 6)
  | .codes => win0_7.stage (cfg0.slots t 7)
  | .scaleO => win0_8.stage (cfg0.slots t 8)
  | .xhat => Memref.whole cc0_scratch0
  | .g => Memref.whole cc0_scratch1
  | .w => Memref.whole cc0_scratch2
  | .gsplit => Memref.whole cc0_scratch3
  | .muS => Memref.whole cc0_scratch4
  | .rS => Memref.whole cc0_scratch5
  | .rfin => Memref.whole cc0_scratch6
  | .mg => Memref.whole cc0_scratch7
  | .mgx => Memref.whole cc0_scratch8
  | .inv => Memref.whole cc0_scratch9
  | .sg => Memref.whole cc0_scratch10
  | .sgx => Memref.whole cc0_scratch11
  | .wmax => Memref.whole cc0_scratch12
  | .dgammaS => Memref.whole cc0_scratch13
  | .dbetaS => Memref.whole cc0_scratch14

theorem refs_whole (t : Fin cfg0.N) : ∀ b, (refs t b).IsWhole
  | .x => hstage0_0 ((cfg0.slots t 0).cast nbuf0_0)
  | .dy => hstage0_1 ((cfg0.slots t 1).cast nbuf0_1)
  | .gamma => hstage0_2 ((cfg0.slots t 2).cast nbuf0_2)
  | .mu => hstage0_3 ((cfg0.slots t 3).cast nbuf0_3)
  | .rstd => hstage0_4 ((cfg0.slots t 4).cast nbuf0_4)
  | .dgammaO => hstage0_5 ((cfg0.slots t 5).cast nbuf0_5)
  | .dbetaO => hstage0_6 ((cfg0.slots t 6).cast nbuf0_6)
  | .codes => hstage0_7 ((cfg0.slots t 7).cast nbuf0_7)
  | .scaleO => hstage0_8 ((cfg0.slots t 8).cast nbuf0_8)
  | .xhat => Memref.isWhole_whole _
  | .g => Memref.isWhole_whole _
  | .w => Memref.isWhole_whole _
  | .gsplit => Memref.isWhole_whole _
  | .muS => Memref.isWhole_whole _
  | .rS => Memref.isWhole_whole _
  | .rfin => Memref.isWhole_whole _
  | .mg => Memref.isWhole_whole _
  | .mgx => Memref.isWhole_whole _
  | .inv => Memref.isWhole_whole _
  | .sg => Memref.isWhole_whole _
  | .sgx => Memref.isWhole_whole _
  | .wmax => Memref.isWhole_whole _
  | .dgammaS => Memref.isWhole_whole _
  | .dbetaS => Memref.isWhole_whole _

/-- A step's body is its program, run by the machine. -/
theorem bodyAt_eq (t : Fin cfg0.N) :
    bodyAt0 (F := F) t = toProg (refs t) (refs_whole t) (stepProg (grid0.coords t)) := by
  have T := tests t
  unfold stepProg
  by_cases h2 : k0_cond2 (grid0.coords t) = 1#1
  · rw [dif_pos h2]
    refine step1_eq (refs t) (refs_whole t) _ ?_ h2 ?_ ?_ ?_ ?_ <;> simp only [T] <;> simp only [T] at h2 <;> omega
  rw [dif_neg h2]
  by_cases h3 : k0_cond3 (grid0.coords t) = 1#1
  · rw [dif_pos h3]
    refine step2_eq (refs t) (refs_whole t) _ ?_ h2 h3 ?_ ?_ ?_ <;> simp only [T] <;> simp only [T] at h3 <;> omega
  rw [dif_neg h3]
  by_cases h4 : k0_cond4 (grid0.coords t) = 1#1
  · rw [dif_pos h4]
    refine step3_eq (refs t) (refs_whole t) _ ?_ h2 h3 h4 ?_ ?_ <;> simp only [T] <;> simp only [T] at h4 <;> omega
  rw [dif_neg h4]
  by_cases h5 : k0_cond5 (grid0.coords t) = 1#1
  · rw [dif_pos h5]
    refine step4_eq (refs t) (refs_whole t) _ ?_ h2 h3 h4 h5 ?_ <;> simp only [T] <;> simp only [T] at h5 <;> omega
  rw [dif_neg h5]
  by_cases h6 : k0_cond6 (grid0.coords t) = 1#1
  · rw [dif_pos h6]
    refine step5_eq (refs t) (refs_whole t) _ ?_ h2 h3 h4 h5 h6 <;> simp only [T] <;> simp only [T] at h6 <;> omega
  exfalso
  have hl : t.val < 122 := t.isLt
  simp only [T] at h2 h3 h4 h5 h6
  omega

/-! ## The windows among the buffers -/

/-- Contents of the nine windows. -/
abbrev Wins (F : FTy → Type) := (w : Fin cfg0.W) → (cfg0.win w).block.Idx → Elt F (cfg0.win w).elt

/-- The buffers, the windows at `Y` and the scratch buffers as in `S`. -/
def enter (Y : Wins F) (S : State F) : State F
  | .x => Y 0
  | .dy => Y 1
  | .gamma => Y 2
  | .mu => Y 3
  | .rstd => Y 4
  | .dgammaO => Y 5
  | .dbetaO => Y 6
  | .codes => Y 7
  | .scaleO => Y 8
  | .xhat => S .xhat
  | .g => S .g
  | .w => S .w
  | .gsplit => S .gsplit
  | .muS => S .muS
  | .rS => S .rS
  | .rfin => S .rfin
  | .mg => S .mg
  | .mgx => S .mgx
  | .inv => S .inv
  | .sg => S .sg
  | .sgx => S .sgx
  | .wmax => S .wmax
  | .dgammaS => S .dgammaS
  | .dbetaS => S .dbetaS

/-- The windows of the buffers. -/
def leave (S : State F) : Wins F
  | 0 => S .x
  | 1 => S .dy
  | 2 => S .gamma
  | 3 => S .mu
  | 4 => S .rstd
  | 5 => S .dgammaO
  | 6 => S .dbetaO
  | 7 => S .codes
  | 8 => S .scaleO

/-- The scratch buffers are owned, at what `S` says. -/
def scratch (c : Dev nD) (S : State F) : sProp 𝕄 :=
  iprop(owns (c : Thread nD τ) (Memref.whole cc0_scratch0) fullShare (S .xhat)
    ∗ owns (c : Thread nD τ) (Memref.whole cc0_scratch1) fullShare (S .g)
    ∗ owns (c : Thread nD τ) (Memref.whole cc0_scratch2) fullShare (S .w)
    ∗ owns (c : Thread nD τ) (Memref.whole cc0_scratch3) fullShare (S .gsplit)
    ∗ owns (c : Thread nD τ) (Memref.whole cc0_scratch4) fullShare (S .muS)
    ∗ owns (c : Thread nD τ) (Memref.whole cc0_scratch5) fullShare (S .rS)
    ∗ owns (c : Thread nD τ) (Memref.whole cc0_scratch6) fullShare (S .rfin)
    ∗ owns (c : Thread nD τ) (Memref.whole cc0_scratch7) fullShare (S .mg)
    ∗ owns (c : Thread nD τ) (Memref.whole cc0_scratch8) fullShare (S .mgx)
    ∗ owns (c : Thread nD τ) (Memref.whole cc0_scratch9) fullShare (S .inv)
    ∗ owns (c : Thread nD τ) (Memref.whole cc0_scratch10) fullShare (S .sg)
    ∗ owns (c : Thread nD τ) (Memref.whole cc0_scratch11) fullShare (S .sgx)
    ∗ owns (c : Thread nD τ) (Memref.whole cc0_scratch12) fullShare (S .wmax)
    ∗ owns (c : Thread nD τ) (Memref.whole cc0_scratch13) fullShare (S .dgammaS)
    ∗ owns (c : Thread nD τ) (Memref.whole cc0_scratch14) fullShare (S .dbetaS))

/-- All buffers owned, one by one. -/
theorem own_eq (c : Dev nD) (t : Fin cfg0.N) (S : State F) :
    (own c (refs t) S : sProp 𝕄) = iprop(owns (c : Thread nD τ) (refs t .x) fullShare (S .x)
      ∗ owns (c : Thread nD τ) (refs t .dy) fullShare (S .dy)
      ∗ owns (c : Thread nD τ) (refs t .gamma) fullShare (S .gamma)
      ∗ owns (c : Thread nD τ) (refs t .mu) fullShare (S .mu)
      ∗ owns (c : Thread nD τ) (refs t .rstd) fullShare (S .rstd)
      ∗ owns (c : Thread nD τ) (refs t .dgammaO) fullShare (S .dgammaO)
      ∗ owns (c : Thread nD τ) (refs t .dbetaO) fullShare (S .dbetaO)
      ∗ owns (c : Thread nD τ) (refs t .codes) fullShare (S .codes)
      ∗ owns (c : Thread nD τ) (refs t .scaleO) fullShare (S .scaleO)
      ∗ owns (c : Thread nD τ) (refs t .xhat) fullShare (S .xhat)
      ∗ owns (c : Thread nD τ) (refs t .g) fullShare (S .g)
      ∗ owns (c : Thread nD τ) (refs t .w) fullShare (S .w)
      ∗ owns (c : Thread nD τ) (refs t .gsplit) fullShare (S .gsplit)
      ∗ owns (c : Thread nD τ) (refs t .muS) fullShare (S .muS)
      ∗ owns (c : Thread nD τ) (refs t .rS) fullShare (S .rS)
      ∗ owns (c : Thread nD τ) (refs t .rfin) fullShare (S .rfin)
      ∗ owns (c : Thread nD τ) (refs t .mg) fullShare (S .mg)
      ∗ owns (c : Thread nD τ) (refs t .mgx) fullShare (S .mgx)
      ∗ owns (c : Thread nD τ) (refs t .inv) fullShare (S .inv)
      ∗ owns (c : Thread nD τ) (refs t .sg) fullShare (S .sg)
      ∗ owns (c : Thread nD τ) (refs t .sgx) fullShare (S .sgx)
      ∗ owns (c : Thread nD τ) (refs t .wmax) fullShare (S .wmax)
      ∗ owns (c : Thread nD τ) (refs t .dgammaS) fullShare (S .dgammaS)
      ∗ owns (c : Thread nD τ) (refs t .dbetaS) fullShare (S .dbetaS)) :=
  bigSep_univ_eq_bigSepL [Body.Buf.x, Body.Buf.dy, Body.Buf.gamma, Body.Buf.mu, Body.Buf.rstd, Body.Buf.dgammaO, Body.Buf.dbetaO, Body.Buf.codes, Body.Buf.scaleO, Body.Buf.xhat, Body.Buf.g, Body.Buf.w, Body.Buf.gsplit, Body.Buf.muS, Body.Buf.rS, Body.Buf.rfin, Body.Buf.mg, Body.Buf.mgx, Body.Buf.inv, Body.Buf.sg, Body.Buf.sgx, Body.Buf.wmax, Body.Buf.dgammaS, Body.Buf.dbetaS] (by decide) (by decide) _

/-! ## The launch -/

variable (m : (ℓ : Loc nD τ sig) → Buf (Elt F) ℓ) (ρ : Dev nD → PrngReg)
variable (Inv : Dev nD → Fin (cfg0.N + 1) → State F → Prop)
variable (Aft : Dev nD → (w : Fin cfg0.W) → Fin cfg0.N → (Y X : (cfg0.win w).block.Idx → Elt F (cfg0.win w).elt) → Prop)

/-- The launch's data: the scratch buffers satisfy `Inv` between steps; a step leaves in each window what `Aft` allows. -/
def rdat (c : Dev nD) : RDat τ (Elt F) Unit ℕ (UR sig nD τ) ℕ cfg0 c where
  A w := V m c (Pipeline.arrRef spec0 w)
  after w t Y X := Aft c w t Y X
  Φ t := iprop(∃ S, ⌜Inv c t S⌝ ∗ scratch c S ∗ ∃ r, prngReg c r)
  q _ := fullShare
  owed _ := 0

theorem defs₀_row (t : Fin cfg0.N) : defs₀ (F := F) .tc cfg0.body (cfg0.bodyArgs t (cfg0.slots t)) = bodyAt0 t := by
  unfold defs₀; rw [Defs.onTc_tc]

set_option maxHeartbeats 1000000 in
/-- A step does what the launch's data ask of it, if its program does. -/
theorem body_obligation (c : Dev nD)
    (hstep : ∀ (t : Fin cfg0.N) (Y : Wins F) (S : State F), (∀ w, (rdat m Inv Aft c).Finds w t (Y w)) → Inv c t.castSucc S →
      Inv c t.succ (exec (stepProg (grid0.coords t)) (enter Y S)).2
        ∧ ∀ w, Aft c w t (Y w) (leave (exec (stepProg (grid0.coords t)) (enter Y S)).2 w)) :
    (rdat m Inv Aft c).BodyObligation (defs₀ (F := F)) Variants.none () Set.univ := fun t Y hY => by
  rw [bigSep_W0, bigSep_W0, defs₀_row, bodyAt_eq]
  rw [show (rdat m Inv Aft c).owesAt () t.succ = (rdat m Inv Aft c).owesAt () t.castSucc from rfl]
  rw [show (rdat m Inv Aft c).Φ t.castSucc = iprop(∃ S, ⌜Inv c t.castSucc S⌝ ∗ scratch c S ∗ ∃ r, prngReg c r) from rfl,
    show (rdat m Inv Aft c).Φ t.succ = iprop(∃ S, ⌜Inv c t.succ S⌝ ∗ scratch c S ∗ ∃ r, prngReg c r) from rfl]
  iintro ⟨⟨%S, %hI, Hs, Hg⟩, HO, W0, W1, W2, W3, W4, W5, W6, W7, W8⟩
  obtain ⟨h1, h2⟩ := hstep t Y S hY hI
  iapply (wp_toProg (defs := defs₀ (F := F)) Variants.none c none Set.univ (refs t) (refs_whole t) (stepProg (grid0.coords t)) (enter Y S) _)
  isplitl [Hs W0 W1 W2 W3 W4 W5 W6 W7 W8]
  · rw [own_eq]; unfold scratch
    icases Hs with ⟨H0, H1, H2, H3, H4, H5, H6, H7, H8, H9, H10, H11, H12, H13, H14⟩
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · rw [own_eq]
    iintro ⟨W0, W1, W2, W3, W4, W5, W6, W7, W8, H0, H1, H2, H3, H4, H5, H6, H7, H8, H9, H10, H11, H12, H13, H14⟩
    isplitl [H0 H1 H2 H3 H4 H5 H6 H7 H8 H9 H10 H11 H12 H13 H14 Hg]
    · iexists (exec (stepProg (grid0.coords t)) (enter Y S)).2
      isplitr
      · ipureintro; exact h1
      isplitr [Hg]
      · unfold scratch
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
      iexact Hg
    isplitl [HO]; · iexact HO
    isplitl [W0]
    · iexists (leave (exec (stepProg (grid0.coords t)) (enter Y S)).2 0); isplitr
      · ipureintro; exact h2 0
      iexact W0
    isplitl [W1]
    · iexists (leave (exec (stepProg (grid0.coords t)) (enter Y S)).2 1); isplitr
      · ipureintro; exact h2 1
      iexact W1
    isplitl [W2]
    · iexists (leave (exec (stepProg (grid0.coords t)) (enter Y S)).2 2); isplitr
      · ipureintro; exact h2 2
      iexact W2
    isplitl [W3]
    · iexists (leave (exec (stepProg (grid0.coords t)) (enter Y S)).2 3); isplitr
      · ipureintro; exact h2 3
      iexact W3
    isplitl [W4]
    · iexists (leave (exec (stepProg (grid0.coords t)) (enter Y S)).2 4); isplitr
      · ipureintro; exact h2 4
      iexact W4
    isplitl [W5]
    · iexists (leave (exec (stepProg (grid0.coords t)) (enter Y S)).2 5); isplitr
      · ipureintro; exact h2 5
      iexact W5
    isplitl [W6]
    · iexists (leave (exec (stepProg (grid0.coords t)) (enter Y S)).2 6); isplitr
      · ipureintro; exact h2 6
      iexact W6
    isplitl [W7]
    · iexists (leave (exec (stepProg (grid0.coords t)) (enter Y S)).2 7); isplitr
      · ipureintro; exact h2 7
      iexact W7
    iexists (leave (exec (stepProg (grid0.coords t)) (enter Y S)).2 8); isplitr
    · ipureintro; exact h2 8
    iexact W8

/-- The scratch buffers at anything are the launch's. -/
theorem scratch_in (c : Dev nD) :
    Pipeline.ΦA (U := UR sig nD τ) (Val := Elt F) spec0 c ⊢ iprop(∃ S : State F, scratch c S ∗ ∃ r, prngReg c r) := by
  unfold Pipeline.ΦA scratch
  rw [scopedRest0_eq]; simp only [owns_whole]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩⟩, Hg⟩
  iexists (fun b => match b with
    | .x => fun _ => Scalar.ofBits .bf16 0#16
    | .dy => fun _ => Scalar.ofBits .bf16 0#16
    | .gamma => fun _ => Scalar.ofBits .f32 0#32
    | .mu => fun _ => Scalar.ofBits .f32 0#32
    | .rstd => fun _ => Scalar.ofBits .f32 0#32
    | .dgammaO => fun _ => Scalar.ofBits .f32 0#32
    | .dbetaO => fun _ => Scalar.ofBits .f32 0#32
    | .codes => fun _ => Scalar.ofBits .fp8e5m2 0#8
    | .scaleO => fun _ => Scalar.ofBits .f32 0#32
    | .xhat => f0
    | .g => f1
    | .w => f2
    | .gsplit => f3
    | .muS => f4
    | .rS => f5
    | .rfin => f6
    | .mg => f7
    | .mgx => f8
    | .inv => f9
    | .sg => f10
    | .sgx => f11
    | .wmax => f12
    | .dgammaS => f13
    | .dbetaS => f14 : State F)
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iexact Hg

/-- The launch takes them back. -/
theorem scratch_out (c : Dev nD) (S : State F) :
    iprop(scratch c S ∗ ∃ r, prngReg c r) ⊢ Pipeline.ΦA (U := UR sig nD τ) (Val := Elt F) spec0 c := by
  unfold Pipeline.ΦA scratch
  rw [scopedRest0_eq]; simp only [owns_whole]
  iintro ⟨⟨H0, H1, H2, H3, H4, H5, H6, H7, H8, H9, H10, H11, H12, H13, H14⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14
  iexact Hg

set_option backward.isDefEq.respectTransparency.types false in
/-- The run: if any scratch contents satisfy the invariant at the start, and a step keeps it, the program ends with every
    window's array at something its relations allow, every other array as it was, and every semaphore at zero. -/
theorem run_of (hstart : ∀ c S, Inv c 0 S)
    (hstep : ∀ (c : Dev nD) (t : Fin cfg0.N) (Y : Wins F) (S : State F), (∀ w, (rdat m Inv Aft c).Finds w t (Y w)) →
      Inv c t.castSucc S → Inv c t.succ (exec (stepProg (grid0.coords t)) (enter Y S)).2
        ∧ ∀ w, Aft c w t (Y w) (leave (exec (stepProg (grid0.coords t)) (enter Y S)).2 w)) :
    θ_run defs (onTc (τ := τ) (main (F := F))) (s₀ m ρ)
      (fun r => RDat.FramePost (cfgs 0) (rdat m Inv Aft) (V m) r ∧ r.2.sem = fun _ => 0) :=
  RDat.θ_run_frame_track (Q' := _) cfgs (0 : Fin 1) launch0 defs₀ Variants.none (rdat m Inv Aft) m ρ main
    (hbody := fun c => body_obligation m Inv Aft c (hstep c))
    (hshare := fun c w => by unfold RDat.share; exact ite_self _) (howed := fun _ _ => rfl) (V := V m) (hmain := hmain m Variants.none)
    (hA := fun _ _ => rfl)
    (hin := fun c => (scratch_in c).trans (by
      show _ ⊢ iprop(∃ S, ⌜Inv c 0 S⌝ ∗ scratch c S ∗ ∃ r, prngReg c r)
      iintro ⟨%S, H⟩; iexists S; isplitr
      · ipureintro; exact hstart c S
      iexact H))
    (hout := fun c => by
      show iprop(∃ S, ⌜Inv c (Fin.last cfg0.N) S⌝ ∗ scratch c S ∗ ∃ r, prngReg c r) ⊢ _
      iintro ⟨%S, -, H⟩
      iapply (scratch_out c S); iexact H)
    (hQ' := fun _ h => h)

variable {m ρ}

/-- After the run every argument is as it was. -/
theorem args_of {r : PUnit × MemSt nD τ sig (Elt F)} (h : RDat.FramePost (cfgs 0) (rdat m Inv Aft) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c), ?_, ?_⟩
  · have h3 := (h c).1 3
    rw [RDat.ArrAt_in _ 3 rfl] at h3
    exact h3.trans (V_main_arg3 m c)
  · have h4 := (h c).1 4
    rw [RDat.ArrAt_in _ 4 rfl] at h4
    exact h4.trans (V_main_arg4 m c)

variable (m ρ) in
/-- The frame: the program ends, its arguments unchanged, every semaphore at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨args_of _ _ h.1, h.2⟩)
    (run_of m ρ (fun _ _ _ => True) (fun _ _ _ _ _ => True) (fun _ _ => trivial) fun _ _ _ _ _ _ => ⟨trivial, fun _ => trivial⟩)

end Cert.Kernel.Gen

end
-- ==== Proof.Cell.lean ====
/- What one cell of the kernel's body computes, over the extended reals: a cell is thirty-two rows by 128 columns. The
   quantities of a block are named by a row and a column (natural numbers), as plain functions of what the buffers hold;
   `exec_cell` says which of them a cell stores and which it hands to the next. -/
module

public import proofs.«01_k».proof.Proof.Chunk
public import Idealize.ShloMosaic.Lib.Pointwise

@[expose] public section

noncomputable section

namespace Cert.Body

open Idealize.ShloMosaic Idealize.SL.Sem
open Cert.KernelIdeal Cert.KernelIdeal.Gen Cert.Machine

/-- What the buffers hold, over the extended reals. -/
abbrev Sta := St sh el (Elt Ideal)

/-- A place in a block. -/
def rc (r c : ℕ) : S256x5120.Idx := ix2 (Fin.ofNat 256 r) (Fin.ofNat 5120 c)

/-- A place in the rows' statistics: column `c` finds its lane. -/
def rl (r c : ℕ) : S256x128.Idx := ix2 (Fin.ofNat 256 r) (Fin.ofNat 128 c)

/-- A place in a row of columns. -/
def gc (c : ℕ) : S1x5120.Idx := ix2 0 (Fin.ofNat 5120 c)

/-- A place in the column sums. -/
def dc (s c : ℕ) : S8x5120.Idx := ix2 (Fin.ofNat 8 s) (Fin.ofNat 5120 c)

theorem rc_val (y : S256x5120.Idx) : rc (y 0).val (y 1).val = y := by
  idx_vars y
  exact congrArg₂ ix2 (Fin.ext (Nat.mod_eq_of_lt y0.isLt)) (Fin.ext (Nat.mod_eq_of_lt y1.isLt))

theorem rl_val (y : S256x128.Idx) : rl (y 0).val (y 1).val = y := by
  idx_vars y
  exact congrArg₂ ix2 (Fin.ext (Nat.mod_eq_of_lt y0.isLt)) (Fin.ext (Nat.mod_eq_of_lt y1.isLt))

theorem dc_val (y : S8x5120.Idx) : dc (y 0).val (y 1).val = y := by
  idx_vars y
  exact congrArg₂ ix2 (Fin.ext (Nat.mod_eq_of_lt y0.isLt)) (Fin.ext (Nat.mod_eq_of_lt y1.isLt))

/-- The size of a number. -/
def size (x : EReal) : EReal := max x (-x)

section
variable (S : Sta)

/-- The normalised input. -/
def xhatN (r c : ℕ) : EReal := (S .x (rc r c) - S .muS (rl r c)) * S .rS (rl r c)

/-- The cotangent. -/
def dyN (r c : ℕ) : EReal := S .dy (rc r c)

/-- The cotangent by gamma. -/
def gN (r c : ℕ) : EReal := dyN S r c * S .gamma (gc c)

/-- The gradient over the deviation. -/
def wN (r c : ℕ) : EReal := (S .g (rc r c) - S .mg (rl r c)) - S .xhat (rc r c) * S .mgx (rl r c)

/-- The quantised gradient. -/
def codeN (r c : ℕ) : EReal :=
  min (Ideal.ofBits .f32 0x47600000#32) (max (Ideal.ofBits .f32 0xC7600000#32) (S .w (rc r c) * S .inv (rl r c)))
end

theorem rl_lane (r k j l : ℕ) : rl r (512 * k + 128 * j + l) = rl r l :=
  congrArg (ix2 _) (Fin.ext (show (512 * k + 128 * j + l) % 128 = l % 128 by omega))

/-! ## Windows and parts stored, by row and column -/

variable (k : Fin colLoop.trips) (i : Fin 8) (j : Fin 4) (fl : Flags)

/-- A place in a cell. -/
abbrev Z := S32x128.Idx

theorem win_cell {α : Type} (f : S256x5120.Idx → α) (z : S32x128.Idx) :
    VecWindow.window f ![32 * i.val, col k j] S32x128.size (inb_cell k i j) z
      = f (rc (32 * i.val + (z 0).val) (512 * k.val + 128 * j.val + (z 1).val)) := by
  have hk := k_lt k
  idx_vars z
  refine congrArg f ((eq_ix2 _).trans (congrArg₂ ix2 (Fin.ext ?_) (Fin.ext ?_)))
  · show 32 * i.val + 1 * z0.val = (32 * i.val + z0.val) % 256
    rw [Nat.mod_eq_of_lt (by omega)]; omega
  · show col k j + 1 * z1.val = (512 * k.val + 128 * j.val + z1.val) % 5120
    rw [Nat.mod_eq_of_lt (by omega), col_eq]; omega

theorem win_rows {α : Type} (f : S256x128.Idx → α) (z : S32x128.Idx) :
    VecWindow.window f ![32 * i.val, 0] S32x128.size (inb_rows i) z
      = f (rl (32 * i.val + (z 0).val) (z 1).val) := by
  idx_vars z
  refine congrArg f ((eq_ix2 _).trans (congrArg₂ ix2 (Fin.ext ?_) (Fin.ext ?_)))
  · show 32 * i.val + 1 * z0.val = (32 * i.val + z0.val) % 256
    rw [Nat.mod_eq_of_lt (by omega)]; omega
  · show 0 + 1 * z1.val = z1.val % 128
    rw [Nat.mod_eq_of_lt (by omega)]; omega

theorem win_gam {α : Type} (f : S1x5120.Idx → α) (z : S1x128.Idx) :
    VecWindow.window f ![0, col k j] S1x128.size (inb_gam k j) z
      = f (gc (512 * k.val + 128 * j.val + (z 1).val)) := by
  have hk := k_lt k
  idx_vars z
  refine congrArg f ((eq_ix2 _).trans (congrArg₂ ix2 (Fin.ext ?_) (Fin.ext ?_)))
  · show 0 + 1 * z0.val = 0
    omega
  · show col k j + 1 * z1.val = (512 * k.val + 128 * j.val + z1.val) % 5120
    rw [Nat.mod_eq_of_lt (by omega), col_eq]; omega

/-- Place `y` is in cell `(i, j)` of chunk `k`. -/
def InCell (k i j : ℕ) (y : S256x5120.Idx) : Prop :=
  (32 * i ≤ (y 0).val ∧ (y 0).val < 32 * i + 32) ∧ 512 * k + 128 * j ≤ (y 1).val ∧ (y 1).val < 512 * k + 128 * j + 128

/-- A cell stored: its places hold the new values, the others the old. -/
theorem put_cell {α : Type} (f : S256x5120.Idx → α) (w : S32x128.Idx → α) (N : ℕ → ℕ → α)
    (hw : ∀ z, w z = N (32 * i.val + (z 0).val) (512 * k.val + 128 * j.val + (z 1).val)) (y : S256x5120.Idx) [Decidable (InCell k i j y)] :
    VecWindow.put f ![32 * i.val, col k j] S32x128.size w y = if InCell k i j y then N (y 0).val (y 1).val else f y := by
  have hc := col_eq k j
  by_cases h : InCell k i j y
  · have h' : ∀ a, (![32 * i.val, col k j] : Fin 2 → ℕ) a ≤ (y a).val ∧ (y a).val < (![32 * i.val, col k j] : Fin 2 → ℕ) a + S32x128.size a := by
      obtain ⟨⟨h1, h2⟩, h3, h4⟩ := h
      intro a
      match a with
      | ⟨0, _⟩ => exact ⟨h1, h2⟩
      | ⟨1, _⟩ => exact ⟨hc ▸ h3, hc ▸ h4⟩
    rw [if_pos h]
    refine (dif_pos h').trans ((hw _).trans ?_)
    obtain ⟨⟨h1, h2⟩, h3, h4⟩ := h
    refine congrArg₂ N ?_ ?_
    · show 32 * i.val + ((y 0).val - 32 * i.val) = _
      omega
    · show 512 * k.val + 128 * j.val + ((y 1).val - col k j) = _
      omega
  · rw [if_neg h]
    refine dif_neg fun h' => h ?_
    have h0 := h' 0
    have h1 := h' 1
    refine ⟨h0, ?_, ?_⟩
    · exact hc ▸ h1.1
    · exact hc ▸ h1.2

/-! ## What a cell leaves -/

/-- What a step leaves in its buffers when one more cell of them is done. -/
def cellOut (S : Sta) : Sta
  | .xhat => if fl.sums then VecWindow.put (S .xhat) ![32 * i.val, col k j] S32x128.size fun z =>
      xhatN S (32 * i.val + (z 0).val) (512 * k.val + 128 * j.val + (z 1).val) else S .xhat
  | .g => if fl.sums then VecWindow.put (S .g) ![32 * i.val, col k j] S32x128.size fun z =>
      gN S (32 * i.val + (z 0).val) (512 * k.val + 128 * j.val + (z 1).val) else S .g
  | .w => if fl.dx then VecWindow.put (S .w) ![32 * i.val, col k j] S32x128.size fun z =>
      wN S (32 * i.val + (z 0).val) (512 * k.val + 128 * j.val + (z 1).val) else S .w
  | .codes => if fl.codes then VecWindow.put (S .codes) ![32 * i.val, col k j] S32x128.size fun z =>
      codeN S (32 * i.val + (z 0).val) (512 * k.val + 128 * j.val + (z 1).val) else S .codes
  | b => S b

/-- A quantity over a cell. -/
def over (N : ℕ → ℕ → EReal) : FVec Ideal S32x128 .f32 :=
  fun z => N (32 * i.val + (z 0).val) (512 * k.val + 128 * j.val + (z 1).val)

theorem gV_over (S : Sta) : gV (F := Ideal) (VecWindow.window (S .gamma) ![0, col k j] S1x128.size (inb_gam k j))
    (VecWindow.window (S .dy) ![32 * i.val, col k j] S32x128.size (inb_cell k i j)) = over k i j (gN S) := by
  funext z
  unfold gV dyV
  idx_vars z
  pointwise
  erw [win_cell, win_gam]
  rfl

theorem dyV_over (S : Sta) : dyV (F := Ideal)
    (VecWindow.window (S .dy) ![32 * i.val, col k j] S32x128.size (inb_cell k i j)) = over k i j (dyN S) := by
  funext z
  unfold dyV
  idx_vars z
  pointwise
  erw [win_cell]
  rfl

theorem xhatV_over (S : Sta) : xhatV (F := Ideal) (VecWindow.window (S .x) ![32 * i.val, col k j] S32x128.size (inb_cell k i j))
    (VecWindow.window (S .muS) ![32 * i.val, 0] S32x128.size (inb_rows i))
    (VecWindow.window (S .rS) ![32 * i.val, 0] S32x128.size (inb_rows i)) = over k i j (xhatN S) := by
  funext z
  unfold xhatV
  idx_vars z
  pointwise
  erw [win_cell, win_rows, win_rows]
  unfold over xhatN
  rw [rl_lane]

theorem wV_over (S : Sta) : wV (F := Ideal) (VecWindow.window (S .g) ![32 * i.val, col k j] S32x128.size (inb_cell k i j))
    (VecWindow.window (S .mg) ![32 * i.val, 0] S32x128.size (inb_rows i))
    (VecWindow.window (S .xhat) ![32 * i.val, col k j] S32x128.size (inb_cell k i j))
    (VecWindow.window (S .mgx) ![32 * i.val, 0] S32x128.size (inb_rows i)) = over k i j (wN S) := by
  funext z
  unfold wV
  idx_vars z
  pointwise
  erw [win_cell, win_cell, win_rows, win_rows]
  unfold over wN
  rw [rl_lane]

theorem codesV_over (S : Sta) : codesV (F := Ideal) (VecWindow.window (S .w) ![32 * i.val, col k j] S32x128.size (inb_cell k i j))
    (VecWindow.window (S .inv) ![32 * i.val, 0] S32x128.size (inb_rows i)) = over k i j (codeN S) := by
  funext z
  unfold codesV
  idx_vars z
  pointwise
  erw [win_cell, win_rows]
  unfold over codeN
  rw [rl_lane]

theorem same_eq (v : FVec Ideal S32x128 .f32) : same v = v := shapeCast_id _ _

/-- The sums of one cell, row by row. -/
def gxN (S : Sta) (r c : ℕ) : EReal := gN S r c * xhatN S r c

/-- Its column sums' terms. -/
def qN (S : Sta) (r c : ℕ) : EReal := dyN S r c * xhatN S r c

/-- What a cell hands on. -/
def cellRegs (S : Sta) (w s : Option (FVec Ideal S32x128 .f32)) (d : Option (FVec Ideal S8x128 .f32)) : Regs Ideal :=
  ⟨if fl.dx then some (maxO w (over k i j fun r c => size (wN S r c))) else none,
   if fl.sums then some (addO s (over k i j (gxN S))) else none,
   if fl.sums then some (dgV d (over k i j (qN S))) else none⟩

theorem exec_codesPart (S : Sta) : exec (codesPart k i j fl) S =
    (⟨⟩, if fl.codes then Function.update S .codes
      (VecWindow.put (S .codes) ![32 * i.val, col k j] S32x128.size (over k i j (codeN S))) else S) := by
  unfold codesPart
  obtain ⟨a, b, c⟩ := fl
  cases c
  · rfl
  · rw [← codesV_over]; rfl

theorem exec_dxPart (S : Sta) (s) : exec (dxPart k i j fl s) S =
    (if fl.dx then some (maxO s (over k i j fun r c => size (wN S r c))) else none, if fl.dx then Function.update S .w
      (VecWindow.put (S .w) ![32 * i.val, col k j] S32x128.size (over k i j (wN S))) else S) := by
  unfold dxPart
  obtain ⟨a, b, c⟩ := fl
  cases b
  · rfl
  · have e : exec (dxPart k i j ⟨a, true, c⟩ s) S = (some (maxO s (absf (wV (F := Ideal)
          (VecWindow.window (S .g) ![32 * i.val, col k j] S32x128.size (inb_cell k i j))
          (VecWindow.window (S .mg) ![32 * i.val, 0] S32x128.size (inb_rows i))
          (VecWindow.window (S .xhat) ![32 * i.val, col k j] S32x128.size (inb_cell k i j))
          (VecWindow.window (S .mgx) ![32 * i.val, 0] S32x128.size (inb_rows i))))),
        Function.update S .w (VecWindow.put (S .w) ![32 * i.val, col k j] S32x128.size (same (wV (F := Ideal)
          (VecWindow.window (S .g) ![32 * i.val, col k j] S32x128.size (inb_cell k i j))
          (VecWindow.window (S .mg) ![32 * i.val, 0] S32x128.size (inb_rows i))
          (VecWindow.window (S .xhat) ![32 * i.val, col k j] S32x128.size (inb_cell k i j))
          (VecWindow.window (S .mgx) ![32 * i.val, 0] S32x128.size (inb_rows i)))))) := rfl
    refine e.trans ?_
    rw [same_eq, wV_over]
    rfl

theorem exec_sumsPart (S : Sta) (w s d) : exec (sumsPart k i j fl w s d) S =
    (⟨w, if fl.sums then some (addO s (over k i j (gxN S))) else none,
       if fl.sums then some (dgV d (over k i j (qN S))) else none⟩,
      if fl.sums then Function.update (Function.update S .xhat
        (VecWindow.put (S .xhat) ![32 * i.val, col k j] S32x128.size (over k i j (xhatN S)))) .g
        (VecWindow.put (S .g) ![32 * i.val, col k j] S32x128.size (over k i j (gN S))) else S) := by
  unfold sumsPart
  obtain ⟨a, b, c⟩ := fl
  cases a
  · rfl
  · have e : exec (sumsPart k i j ⟨true, b, c⟩ w s d) S =
      (let g := gV (F := Ideal) (VecWindow.window (S .gamma) ![0, col k j] S1x128.size (inb_gam k j))
          (VecWindow.window (S .dy) ![32 * i.val, col k j] S32x128.size (inb_cell k i j))
       let xh := xhatV (F := Ideal) (VecWindow.window (S .x) ![32 * i.val, col k j] S32x128.size (inb_cell k i j))
          (VecWindow.window (S .muS) ![32 * i.val, 0] S32x128.size (inb_rows i))
          (VecWindow.window (S .rS) ![32 * i.val, 0] S32x128.size (inb_rows i))
       let dy := dyV (F := Ideal) (VecWindow.window (S .dy) ![32 * i.val, col k j] S32x128.size (inb_cell k i j))
       (⟨w, some (addO s (mulf g xh)), some (dgV d (mulf dy xh))⟩, Function.update (Function.update S .xhat
        (VecWindow.put (S .xhat) ![32 * i.val, col k j] S32x128.size (same xh))) .g
        (VecWindow.put (S .g) ![32 * i.val, col k j] S32x128.size (same g)))) := rfl
    refine e.trans ?_
    rw [gV_over, xhatV_over, dyV_over]
    dsimp only
    rw [same_eq, same_eq]
    rfl

/-! ## The cells of a chunk in order -/

/-- Place `y` is in the part of chunk `k` that is done when row groups before `i` are, and cells before `j` of group `i`. -/
def Done (k i j : ℕ) (y : S256x5120.Idx) : Prop :=
  (512 * k ≤ (y 1).val ∧ (y 1).val < 512 * k + 512)
    ∧ ((y 0).val < 32 * i ∨ ((y 0).val < 32 * i + 32 ∧ (y 1).val < 512 * k + 128 * j))

open Classical in
/-- The old contents where `P` fails, the quantity `N` where it holds. -/
def mix (b : Bool) (P : S256x5120.Idx → Prop) (N : ℕ → ℕ → EReal) (f : S256x5120.Idx → EReal) : S256x5120.Idx → EReal :=
  fun y => if b = true ∧ P y then N (y 0).val (y 1).val else f y

/-- The largest size in the four cells of a row, lane by lane. -/
def w4 (S : Sta) (k r l : ℕ) : EReal :=
  max (max (max (size (wN S r (512 * k + 128 * 0 + l))) (size (wN S r (512 * k + 128 * 1 + l)))) (size (wN S r (512 * k + 128 * 2 + l))))
    (size (wN S r (512 * k + 128 * 3 + l)))

/-- The sum over the four cells of a row, lane by lane. -/
def gx4 (S : Sta) (k r l : ℕ) : EReal :=
  gxN S r (512 * k + 128 * 0 + l) + gxN S r (512 * k + 128 * 1 + l) + gxN S r (512 * k + 128 * 2 + l) + gxN S r (512 * k + 128 * 3 + l)

open Classical in
/-- The buffers in the middle of chunk `k`, which began at `S`. -/
def mid (S : Sta) (k : ℕ) (i j : ℕ) : Sta
  | .xhat => mix fl.sums (Done k i j) (xhatN S) (S .xhat)
  | .g => mix fl.sums (Done k i j) (gN S) (S .g)
  | .w => mix fl.dx (Done k i j) (wN S) (S .w)
  | .codes => mix fl.codes (Done k i j) (codeN S) (S .codes)
  | .wmax => fun y => if fl.dx = true ∧ (y 0).val < 32 * i then max (S .wmax y) (w4 S k (y 0).val (y 1).val) else S .wmax y
  | .sgx => fun y => if fl.sums = true ∧ (y 0).val < 32 * i then S .sgx y + gx4 S k (y 0).val (y 1).val else S .sgx y
  | b => S b

theorem mid_zero (S : Sta) : mid fl S k 0 0 = S := by
  funext b
  have h : ∀ y, ¬ Done k 0 0 y := by intro y; unfold Done; omega
  cases b <;> first | rfl | (funext y; exact if_neg fun h' => by first | exact h y h'.2 | (have := h'.2; omega))

theorem mid_group (S : Sta) (i : ℕ) : ∀ b, b ≠ .wmax → b ≠ .sgx → mid fl S k i 4 b = mid fl S k (i + 1) 0 b := by
  have h : ∀ y, Done k i 4 y ↔ Done k (i + 1) 0 y := by
    intro y; unfold Done; omega
  intro b h1 h2
  cases b <;> first | rfl | contradiction | (refine congrArg (fun P => mix _ P _ _) (funext fun y => propext (h y)))

theorem mix_false (P Q : S256x5120.Idx → Prop) (N N' : ℕ → ℕ → EReal) (f : S256x5120.Idx → EReal) : mix false P N f = mix false Q N' f := by
  funext y; simp [mix]

theorem not_done (z : S32x128.Idx) : ¬ Done k i j (rc (32 * i.val + (z 0).val) (512 * k.val + 128 * j.val + (z 1).val)) := by
  have hk := k_lt k
  idx_vars z
  have e0 : (rc (32 * i.val + z0.val) (512 * k.val + 128 * j.val + z1.val) 0).val = 32 * i.val + z0.val :=
    Nat.mod_eq_of_lt (by omega)
  have e1 : (rc (32 * i.val + z0.val) (512 * k.val + 128 * j.val + z1.val) 1).val = 512 * k.val + 128 * j.val + z1.val :=
    Nat.mod_eq_of_lt (by omega)
  show ¬ Done k i j (rc (32 * i.val + z0.val) (512 * k.val + 128 * j.val + z1.val))
  unfold Done
  rw [e0, e1]
  omega

theorem mix_put (N : ℕ → ℕ → EReal) (f : S256x5120.Idx → EReal) :
    VecWindow.put (mix true (Done k i j) N f) ![32 * i.val, col k j] S32x128.size (over k i j N) = mix true (Done k i (j.val + 1)) N f := by
  classical
  funext y
  have hk := k_lt k
  have hj := j.isLt
  refine (put_cell k i j _ _ N (fun z => rfl) y).trans ?_
  unfold mix
  have h : Done k i (j.val + 1) y ↔ Done k i j y ∨ InCell k i j y := by unfold Done InCell; omega
  by_cases h1 : InCell k i j y
  · rw [if_pos h1, if_pos ⟨rfl, h.2 (.inr h1)⟩]
  · rw [if_neg h1]
    by_cases h2 : Done k i j y
    · rw [if_pos ⟨rfl, h2⟩, if_pos ⟨rfl, h.2 (.inl h2)⟩]
    · rw [if_neg fun h' => h2 h'.2, if_neg fun h' => (h.1 h'.2).elim h2 h1]

theorem mix_at (b : Bool) (N : ℕ → ℕ → EReal) (f : S256x5120.Idx → EReal) (z : S32x128.Idx) :
    mix b (Done k i j) N f (rc (32 * i.val + (z 0).val) (512 * k.val + 128 * j.val + (z 1).val))
      = f (rc (32 * i.val + (z 0).val) (512 * k.val + 128 * j.val + (z 1).val)) :=
  if_neg fun h => not_done k i j z h.2

theorem over_code (S : Sta) : over k i j (codeN (mid fl S k i j)) = over k i j (codeN S) := by
  funext z
  unfold over codeN mid
  dsimp only
  rw [mix_at]

theorem over_w (S : Sta) : over k i j (wN (mid fl S k i j)) = over k i j (wN S) := by
  funext z
  unfold over wN mid
  dsimp only
  rw [mix_at, mix_at]

theorem over_size (S : Sta) :
    (over k i j fun r c => size (wN (mid fl S k i j) r c)) = over k i j fun r c => size (wN S r c) :=
  congrArg (fun (f : FVec Ideal S32x128 .f32) => fun z => size (f z)) (over_w k i j fl S)

theorem exec_cell (S : Sta) (w s : Option (FVec Ideal S32x128 .f32)) (d : Option (FVec Ideal S8x128 .f32)) :
    exec (cell k i j fl w s d) (mid fl S k i j) = (cellRegs k i j fl S w s d, mid fl S k i (j.val + 1)) := by
  unfold cell
  rw [Machine.exec_bind, exec_codesPart, Machine.exec_bind, exec_dxPart, exec_sumsPart]
  generalize hM : mid fl S k i j = M
  have hc : over k i j (codeN M) = over k i j (codeN S) := hM ▸ over_code k i j fl S
  have hw : ∀ v, over k i j (wN (Function.update M .codes v)) = over k i j (wN S) := fun v => hM ▸ over_w k i j fl S
  have hw' : over k i j (wN M) = over k i j (wN S) := hM ▸ over_w k i j fl S
  have hz : ∀ v, (over k i j fun r c => size (wN (Function.update M .codes v) r c)) = over k i j fun r c => size (wN S r c) :=
    fun v => hM ▸ over_size k i j fl S
  have hz' : (over k i j fun r c => size (wN M r c)) = over k i j fun r c => size (wN S r c) := hM ▸ over_size k i j fl S
  obtain ⟨a, b, c⟩ := fl
  refine Prod.ext ?_ ?_
  · cases a <;> cases b <;> cases c <;> simp only [Bool.false_eq_true, if_true, if_false, cellRegs, hz, hz'] <;> subst hM <;> rfl
  · cases a <;> cases b <;> cases c <;> simp only [Bool.false_eq_true, if_true, if_false, hc, hw, hw'] <;> subst hM <;> funext b <;> cases b <;>
      first
        | rfl
        | exact mix_put ..
        | exact mix_false ..

end Cert.Body

end
-- ==== Proof.Columns.lean ====
/- What one chunk of columns leaves in the buffers, over the extended reals, and what all ten chunks leave. -/
module

public import proofs.«01_k».proof.Proof.Cell

@[expose] public section

set_option maxRecDepth 16384

noncomputable section

namespace Cert.Body

open Idealize.ShloMosaic Idealize.SL.Sem
open Cert.KernelIdeal Cert.KernelIdeal.Gen Cert.Machine

variable (k : Fin colLoop.trips) (i : Fin 8) (j : Fin 4) (fl : Flags)

/-! ## The end of a group of rows -/

/-- A group of rows stored. -/
theorem put_rows {α : Type} (f : S256x128.Idx → α) (w : S32x128.Idx → α) (N : ℕ → ℕ → α)
    (hw : ∀ z, w z = N (32 * i.val + (z 0).val) (z 1).val) (y : S256x128.Idx) :
    VecWindow.put f ![32 * i.val, 0] S32x128.size w y
      = if 32 * i.val ≤ (y 0).val ∧ (y 0).val < 32 * i.val + 32 then N (y 0).val (y 1).val else f y := by
  by_cases h : 32 * i.val ≤ (y 0).val ∧ (y 0).val < 32 * i.val + 32
  · have h' : ∀ a, (![32 * i.val, 0] : Fin 2 → ℕ) a ≤ (y a).val ∧ (y a).val < (![32 * i.val, 0] : Fin 2 → ℕ) a + S32x128.size a := by
      intro a
      match a with
      | ⟨0, _⟩ => exact h
      | ⟨1, _⟩ => exact ⟨Nat.zero_le _, lt_of_lt_of_eq (y 1).isLt (Nat.zero_add 128).symm⟩
    rw [if_pos h]
    refine (dif_pos h').trans ((hw _).trans ?_)
    refine congrArg₂ N ?_ ?_
    · show 32 * i.val + ((y 0).val - 32 * i.val) = _
      omega
    · show (y 1).val - 0 = _
      omega
  · rw [if_neg h]
    exact dif_neg fun h' => h (h' 0)

/-- The rows' sizes of the four cells. -/
def wOver (S : Sta) : FVec Ideal S32x128 .f32 := fun z => w4 S k (32 * i.val + (z 0).val) (z 1).val

/-- The rows' sums of the four cells. -/
def gxOver (S : Sta) : FVec Ideal S32x128 .f32 := fun z => gx4 S k (32 * i.val + (z 0).val) (z 1).val

theorem exec_wmaxEnd (S T : Sta) (f : S256x128.Idx → EReal)
    (hT : T .wmax = fun y => if fl.dx = true ∧ (y 0).val < 32 * i.val then max (f y) (w4 S k (y 0).val (y 1).val) else f y)
    (w : Option (FVec Ideal S32x128 .f32)) (hw : fl.dx = true → w = some (wOver k i S)) :
    exec (wmaxEnd i fl w) T = (⟨⟩, Function.update T .wmax
      fun y => if fl.dx = true ∧ (y 0).val < 32 * (i.val + 1) then max (f y) (w4 S k (y 0).val (y 1).val) else f y) := by
  unfold wmaxEnd
  obtain ⟨a, b, c⟩ := fl
  cases b
  · refine Prod.ext rfl ?_
    show T = _
    refine (Function.update_eq_self_iff.2 ?_).symm
    rw [hT]; funext y; simp
  · rw [hw rfl]
    have e : exec (wmaxEnd i ⟨a, true, c⟩ (some (wOver k i S))) T = (⟨⟩, Function.update T .wmax
        (VecWindow.put (T .wmax) ![32 * i.val, 0] S32x128.size (same (maximumf (F := Ideal)
          (VecWindow.window (T .wmax) ![32 * i.val, 0] S32x128.size (inb_rows i)) (wOver k i S))))) := rfl
    refine e.trans ?_
    rw [same_eq]
    refine Prod.ext rfl (congrArg (Function.update T .wmax) (funext fun y => ?_))
    refine (put_rows i _ _ (fun r l => max (f (rl r l)) (w4 S k r l)) (fun z => ?_) y).trans ?_
    · show max (VecWindow.window (T .wmax) ![32 * i.val, 0] S32x128.size (inb_rows i) z) (wOver k i S z) = _
      rw [win_rows, hT]
      have e0 : (rl (32 * i.val + (z 0).val) (z 1).val 0).val = 32 * i.val + (z 0).val :=
        Nat.mod_eq_of_lt (by have : (z 0).val < 32 := (z 0).isLt; omega)
      dsimp only
      rw [if_neg (by rw [e0]; omega)]
      rfl
    · rw [rl_val, hT]
      simp only [true_and]
      split_ifs <;> first | rfl | omega

theorem exec_sgxEnd (S T : Sta) (f : S256x128.Idx → EReal)
    (hT : T .sgx = fun y => if fl.sums = true ∧ (y 0).val < 32 * i.val then f y + gx4 S k (y 0).val (y 1).val else f y)
    (w : Option (FVec Ideal S32x128 .f32)) (hw : fl.sums = true → w = some (gxOver k i S)) :
    exec (sgxEnd i fl w) T = (⟨⟩, Function.update T .sgx
      fun y => if fl.sums = true ∧ (y 0).val < 32 * (i.val + 1) then f y + gx4 S k (y 0).val (y 1).val else f y) := by
  unfold sgxEnd
  obtain ⟨a, b, c⟩ := fl
  cases a
  · refine Prod.ext rfl ?_
    show T = _
    refine (Function.update_eq_self_iff.2 ?_).symm
    rw [hT]; funext y; simp
  · rw [hw rfl]
    have e : exec (sgxEnd i ⟨true, b, c⟩ (some (gxOver k i S))) T = (⟨⟩, Function.update T .sgx
        (VecWindow.put (T .sgx) ![32 * i.val, 0] S32x128.size (same (addf (F := Ideal)
          (VecWindow.window (T .sgx) ![32 * i.val, 0] S32x128.size (inb_rows i)) (gxOver k i S))))) := rfl
    refine e.trans ?_
    rw [same_eq]
    refine Prod.ext rfl (congrArg (Function.update T .sgx) (funext fun y => ?_))
    refine (put_rows i _ _ (fun r l => f (rl r l) + gx4 S k r l) (fun z => ?_) y).trans ?_
    · show VecWindow.window (T .sgx) ![32 * i.val, 0] S32x128.size (inb_rows i) z + gxOver k i S z = _
      rw [win_rows, hT]
      have e0 : (rl (32 * i.val + (z 0).val) (z 1).val 0).val = 32 * i.val + (z 0).val :=
        Nat.mod_eq_of_lt (by have : (z 0).val < 32 := (z 0).isLt; omega)
      dsimp only
      rw [if_neg (by rw [e0]; omega)]
      rfl
    · rw [rl_val, hT]
      simp only [true_and]
      split_ifs <;> first | rfl | omega

/-! ## A group of rows -/

/-- The column sums of a cell join those before. -/
def dgStep (S : Sta) (d : Option (FVec Ideal S8x128 .f32)) : Option (FVec Ideal S8x128 .f32) :=
  if fl.sums then some (dgV d (over k i j (qN S))) else none

theorem exec_rowGroup (S : Sta) (d : Four Ideal) : exec (rowGroup k i fl d) (mid fl S k i 0) =
    (⟨dgStep k i 0 fl S d.d0, dgStep k i 1 fl S d.d1, dgStep k i 2 fl S d.d2, dgStep k i 3 fl S d.d3⟩, mid fl S k (i.val + 1) 0) := by
  unfold rowGroup
  rw [Machine.exec_bind, exec_cell k i ⟨0, by decide⟩ fl S, Machine.exec_bind, exec_cell k i ⟨1, by decide⟩ fl S, Machine.exec_bind,
    exec_cell k i ⟨2, by decide⟩ fl S, Machine.exec_bind, exec_cell k i ⟨3, by decide⟩ fl S, Machine.exec_bind]
  rw [exec_wmaxEnd k i fl S (mid fl S k i 4) (S .wmax) rfl _ (by intro h; simp only [cellRegs, h, if_true]; rfl)]
  rw [Machine.exec_bind, exec_sgxEnd k i fl S _ (S .sgx) rfl _ (by intro h; simp only [cellRegs, h, if_true]; rfl)]
  refine Prod.ext rfl ?_
  funext b
  by_cases h1 : b = .sgx
  · subst h1; rfl
  by_cases h2 : b = .wmax
  · subst h2; rfl
  exact (Function.update_of_ne h1 _ _).trans ((Function.update_of_ne h2 _ _).trans (mid_group k fl S i b h2 h1))

/-! ## The rows of a chunk -/

/-- The column sums of lane group `j` over all eight groups of rows. -/
def dgAll (S : Sta) : Option (FVec Ideal S8x128 .f32) :=
  dgStep k 7 j fl S (dgStep k 6 j fl S (dgStep k 5 j fl S (dgStep k 4 j fl S (dgStep k 3 j fl S (dgStep k 2 j fl S
    (dgStep k 1 j fl S (dgStep k 0 j fl S none)))))))

theorem exec_chunkRows (S : Sta) : exec (chunkRows k fl) S =
    (⟨dgAll k 0 fl S, dgAll k 1 fl S, dgAll k 2 fl S, dgAll k 3 fl S⟩, mid fl S k 8 0) := by
  conv_lhs => rw [← mid_zero k fl S]
  unfold chunkRows
  rw [Machine.exec_bind, exec_rowGroup k ⟨0, by decide⟩ fl S, Machine.exec_bind, exec_rowGroup k ⟨1, by decide⟩ fl S,
    Machine.exec_bind, exec_rowGroup k ⟨2, by decide⟩ fl S, Machine.exec_bind, exec_rowGroup k ⟨3, by decide⟩ fl S,
    Machine.exec_bind, exec_rowGroup k ⟨4, by decide⟩ fl S, Machine.exec_bind, exec_rowGroup k ⟨5, by decide⟩ fl S,
    Machine.exec_bind, exec_rowGroup k ⟨6, by decide⟩ fl S, exec_rowGroup k ⟨7, by decide⟩ fl S]
  rfl

/-- The column sum's terms of the rows of one group at sublane `s`. -/
def q4 (S : Sta) (i s c : ℕ) : EReal :=
  qN S (32 * i + (0 + s)) c + qN S (32 * i + (8 + s)) c + qN S (32 * i + (16 + s)) c + qN S (32 * i + (24 + s)) c

theorem p_at (q : FVec Ideal S32x128 .f32) (s : Fin 8) (l : Fin 128) :
    p0 q (ix2 s l) = q (ix2 ⟨0 + s.val, by omega⟩ l) ∧ p1 q (ix2 s l) = q (ix2 ⟨8 + s.val, by omega⟩ l)
      ∧ p2 q (ix2 s l) = q (ix2 ⟨16 + s.val, by omega⟩ l) ∧ p3 q (ix2 s l) = q (ix2 ⟨24 + s.val, by omega⟩ l) := by
  unfold p0 p1 p2 p3
  refine ⟨?_, ?_, ?_, ?_⟩ <;> pointwise <;> rfl

theorem dgV_some (S : Sta) (d : FVec Ideal S8x128 .f32) (s : Fin 8) (l : Fin 128) :
    dgV (some d) (over k i j (qN S)) (ix2 s l) = d (ix2 s l) + q4 S i s.val (512 * k.val + 128 * j.val + l.val) := by
  obtain ⟨h0, h1, h2, h3⟩ := p_at (over k i j (qN S)) s l
  show d (ix2 s l) + p0 (over k i j (qN S)) (ix2 s l) + p1 (over k i j (qN S)) (ix2 s l) + p2 (over k i j (qN S)) (ix2 s l)
    + p3 (over k i j (qN S)) (ix2 s l) = _
  rw [h0, h1, h2, h3, add_assoc, add_assoc, add_assoc]
  unfold q4
  rw [add_assoc, add_assoc]
  rfl

theorem dgV_none (S : Sta) (s : Fin 8) (l : Fin 128) :
    dgV none (over k i j (qN S)) (ix2 s l) = q4 S i s.val (512 * k.val + 128 * j.val + l.val) := by
  obtain ⟨h0, h1, h2, h3⟩ := p_at (over k i j (qN S)) s l
  show p0 (over k i j (qN S)) (ix2 s l) + p1 (over k i j (qN S)) (ix2 s l) + p2 (over k i j (qN S)) (ix2 s l)
    + p3 (over k i j (qN S)) (ix2 s l) = _
  rw [h0, h1, h2, h3]
  rfl

/-- The column sum's terms of all rows of a block at sublane `s`. -/
def q32 (S : Sta) (s c : ℕ) : EReal :=
  q4 S 0 s c + q4 S 1 s c + q4 S 2 s c + q4 S 3 s c + q4 S 4 s c + q4 S 5 s c + q4 S 6 s c + q4 S 7 s c

theorem dgAll_eq (S : Sta) (h : fl.sums = true) : dgAll k j fl S =
    some fun z => q32 S (z 0).val (512 * k.val + 128 * j.val + (z 1).val) := by
  unfold dgAll dgStep
  simp only [h, if_true]
  refine congrArg some (funext fun z => ?_)
  idx_vars z
  rw [dgV_some, dgV_some, dgV_some, dgV_some, dgV_some, dgV_some, dgV_some, dgV_none]
  rfl

/-! ## The column sums of a chunk -/

theorem win_dg {α : Type} (f : S8x5120.Idx → α) (z : S8x128.Idx) :
    VecWindow.window f ![0, col k j] S8x128.size (inb_dg k j) z
      = f (dc (z 0).val (512 * k.val + 128 * j.val + (z 1).val)) := by
  have hk := k_lt k
  idx_vars z
  refine congrArg f ((eq_ix2 _).trans (congrArg₂ ix2 (Fin.ext ?_) (Fin.ext ?_)))
  · show 0 + 1 * z0.val = z0.val % 8
    omega
  · show col k j + 1 * z1.val = (512 * k.val + 128 * j.val + z1.val) % 5120
    rw [Nat.mod_eq_of_lt (by omega), col_eq]; omega

theorem put_dg {α : Type} (f : S8x5120.Idx → α) (w : S8x128.Idx → α) (N : ℕ → ℕ → α)
    (hw : ∀ z, w z = N (z 0).val (512 * k.val + 128 * j.val + (z 1).val)) (y : S8x5120.Idx) :
    VecWindow.put f ![0, col k j] S8x128.size w y
      = if 512 * k.val + 128 * j.val ≤ (y 1).val ∧ (y 1).val < 512 * k.val + 128 * j.val + 128 then N (y 0).val (y 1).val else f y := by
  have hc := col_eq k j
  by_cases h : 512 * k.val + 128 * j.val ≤ (y 1).val ∧ (y 1).val < 512 * k.val + 128 * j.val + 128
  · have h' : ∀ a, (![0, col k j] : Fin 2 → ℕ) a ≤ (y a).val ∧ (y a).val < (![0, col k j] : Fin 2 → ℕ) a + S8x128.size a := by
      intro a
      match a with
      | ⟨0, _⟩ => exact ⟨Nat.zero_le _, lt_of_lt_of_eq (y 0).isLt (Nat.zero_add 8).symm⟩
      | ⟨1, _⟩ => exact ⟨hc ▸ h.1, hc ▸ h.2⟩
    rw [if_pos h]
    refine (dif_pos h').trans ((hw _).trans ?_)
    refine congrArg₂ N ?_ ?_
    · show (y 0).val - 0 = _
      omega
    · show 512 * k.val + 128 * j.val + ((y 1).val - col k j) = _
      omega
  · rw [if_neg h]
    refine dif_neg fun h' => h ?_
    have h1 := h' 1
    refine ⟨?_, ?_⟩
    · exact hc ▸ h1.1
    · exact hc ▸ h1.2

/-- The column sums after lane groups before `j` of chunk `k` have joined. -/
def dgMid (S : Sta) (k j : ℕ) (f : S8x5120.Idx → EReal) : S8x5120.Idx → EReal := fun y =>
  if 512 * k ≤ (y 1).val ∧ (y 1).val < 512 * k + 128 * j then f y + q32 S (y 0).val (y 1).val else f y

theorem exec_dgEnd (S T : Sta) (f : S8x5120.Idx → EReal) (hT : T .dgammaS = dgMid S k j f) (h : fl.sums = true) :
    exec (dgEnd k j (dgAll k j fl S)) T = (⟨⟩, Function.update T .dgammaS (dgMid S k (j.val + 1) f)) := by
  have hk := k_lt k
  rw [dgAll_eq k j fl S h]
  have e : exec (dgEnd k j (some fun z => q32 S (z 0).val (512 * k.val + 128 * j.val + (z 1).val))) T =
      (⟨⟩, Function.update T .dgammaS (VecWindow.put (T .dgammaS) ![0, col k j] S8x128.size (shapeCast S8x128 (addf (F := Ideal)
        (VecWindow.window (T .dgammaS) ![0, col k j] S8x128.size (inb_dg k j))
        (fun z => q32 S (z 0).val (512 * k.val + 128 * j.val + (z 1).val))) shapeCasts_S8x128_S8x128))) := rfl
  refine e.trans ?_
  refine Prod.ext rfl (congrArg (Function.update T .dgammaS) (funext fun y => ?_))
  refine (put_dg k j _ _ (fun s c => f (dc s c) + q32 S s c) (fun z => (congrFun (shapeCast_id _ _) z).trans ?_) y).trans ?_
  · show VecWindow.window (T .dgammaS) ![0, col k j] S8x128.size (inb_dg k j) z + q32 S (z 0).val (512 * k.val + 128 * j.val + (z 1).val) = _
    rw [win_dg, hT]
    have e0 : (dc (z 0).val (512 * k.val + 128 * j.val + (z 1).val) 1).val = 512 * k.val + 128 * j.val + (z 1).val :=
      Nat.mod_eq_of_lt (by have : (z 1).val < 128 := (z 1).isLt; omega)
    unfold dgMid
    rw [if_neg (by rw [e0]; omega)]
  · rw [dc_val, hT]
    unfold dgMid
    split_ifs <;> first | rfl | omega

theorem exec_chunkEnd (S T : Sta) (hT : T .dgammaS = S .dgammaS) :
    exec (chunkEnd k fl ⟨dgAll k 0 fl S, dgAll k 1 fl S, dgAll k 2 fl S, dgAll k 3 fl S⟩) T
      = (⟨⟩, if fl.sums then Function.update T .dgammaS (dgMid S k 4 (S .dgammaS)) else T) := by
  by_cases h : fl.sums = true
  · unfold chunkEnd
    rw [h]
    have h0 : T .dgammaS = dgMid S k 0 (S .dgammaS) := by
      rw [hT]; funext y; exact (if_neg (by omega)).symm
    have e0 (T : Sta) (hT : T .dgammaS = dgMid S k 0 (S .dgammaS)) : exec (dgEnd k ⟨0, by decide⟩ (dgAll k 0 fl S)) T =
        (⟨⟩, Function.update T .dgammaS (dgMid S k 1 (S .dgammaS))) := exec_dgEnd k 0 fl S T (S .dgammaS) hT h
    have e1 (T : Sta) (hT : T .dgammaS = dgMid S k 1 (S .dgammaS)) : exec (dgEnd k ⟨1, by decide⟩ (dgAll k 1 fl S)) T =
        (⟨⟩, Function.update T .dgammaS (dgMid S k 2 (S .dgammaS))) := exec_dgEnd k 1 fl S T (S .dgammaS) hT h
    have e2 (T : Sta) (hT : T .dgammaS = dgMid S k 2 (S .dgammaS)) : exec (dgEnd k ⟨2, by decide⟩ (dgAll k 2 fl S)) T =
        (⟨⟩, Function.update T .dgammaS (dgMid S k 3 (S .dgammaS))) := exec_dgEnd k 2 fl S T (S .dgammaS) hT h
    have e3 (T : Sta) (hT : T .dgammaS = dgMid S k 3 (S .dgammaS)) : exec (dgEnd k ⟨3, by decide⟩ (dgAll k 3 fl S)) T =
        (⟨⟩, Function.update T .dgammaS (dgMid S k 4 (S .dgammaS))) := exec_dgEnd k 3 fl S T (S .dgammaS) hT h
    simp only [Machine.exec_bind, if_true]
    rw [e0 T h0, e1, e2, e3]
    · simp only [Function.update_idem]
    all_goals simp only [Function.update_self]
  · unfold chunkEnd
    rw [Bool.not_eq_true] at h
    rw [h]; rfl

/-! ## The matrix products of a chunk -/

theorem window_full {s : Shape} {α : Type} (x : s.Idx → α) (off : Fin s.rank → ℕ) (inb : ∀ a, off a + s.size a ≤ s.size a) :
    VecWindow.window x off s.size inb = x :=
  funext fun z => congrArg x (Rect.emb_unit_full inb z)

theorem put_full {s : Shape} {α : Type} (x : s.Idx → α) (off : Fin s.rank → ℕ) (inb : ∀ a, off a + s.size a ≤ s.size a) (w : s.Idx → α) :
    VecWindow.put x off s.size w = w := by
  funext y
  have h0 : ∀ a, off a = 0 := fun a => by have := inb a; omega
  refine (dif_pos fun a => ⟨by rw [h0]; exact Nat.zero_le _, by rw [h0, Nat.zero_add]; exact (y a).isLt⟩).trans ?_
  refine congrArg w (funext fun a => Fin.ext ?_)
  show (y a).val - off a = _
  rw [h0]; rfl

/-- A place in gamma's split. -/
def sc (l c : ℕ) : S128x5120.Idx := ix2 (Fin.ofNat 128 l) (Fin.ofNat 5120 c)

theorem win_dyc (f : S256x5120.Idx → EReal) (z : S256x512.Idx) :
    VecWindow.window f ![0, base k] S256x512.size (inb_dyc k) z = f (rc (z 0).val (512 * k.val + (z 1).val)) := by
  have hk := k_lt k
  idx_vars z
  refine congrArg f ((eq_ix2 _).trans (congrArg₂ ix2 (Fin.ext ?_) (Fin.ext ?_)))
  · show 0 + 1 * z0.val = z0.val % 256
    omega
  · show base k + 1 * z1.val = (512 * k.val + z1.val) % 5120
    rw [Nat.mod_eq_of_lt (by omega), base_eq]; omega

theorem win_gs (f : S128x5120.Idx → EReal) (z : S128x512.Idx) :
    VecWindow.window f ![0, base k] S128x512.size (inb_gs k) z = f (sc (z 0).val (512 * k.val + (z 1).val)) := by
  have hk := k_lt k
  idx_vars z
  refine congrArg f ((eq_ix2 _).trans (congrArg₂ ix2 (Fin.ext ?_) (Fin.ext ?_)))
  · show 0 + 1 * z0.val = z0.val % 128
    omega
  · show base k + 1 * z1.val = (512 * k.val + z1.val) % 5120
    rw [Nat.mod_eq_of_lt (by omega), base_eq]; omega

theorem win_db (f : S8x5120.Idx → EReal) (z : S8x512.Idx) :
    VecWindow.window f ![0, base k] S8x512.size (inb_db k) z = f (dc (z 0).val (512 * k.val + (z 1).val)) := by
  have hk := k_lt k
  idx_vars z
  refine congrArg f ((eq_ix2 _).trans (congrArg₂ ix2 (Fin.ext ?_) (Fin.ext ?_)))
  · show 0 + 1 * z0.val = z0.val % 8
    omega
  · show base k + 1 * z1.val = (512 * k.val + z1.val) % 5120
    rw [Nat.mod_eq_of_lt (by omega), base_eq]; omega

theorem put_db (f : S8x5120.Idx → EReal) (w : S8x512.Idx → EReal) (N : ℕ → ℕ → EReal)
    (hw : ∀ z, w z = N (z 0).val (512 * k.val + (z 1).val)) (y : S8x5120.Idx) :
    VecWindow.put f ![0, base k] S8x512.size w y
      = if 512 * k.val ≤ (y 1).val ∧ (y 1).val < 512 * k.val + 512 then N (y 0).val (y 1).val else f y := by
  have hc := base_eq k
  by_cases h : 512 * k.val ≤ (y 1).val ∧ (y 1).val < 512 * k.val + 512
  · have h' : ∀ a, (![0, base k] : Fin 2 → ℕ) a ≤ (y a).val ∧ (y a).val < (![0, base k] : Fin 2 → ℕ) a + S8x512.size a := by
      intro a
      match a with
      | ⟨0, _⟩ => exact ⟨Nat.zero_le _, lt_of_lt_of_eq (y 0).isLt (Nat.zero_add 8).symm⟩
      | ⟨1, _⟩ => exact ⟨hc ▸ h.1, hc ▸ h.2⟩
    rw [if_pos h]
    refine (dif_pos h').trans ((hw _).trans ?_)
    refine congrArg₂ N ?_ ?_
    · show (y 0).val - 0 = _
      omega
    · show 512 * k.val + ((y 1).val - base k) = _
      omega
  · rw [if_neg h]
    refine dif_neg fun h' => h ?_
    have h1 := h' 1
    refine ⟨?_, ?_⟩
    · exact hc ▸ h1.1
    · exact hc ▸ h1.2

/-- The cotangents of a row by lane `l` of gamma's split, over chunk `k`. -/
def sgDot (S : Sta) (k r l : ℕ) : EReal := ∑ c : Fin 512, dyN S r (512 * k + c.val) * S .gsplit (sc l (512 * k + c.val))

/-- The cotangents of a column, over the rows of a block. -/
def dbDot (S : Sta) (c : ℕ) : EReal := ∑ r : Fin 256, dyN S r.val c

/-- The column sums after the chunks before `k` have joined. -/
def dbMid (S : Sta) (a b : ℕ) (f : S8x5120.Idx → EReal) : S8x5120.Idx → EReal := fun y =>
  if a ≤ (y 1).val ∧ (y 1).val < b then f y + dbDot S (y 1).val else f y

theorem dot_rows (A : FVec Ideal S256x512 .bf16) (B : FVec Ideal S128x512 .bf16) (r : Fin 256) (l : Fin 128) :
    matmul (F := Ideal) dot_S256x512_S128x512_S256x128_1_1_0_0_n_n none
      (shapeCast S256x512 A shapeCasts_S256x512_S256x512 : FVec Ideal S256x512 .bf16) B (constant S256x128 .f32 0x00000000#32) (ix2 r l)
    = ∑ c : Fin 512, A (ix2 r c) * B (ix2 l c) := by
  pointwise

theorem dot_cols (A : FVec Ideal S256x512 .bf16) (s : Fin 8) (c : Fin 512) :
    matmul (F := Ideal) dot_S8x256_S256x512_S8x512_1_0_0_1_n_n none (broadcast S8x256 (Scalar.ofBits .bf16 0x3F80#16))
      (shapeCast S256x512 A shapeCasts_S256x512_S256x512 : FVec Ideal S256x512 .bf16) (constant S8x512 .f32 0x00000000#32) (ix2 s c)
    = ∑ r : Fin 256, A (ix2 r c) := by
  pointwise

open Classical in
/-- What the matrix products of a chunk leave. -/
def dotsOut (S : Sta) : Sta
  | .sg => fun y => S .sg y + sgDot S k (y 0).val (y 1).val
  | .dbetaS => dbMid S (512 * k) (512 * k + 512) (S .dbetaS)
  | b => S b

theorem exec_dots (S : Sta) : exec (dots k) S = (⟨⟩, dotsOut k S) := by
  have e : exec (dots k) S = (⟨⟩, Function.update (Function.update S .sg (VecWindow.put (S .sg) ![0, 0] S256x128.size
      (shapeCast S256x128 (addf (F := Ideal) (VecWindow.window (S .sg) ![0, 0] S256x128.size inb_S256x128_S256x128_0_0)
        (matmul (F := Ideal) (φ₁ := .bf16) (φ₂ := .bf16) dot_S256x512_S128x512_S256x128_1_1_0_0_n_n none
          (shapeCast S256x512 (VecWindow.window (S .dy) ![0, base k] S256x512.size (inb_dyc k)) shapeCasts_S256x512_S256x512)
          (VecWindow.window (S .gsplit) ![0, base k] S128x512.size (inb_gs k)) (constant S256x128 .f32 0x00000000#32)))
        shapeCasts_S256x128_S256x128))) .dbetaS (VecWindow.put (S .dbetaS) ![0, base k] S8x512.size
      (shapeCast S8x512 (addf (F := Ideal) (VecWindow.window (S .dbetaS) ![0, base k] S8x512.size (inb_db k))
        (matmul (F := Ideal) (φ₁ := .bf16) (φ₂ := .bf16) dot_S8x256_S256x512_S8x512_1_0_0_1_n_n none
          (broadcast S8x256 (Scalar.ofBits .bf16 0x3F80#16))
          (shapeCast S256x512 (VecWindow.window (S .dy) ![0, base k] S256x512.size (inb_dyc k)) shapeCasts_S256x512_S256x512)
          (constant S8x512 .f32 0x00000000#32))) shapeCasts_S8x512_S8x512))) := rfl
  refine e.trans (Prod.ext rfl ?_)
  funext b
  cases b <;> try rfl
  · refine (put_full _ _ inb_S256x128_S256x128_0_0 _).trans ?_
    funext y
    refine (congrFun (shapeCast_id _ _) y).trans ?_
    refine congrArg₂ (· + ·) (congrFun (window_full (s := S256x128) _ _ _) y) ?_
    idx_vars y
    refine (dot_rows _ _ y0 y1).trans (Finset.sum_congr rfl fun c _ => ?_)
    refine congrArg₂ (· * ·) (win_dyc k _ _) (win_gs k _ _)
  · funext y
    refine (put_db k _ _ (fun s c => S .dbetaS (dc s c) + dbDot S c) (fun z => (congrFun (shapeCast_id _ _) z).trans ?_) y).trans ?_
    · refine congrArg₂ (· + ·) (win_db k _ _) ?_
      idx_vars z
      exact (dot_cols _ z0 z1).trans (Finset.sum_congr rfl fun c _ => win_dyc k _ _)
    · rw [dc_val]
      rfl

/-! ## A chunk -/

theorem exec_chunk (S : Sta) : exec (chunk k fl) S = ((), match fl.sums with
    | true => Function.update (mid fl (dotsOut k S) k 8 0) .dgammaS (dgMid S k 4 (S .dgammaS))
    | false => mid fl S k 8 0) := by
  unfold chunk
  by_cases h : fl.sums = true
  · have e : exec (chunkStart k fl) S = (⟨⟩, dotsOut k S) := by
      unfold chunkStart; rw [h]; exact exec_dots k S
    rw [Machine.exec_bind, e, Machine.exec_bind, exec_chunkRows, Machine.exec_bind]
    dsimp only
    rw [exec_chunkEnd k fl (dotsOut k S) (mid fl (dotsOut k S) k 8 0) rfl]
    rw [h]
    rfl
  · rw [Bool.not_eq_true] at h
    have e : exec (chunkStart k fl) S = (⟨⟩, S) := by
      unfold chunkStart; rw [h]; rfl
    rw [Machine.exec_bind, e, Machine.exec_bind, exec_chunkRows, Machine.exec_bind]
    dsimp only
    rw [exec_chunkEnd k fl S (mid fl S k 8 0) rfl]
    rw [h]
    rfl

/-! ## All chunks -/

/-- The largest size in a row's lane over the chunks before `n`. -/
def wTo (S : Sta) (r l : ℕ) (a : EReal) : ℕ → EReal
  | 0 => a
  | n + 1 => max (wTo S r l a n) (w4 S n r l)

/-- The buffers after the chunks before `n`. -/
def colsOut (S : Sta) (n : ℕ) : Sta
  | .xhat => mix fl.sums (fun y => (y 1).val < 512 * n) (xhatN S) (S .xhat)
  | .g => mix fl.sums (fun y => (y 1).val < 512 * n) (gN S) (S .g)
  | .w => mix fl.dx (fun y => (y 1).val < 512 * n) (wN S) (S .w)
  | .codes => mix fl.codes (fun y => (y 1).val < 512 * n) (codeN S) (S .codes)
  | .wmax => fun y => if fl.dx then wTo S (y 0).val (y 1).val (S .wmax y) n else S .wmax y
  | .sgx => fun y => if fl.sums then S .sgx y + ∑ k ∈ Finset.range n, gx4 S k (y 0).val (y 1).val else S .sgx y
  | .sg => fun y => if fl.sums then S .sg y + ∑ k ∈ Finset.range n, sgDot S k (y 0).val (y 1).val else S .sg y
  | .dbetaS => fun y => if fl.sums then dbMid S 0 (512 * n) (S .dbetaS) y else S .dbetaS y
  | .dgammaS => fun y => if fl.sums = true ∧ (y 1).val < 512 * n then S .dgammaS y + q32 S (y 0).val (y 1).val else S .dgammaS y
  | b => S b

theorem colsOut_zero (S : Sta) : colsOut fl S 0 = S := by
  funext b
  cases b <;> first
    | rfl
    | (funext y; exact if_neg fun h' => by have := h'.2; omega)
    | (funext y; simp [colsOut, wTo, dbMid])

theorem mix_mix (b : Bool) (P Q R : S256x5120.Idx → Prop) (N N' : ℕ → ℕ → EReal) (f : S256x5120.Idx → EReal)
    (hR : ∀ y, R y ↔ P y ∨ Q y) (hN : ∀ y, Q y → ¬ P y → N' (y 0).val (y 1).val = N (y 0).val (y 1).val) (hd : ∀ y, Q y → ¬ P y) :
    mix b Q N' (mix b P N f) = mix b R N f := by
  funext y
  unfold mix
  by_cases hb : b = true
  · by_cases hq : Q y
    · rw [if_pos ⟨hb, hq⟩, if_pos ⟨hb, (hR y).2 (.inr hq)⟩, hN y hq (hd y hq)]
    · rw [if_neg fun h => hq h.2]
      by_cases hp : P y
      · rw [if_pos ⟨hb, hp⟩, if_pos ⟨hb, (hR y).2 (.inl hp)⟩]
      · rw [if_neg fun h => hp h.2, if_neg fun h => ((hR y).1 h.2).elim hp hq]
  · simp [hb]

/-- A place in chunk `k` is not before it. -/
theorem mix_later (b : Bool) (N : ℕ → ℕ → EReal) (f : S256x5120.Idx → EReal) (k r c : ℕ) (h : 512 * k ≤ c) (hc : c < 5120) :
    mix b (fun y => (y 1).val < 512 * k) N f (rc r c) = f (rc r c) :=
  if_neg fun h' => by
    have h2 : (rc r c 1).val < 512 * k := h'.2
    have e : (rc r c 1).val = c := Nat.mod_eq_of_lt hc
    omega

theorem wN_later (S : Sta) (k r c : ℕ) (h : 512 * k ≤ c) (hc : c < 5120) : wN (colsOut fl S k) r c = wN S r c := by
  unfold wN colsOut
  dsimp only
  rw [mix_later _ _ _ _ _ _ h hc, mix_later _ _ _ _ _ _ h hc]

theorem codeN_later (S : Sta) (k r c : ℕ) (h : 512 * k ≤ c) (hc : c < 5120) : codeN (colsOut fl S k) r c = codeN S r c := by
  unfold codeN colsOut
  dsimp only
  rw [mix_later _ _ _ _ _ _ h hc]

theorem w4_later (S : Sta) (k r l : ℕ) (hk : k < 10) (hl : l < 128) : w4 (colsOut fl S k) k r l = w4 S k r l := by
  unfold w4
  rw [wN_later, wN_later, wN_later, wN_later] <;> omega

theorem done_all (k : ℕ) (y : S256x5120.Idx) : Done k 8 0 y ↔ 512 * k ≤ (y 1).val ∧ (y 1).val < 512 * k + 512 := by
  have h : (y 0).val < 256 := (y 0).isLt
  unfold Done
  omega

theorem mix_chunk (b : Bool) (N N' : ℕ → ℕ → EReal) (f : S256x5120.Idx → EReal)
    (hN : ∀ r c, 512 * k.val ≤ c → c < 5120 → N' r c = N r c) :
    mix b (Done k 8 0) N' (mix b (fun y => (y 1).val < 512 * k.val) N f) = mix b (fun y => (y 1).val < 512 * (k.val + 1)) N f :=
  mix_mix b _ _ _ N N' f (fun y => by rw [done_all]; omega)
    (fun y h _ => hN _ _ ((done_all _ y).1 h).1 (y 1).isLt) (fun y h => by have := ((done_all _ y).1 h).1; omega)

theorem dbMid_dbMid (S : Sta) (n : ℕ) (f : S8x5120.Idx → EReal) (y : S8x5120.Idx) :
    dbMid S (512 * n) (512 * n + 512) (dbMid S 0 (512 * n) f) y = dbMid S 0 (512 * (n + 1)) f y := by
  unfold dbMid
  by_cases h : (y 1).val < 512 * n
  · rw [if_neg (by omega), if_pos (by omega), if_pos (by omega)]
  · by_cases h' : (y 1).val < 512 * n + 512
    · rw [if_pos (by omega), if_neg (by omega), if_pos (by omega)]
    · rw [if_neg (by omega), if_neg (by omega), if_neg (by omega)]

theorem dg_dg (S : Sta) (n : ℕ) (f : S8x5120.Idx → EReal) (y : S8x5120.Idx) :
    dgMid S n 4 (fun y => if true = true ∧ (y 1).val < 512 * n then f y + q32 S (y 0).val (y 1).val else f y) y
      = if true = true ∧ (y 1).val < 512 * (n + 1) then f y + q32 S (y 0).val (y 1).val else f y := by
  unfold dgMid
  dsimp only
  by_cases h : (y 1).val < 512 * n
  · rw [if_neg (by omega), if_pos ⟨rfl, h⟩, if_pos ⟨rfl, by omega⟩]
  · by_cases h' : (y 1).val < 512 * n + 512
    · rw [if_pos (by omega), if_neg fun h'' => h h''.2, if_pos ⟨rfl, by omega⟩]
    · rw [if_neg (by omega), if_neg fun h'' => h h''.2, if_neg fun h'' => h' (by have := h''.2; omega)]

theorem wmax_step (S : Sta) (n : ℕ) (hn : n < 10) (b : Bool) (T : Sta) (hT : ∀ r l, l < 128 → w4 T n r l = w4 S n r l) (y : S256x128.Idx) :
    (if b = true ∧ (y 0).val < 32 * 8 then max (if b then wTo S (y 0).val (y 1).val (S .wmax y) n else S .wmax y) (w4 T n (y 0).val (y 1).val)
      else if b then wTo S (y 0).val (y 1).val (S .wmax y) n else S .wmax y)
      = if b then wTo S (y 0).val (y 1).val (S .wmax y) (n + 1) else S .wmax y := by
  have h0 : (y 0).val < 256 := (y 0).isLt
  have h1 : (y 1).val < 128 := (y 1).isLt
  cases b
  · exact if_neg fun h => by cases h.1
  · refine (if_pos ⟨rfl, h0⟩).trans ?_
    rw [hT _ _ h1]; rfl

/-- A chunk takes the buffers one chunk further. -/
theorem exec_chunk_step (S : Sta) : exec (chunk k fl) (colsOut fl S k) = ((), colsOut fl S (k.val + 1)) := by
  have hk := k_lt k
  rw [exec_chunk]
  refine Prod.ext rfl (funext fun b => ?_)
  obtain ⟨a, b', c⟩ := fl
  cases a
  · cases b <;> try rfl
    · exact mix_chunk k c (codeN S) (codeN (colsOut ⟨false, b', c⟩ S k)) (S .codes) fun r c h hc => codeN_later _ S k r c h hc
    · exact mix_chunk k b' (wN S) (wN (colsOut ⟨false, b', c⟩ S k)) (S .w) fun r c h hc => wN_later _ S k r c h hc
    · funext y; exact wmax_step S k hk b' (colsOut ⟨false, b', c⟩ S k) (fun r l hl => w4_later _ S k r l hk hl) y
  · cases b <;> try rfl
    · exact mix_chunk k c (codeN S) (codeN (colsOut ⟨true, b', c⟩ S k)) (S .codes) fun r c h hc => codeN_later _ S k r c h hc
    · exact mix_chunk k true (xhatN S) (xhatN S) (S .xhat) fun _ _ _ _ => rfl
    · exact mix_chunk k true (gN S) (gN S) (S .g) fun _ _ _ _ => rfl
    · exact mix_chunk k b' (wN S) (wN (colsOut ⟨true, b', c⟩ S k)) (S .w) fun r c h hc => wN_later _ S k r c h hc
    · funext y
      refine Eq.trans (b := S .sg y + ∑ n ∈ Finset.range k, sgDot S n (y 0).val (y 1).val + sgDot S k (y 0).val (y 1).val) rfl ?_
      refine Eq.trans ?_ (b := S .sg y + ∑ n ∈ Finset.range (k.val + 1), sgDot S n (y 0).val (y 1).val) rfl
      rw [Finset.sum_range_succ, add_assoc]
    · funext y
      have h0 : (y 0).val < 32 * 8 := (y 0).isLt
      refine Eq.trans (b := S .sgx y + ∑ n ∈ Finset.range k, gx4 S n (y 0).val (y 1).val + gx4 S k (y 0).val (y 1).val) (if_pos ⟨rfl, h0⟩) ?_
      refine Eq.trans ?_ (b := S .sgx y + ∑ n ∈ Finset.range (k.val + 1), gx4 S n (y 0).val (y 1).val) rfl
      rw [Finset.sum_range_succ, add_assoc]
    · funext y; exact wmax_step S k hk b' (colsOut ⟨true, b', c⟩ S k) (fun r l hl => w4_later _ S k r l hk hl) y
    · funext y; exact dg_dg S k (S .dgammaS) y
    · funext y; exact dbMid_dbMid S k (S .dbetaS) y

/-- The loop over the chunks leaves what ten chunks leave. -/
theorem exec_columns (S : Sta) : exec (columns fl) S = ((), colsOut fl S 10) := by
  have go : ∀ (L : List (Fin colLoop.trips)) (n : ℕ) (h : ∀ m (hm : m < L.length), (L[m]).val = n + m),
      exec (Scf.forFrom (fun k (_ : Unit) => chunk k fl) L ()) (colsOut fl S n) = ((), colsOut fl S (n + L.length)) := by
    intro L
    induction L with
    | nil => intro n _; rfl
    | cons k ks ih =>
      intro n h
      have hk : k.val = n := h 0 (Nat.succ_pos _)
      subst hk
      rw [Scf.forFrom_cons, Machine.exec_bind, exec_chunk_step]
      refine (ih (k.val + 1) fun m hm => (h (m + 1) (Nat.succ_lt_succ hm)).trans (by omega)).trans ?_
      rw [List.length_cons, Nat.add_assoc, Nat.add_comm 1]
  unfold columns Scf.Loop.for
  rw [Scf.for_eq]
  refine (congrArg (fun T => exec _ T) (colsOut_zero fl S).symm).trans ((go _ 0 fun m hm => ?_).trans ?_)
  · rw [List.getElem_finRange]; exact (Nat.zero_add _).symm
  · rw [List.length_finRange]
    show ((), colsOut fl S (0 + colLoop.trips)) = _
    rw [trips_eq]

end Cert.Body

end
-- ==== Proof.Vectors.lean ====
/- What the vector operations that a step runs before and after its columns compute, at one place. -/
module

public import proofs.«01_k».proof.Proof.Columns

@[expose] public section

set_option maxRecDepth 16384

noncomputable section

namespace Cert.Body

open Idealize.ShloMosaic Idealize.SL.Sem Idealize.ShloMosaic.Pointwise
open Cert.KernelIdeal Cert.KernelIdeal.Gen Cert.Machine

theorem zeroV_at (y : S256x128.Idx) : zeroV (F := Ideal) y = 0 := by
  idx_vars y
  unfold zeroV
  pointwise

theorem zeroD_at (y : S8x5120.Idx) : zeroD (F := Ideal) y = 0 := by
  idx_vars y
  unfold zeroD
  pointwise

theorem sameR_eq (v : FVec Ideal S256x128 .f32) : sameR v = v := shapeCast_id ..

/-- Every row holds its statistic in every lane. -/
theorem lanesV_at (v : Vec Ideal S1x256 .f32) (y : S256x128.Idx) : lanesV (F := Ideal) v y = v (ix2 0 (y 0)) := by
  idx_vars y
  unfold lanesV
  pointwise
  split
  · rfl
  · exact congrArg v (congrArg (ix2 0) (Fin.ext (show 128 + (y0.val - 128) = y0.val by omega)))

theorem rowsV_at (v : FVec Ideal S256x128 .f32) (r : Fin 256) : rowsV (F := Ideal) v (ix2 0 r) = v (ix2 r 0) := by
  unfold rowsV
  pointwise
  split
  · rfl
  · exact congrArg v (congrArg (fun r => ix2 r 0) (Fin.ext (show 128 + (r.val - 128) = r.val by omega)))

theorem meanV_at (invd : EReal) (v : Vec Ideal S256x128 .f32) (y : S256x128.Idx) :
    meanV (F := Ideal) invd v y = (∑ l : Fin 128, v (ix2 (y 0) l)) * invd := by
  idx_vars y
  unfold meanV
  pointwise

theorem ofBits_bot : Ideal.ofBits .f32 0xFF800000#32 = ⊥ := by simp [Ideal.ofBits, Ideal.ieee]

theorem sizeV_at (r v : Vec Ideal S256x128 .f32) (y : S256x128.Idx) :
    sizeV (F := Ideal) r v y = size (r y) * (Finset.univ.sup fun l : Fin 128 => v (ix2 (y 0) l)) * Ideal.ofBits .f32 0x37924925#32 := by
  idx_vars y
  unfold sizeV
  pointwise
  rw [show Ideal.ofBits FTy.f32 4286578688#32 = ⊥ from ofBits_bot]
  rfl

/-- Gamma's split by lane: gamma, what it is above itself, and what that is above itself. -/
def split (g : EReal) (l : ℕ) : EReal := if l = 0 then g else if l = 1 then g - g else if l = 2 then (g - g) - (g - g) else 0

theorem splitV_at (gam : Vec Ideal S1x5120 .f32) (y : S128x5120.Idx) :
    splitV (F := Ideal) gam y = split (gam (ix2 0 (y 1))) (y 0).val := by
  idx_vars y
  unfold splitV
  pointwise
  show _ = split (gam (ix2 0 y1)) y0.val
  have e (a : ℕ) (h : a < 1) : ix2 (⟨a, h⟩ : Fin 1) y1 = ix2 0 y1 := congrArg (fun z => ix2 z y1) (Subsingleton.elim _ _)
  simp only [e]
  unfold split
  by_cases h0 : y0.val = 0
  · rw [dif_pos (by omega), if_pos h0]
  · rw [dif_neg (by omega), if_neg h0]
    by_cases h1 : y0.val = 1
    · rw [dif_pos (by omega), if_pos h1]
    · rw [dif_neg (by omega), if_neg h1]
      by_cases h2 : y0.val = 2
      · rw [dif_pos (by omega), if_pos h2]
      · rw [dif_neg (by omega), if_neg h2]

theorem dgO_at (v : Vec Ideal S8x5120 .f32) (y : S1x5120.Idx) : (shapeCast S1x5120 (multiReduction (F := Ideal) .add [0] S5120 v 0x00000000#32 reduces_S8x5120_S5120 (.inl rfl) rfl) shapeCasts_S5120_S1x5120 : FVec Ideal S1x5120 .f32) y = ∑ s : Fin 8, v (ix2 s (y 1)) := by
  idx_vars y
  pointwise

/-! ## The scale of one row -/

/-- The power of two of biased exponent `b`. -/
def pow (b : BitVec 32) : EReal := Ideal.ofBits .f32 (b <<< 23)

/-- One step of the search for the biased exponent of `m`. -/
def probe (m : EReal) (bit b : BitVec 32) : BitVec 32 := if pow (b + bit) ≤ m then b + bit else b

/-- The biased exponent of `m`. -/
def biased (m : EReal) : BitVec 32 :=
  probe m 1#32 (probe m 2#32 (probe m 4#32 (probe m 8#32 (probe m 16#32 (probe m 32#32 (probe m 64#32 (probe m 128#32 0#32)))))))

/-- The exponent of the scale. -/
def expo (b : BitVec 32) : BitVec 32 := if b = 0#32 ∨ b = 255#32 then 0#32 else b - 126#32

/-- The deviation's reciprocal over the scale, kept finite. -/
def inv (r : EReal) (e : BitVec 32) : EReal :=
  min (Ideal.ofBits .f32 0x7F7FFFFF#32) (max (Ideal.ofBits .f32 0xFF7FFFFF#32) (r * pow (127#32 - e)))

theorem powV_at (b : IVec S256x128 32) (y : S256x128.Idx) : powV (F := Ideal) b y = pow (b y) := by
  idx_vars y
  unfold powV
  pointwise
  rfl

theorem probeV_at (m : FVec Ideal S256x128 .f32) (bit : BitVec 32) (b : IVec S256x128 32) (y : S256x128.Idx) :
    probeV m bit b y = probe (m y) bit (b y) := by
  have h : probeV m bit b y = if powV (F := Ideal) (addi b (broadcast S256x128 bit)) y ≤ m y then b y + bit else b y := by
    idx_vars y
    unfold probeV
    pointwise
    rfl
  rw [h, powV_at]
  rfl

theorem biasedV_at (m : FVec Ideal S256x128 .f32) (y : S256x128.Idx) : biasedV m y = biased (m y) := by
  unfold biasedV biased
  simp only [probeV_at]
  rfl

theorem expV_at (b : IVec S256x128 32) (y : S256x128.Idx) : expV b y = expo (b y) := by
  idx_vars y
  unfold expV expo
  pointwise
  generalize b (ix2 y0 y1) = v
  show (if (BitVec.ofBool (v == 0#32) ||| BitVec.ofBool (v == 255#32)) = 1#1 then 0#32 else v - 126#32) = _
  by_cases h : v = 0#32
  · subst h; rfl
  by_cases h' : v = 255#32
  · subst h'; rfl
  rw [beq_false_of_ne h, beq_false_of_ne h', if_neg (by decide), if_neg (not_or.2 ⟨h, h'⟩)]

theorem invV_at (r : FVec Ideal S256x128 .f32) (e : IVec S256x128 32) (y : S256x128.Idx) : invV r e y = inv (r y) (e y) := by
  have h : invV r e y = min (Ideal.ofBits .f32 0x7F7FFFFF#32) (max (Ideal.ofBits .f32 0xFF7FFFFF#32)
      (r y * powV (subi (broadcast S256x128 127#32) e) y)) := by
    idx_vars y
    unfold invV
    pointwise
  rw [h, powV_at]
  rfl

theorem scaleV_at (e : IVec S256x128 32) (r : Fin 256) : scaleV (F := Ideal) e (ix2 0 r) = pow (127#32 + e (ix2 r 0)) := by
  unfold scaleV
  rw [rowsV_at, powV_at]
  rfl

end Cert.Body

end
-- ==== Proof.Blocks.lean ====
/- What a block of rows contributes, stage by stage, as contents of the kernel's buffers: the sums, the means, the gradient, the
   scale, the codes. And that the loop over the columns, entered with a block's earlier stage, leaves its next. -/
module

public import proofs.«01_k».proof.Proof.Vectors
public import proofs.«01_k».proof.Proof.Ideal

@[expose] public section

set_option maxRecDepth 16384

noncomputable section

namespace Cert.Body

open Idealize.ShloMosaic Idealize.SL.Sem Idealize.ShloMosaic.Pointwise
open Cert.KernelIdeal Cert.KernelIdeal.Gen Cert.Machine

/-- The arrays the kernel is given. -/
structure Args where
  x : S30720x5120.Idx → EReal
  dy : S30720x5120.Idx → EReal
  gamma : S1x5120.Idx → EReal
  mu : S30x1024.Idx → EReal
  rstd : S30x1024.Idx → EReal

/-- The place, in all rows, of a place of block `t`. -/
def bi (t : ℕ) (y : S256x5120.Idx) : S30720x5120.Idx := ix2 (Fin.ofNat 30720 (256 * t + (y 0).val)) (y 1)

/-- The place of row `r` of block `t` in the rows' statistics. -/
def si (t r : ℕ) : S30x1024.Idx := ix2 (Fin.ofNat 30 (t / 4)) (Fin.ofNat 1024 (256 * (t % 4) + r))

variable (A : Args) (t : ℕ)

/-- The block as the sums find it. -/
def blk0 : Sta
  | .x => fun y => A.x (bi t y)
  | .dy => fun y => A.dy (bi t y)
  | .gamma => A.gamma
  | .muS => fun y => A.mu (si t (y 0).val)
  | .rS => fun y => A.rstd (si t (y 0).val)
  | .gsplit => fun y => split (A.gamma (ix2 0 (y 1))) (y 0).val
  | .mu => A.mu
  | .rstd => A.rstd
  | .dgammaO => fun _ => 0
  | .dbetaO => fun _ => 0
  | .codes => fun _ => 0
  | .scaleO => fun _ => 0
  | .xhat => fun _ => 0
  | .g => fun _ => 0
  | .w => fun _ => 0
  | .rfin => fun _ => 0
  | .mg => fun _ => 0
  | .mgx => fun _ => 0
  | .inv => fun _ => 0
  | .sg => fun _ => 0
  | .sgx => fun _ => 0
  | .wmax => fun _ => 0
  | .dgammaS => fun _ => 0
  | .dbetaS => fun _ => 0

/-- The block with its sums. -/
def blk1 : Sta
  | .xhat => fun y => xhatN (blk0 A t) (y 0).val (y 1).val
  | .g => fun y => gN (blk0 A t) (y 0).val (y 1).val
  | .sg => fun y => 0 + ∑ k ∈ Finset.range 10, sgDot (blk0 A t) k (y 0).val (y 1).val
  | .sgx => fun y => 0 + ∑ k ∈ Finset.range 10, gx4 (blk0 A t) k (y 0).val (y 1).val
  | b => blk0 A t b

/-- The block with its means. -/
def blk2 : Sta
  | .mg => fun y => (∑ l : Fin 128, blk1 A t .sg (ix2 (y 0) l)) * invd (F := Ideal)
  | .mgx => fun y => (∑ l : Fin 128, blk1 A t .sgx (ix2 (y 0) l)) * invd (F := Ideal)
  | b => blk1 A t b

/-- The block with its gradient over the deviation. -/
def blk3 : Sta
  | .w => fun y => wN (blk2 A t) (y 0).val (y 1).val
  | .wmax => fun y => wTo (blk2 A t) (y 0).val (y 1).val 0 10
  | b => blk2 A t b

/-- The size of a row's gradient over the largest code, from the row's sizes lane by lane. -/
def sizeOf (r : EReal) (wmax : S256x128.Idx → EReal) (y : Fin 256) : EReal :=
  size r * (Finset.univ.sup fun l : Fin 128 => wmax (ix2 y l)) * Ideal.ofBits .f32 0x37924925#32

/-- The exponent of a row's scale. -/
def rowE (y : Fin 256) : BitVec 32 := expo (biased (sizeOf (A.rstd (si t y.val)) (blk3 A t .wmax) y))

/-- A row's scale. -/
def rowScale (y : Fin 256) : EReal := pow (127#32 + rowE A t y)

/-- The block with the reciprocal of its scale. -/
def blk4 : Sta
  | .inv => fun y => inv (A.rstd (si t (y 0).val)) (rowE A t (y 0))
  | b => blk3 A t b

/-- The block's codes. -/
def blkCodes : S256x5120.Idx → EReal := fun y => codeN (blk4 A t) (y 0).val (y 1).val

/-- The column sums of the blocks before `n`, by sublane. -/
def dgTo (n : ℕ) : S8x5120.Idx → EReal := fun y => ∑ t ∈ Finset.range n, q32 (blk0 A t) (y 0).val (y 1).val

/-- The column sums of the cotangents of the blocks before `n`. -/
def dbTo (n : ℕ) : S8x5120.Idx → EReal := fun y => ∑ t ∈ Finset.range n, dbDot (blk0 A t) (y 1).val

theorem dgTo_succ (n : ℕ) : (fun y => dgTo A n y + q32 (blk0 A n) (y 0).val (y 1).val) = dgTo A (n + 1) :=
  funext fun _ => (Finset.sum_range_succ _ _).symm

theorem dbTo_succ (n : ℕ) : (fun y => dbTo A n y + dbDot (blk0 A n) (y 1).val) = dbTo A (n + 1) :=
  funext fun _ => (Finset.sum_range_succ _ _).symm

/-! ## The columns take a block from stage to stage -/

variable {A t} (fl : Flags) (T : Sta)

/-- The buffers are as the sums of block `t` want them. -/
structure SumsIn (A : Args) (t : ℕ) (T : Sta) : Prop where
  x : T .x = blk0 A t .x
  dy : T .dy = blk0 A t .dy
  gamma : T .gamma = blk0 A t .gamma
  muS : T .muS = blk0 A t .muS
  rS : T .rS = blk0 A t .rS
  gsplit : T .gsplit = blk0 A t .gsplit
  sg : T .sg = fun _ => 0
  sgx : T .sgx = fun _ => 0

/-- The buffers hold the sums of block `t`. -/
structure SumsOut (A : Args) (t : ℕ) (T : Sta) : Prop where
  xhat : T .xhat = blk1 A t .xhat
  g : T .g = blk1 A t .g
  sg : T .sg = blk1 A t .sg
  sgx : T .sgx = blk1 A t .sgx

theorem mix_cols (N : ℕ → ℕ → EReal) (f : S256x5120.Idx → EReal) :
    mix true (fun y => (y 1).val < 512 * 10) N f = fun y => N (y 0).val (y 1).val :=
  funext fun y => if_pos ⟨rfl, (y 1).isLt⟩

theorem xhatN_eq (h : SumsIn A t T) : xhatN T = xhatN (blk0 A t) := by
  unfold xhatN; rw [h.x, h.muS, h.rS]

theorem dyN_eq (h : SumsIn A t T) : dyN T = dyN (blk0 A t) := by
  unfold dyN; rw [h.dy]

theorem gN_eq (h : SumsIn A t T) : gN T = gN (blk0 A t) := by
  unfold gN; rw [dyN_eq T h, h.gamma]

theorem gx4_eq (h : SumsIn A t T) : gx4 T = gx4 (blk0 A t) := by
  unfold gx4 gxN; rw [gN_eq T h, xhatN_eq T h]

theorem q32_eq (h : SumsIn A t T) : q32 T = q32 (blk0 A t) := by
  unfold q32 q4 qN; rw [dyN_eq T h, xhatN_eq T h]

theorem sgDot_eq (h : SumsIn A t T) : sgDot T = sgDot (blk0 A t) := by
  unfold sgDot; rw [dyN_eq T h, h.gsplit]

theorem dbDot_eq (h : SumsIn A t T) : dbDot T = dbDot (blk0 A t) := by
  unfold dbDot; rw [dyN_eq T h]

theorem cols_sums (hf : fl.sums = true) (h : SumsIn A t T) : SumsOut A t (colsOut fl T 10) where
  xhat := by
    refine Eq.trans (b := mix fl.sums (fun y => (y 1).val < 512 * 10) (xhatN T) (T .xhat)) rfl ?_
    rw [hf, mix_cols, xhatN_eq T h]; rfl
  g := by
    refine Eq.trans (b := mix fl.sums (fun y => (y 1).val < 512 * 10) (gN T) (T .g)) rfl ?_
    rw [hf, mix_cols, gN_eq T h]; rfl
  sg := by
    funext y
    refine (if_pos hf).trans ?_
    rw [h.sg, sgDot_eq T h]; rfl
  sgx := by
    funext y
    refine (if_pos hf).trans ?_
    rw [h.sgx, gx4_eq T h]; rfl

theorem cols_dg (hf : fl.sums = true) (h : SumsIn A t T) :
    colsOut fl T 10 .dgammaS = fun y => T .dgammaS y + q32 (blk0 A t) (y 0).val (y 1).val := by
  funext y
  refine (if_pos ⟨hf, (y 1).isLt⟩).trans ?_
  rw [q32_eq T h]

theorem cols_db (hf : fl.sums = true) (h : SumsIn A t T) :
    colsOut fl T 10 .dbetaS = fun y => T .dbetaS y + dbDot (blk0 A t) (y 1).val := by
  funext y
  refine (if_pos hf).trans ((if_pos ⟨Nat.zero_le _, (y 1).isLt⟩).trans ?_)
  rw [dbDot_eq T h]

theorem cols_dg_off (hf : fl.sums = false) : colsOut fl T 10 .dgammaS = T .dgammaS :=
  funext fun _ => if_neg fun h => by rw [hf] at h; cases h.1

theorem cols_db_off (hf : fl.sums = false) : colsOut fl T 10 .dbetaS = T .dbetaS :=
  funext fun _ => if_neg fun h => by rw [hf] at h; cases h

/-- The buffers are as the gradient of block `t` wants them. -/
structure DxIn (A : Args) (t : ℕ) (T : Sta) : Prop where
  g : T .g = blk2 A t .g
  mg : T .mg = blk2 A t .mg
  xhat : T .xhat = blk2 A t .xhat
  mgx : T .mgx = blk2 A t .mgx
  wmax : T .wmax = fun _ => 0

/-- The buffers hold the gradient of block `t`. -/
structure DxOut (A : Args) (t : ℕ) (T : Sta) : Prop where
  w : T .w = blk3 A t .w
  wmax : T .wmax = blk3 A t .wmax

theorem wN_eq (h : DxIn A t T) : wN T = wN (blk2 A t) := by
  unfold wN; rw [h.g, h.mg, h.xhat, h.mgx]

theorem wTo_eq (h : DxIn A t T) (r l : ℕ) (a : EReal) (n : ℕ) : wTo T r l a n = wTo (blk2 A t) r l a n := by
  induction n with
  | zero => rfl
  | succ n ih => unfold wTo w4; rw [ih, wN_eq T h]

theorem cols_dx (hf : fl.dx = true) (h : DxIn A t T) : DxOut A t (colsOut fl T 10) where
  w := by
    refine Eq.trans (b := mix fl.dx (fun y => (y 1).val < 512 * 10) (wN T) (T .w)) rfl ?_
    rw [hf, mix_cols, wN_eq T h]; rfl
  wmax := by
    funext y
    refine (if_pos hf).trans ?_
    rw [h.wmax, wTo_eq T h]; rfl

theorem cols_codes (hf : fl.codes = true) (hw : T .w = blk4 A t .w) (hi : T .inv = blk4 A t .inv) :
    colsOut fl T 10 .codes = blkCodes A t := by
  refine Eq.trans (b := mix fl.codes (fun y => (y 1).val < 512 * 10) (codeN T) (T .codes)) rfl ?_
  rw [hf, mix_cols]
  unfold codeN; rw [hw, hi]; rfl

end Cert.Body

end
-- ==== Proof.Stages.lean ====
/- What a step's stages before and after its columns leave in the buffers, and so what each of the five ways a step runs leaves. -/
module

public import proofs.«01_k».proof.Proof.Blocks

@[expose] public section

set_option maxRecDepth 16384

noncomputable section

namespace Cert.Body

open Idealize.ShloMosaic Idealize.SL.Sem Idealize.ShloMosaic.Pointwise
open Cert.KernelIdeal Cert.KernelIdeal.Gen Cert.Machine

/-! ## What the stages leave -/

/-- Gamma split, the column sums zero. -/
def setupOut (S : Sta) : Sta
  | .gsplit => fun y => split (S .gamma (ix2 0 (y 1))) (y 0).val
  | .dgammaS => fun _ => 0
  | .dbetaS => fun _ => 0
  | b => S b

/-- The means. -/
def finishSumsOut (S : Sta) : Sta
  | .mg => fun y => (∑ l : Fin 128, S .sg (ix2 (y 0) l)) * invd (F := Ideal)
  | .mgx => fun y => (∑ l : Fin 128, S .sgx (ix2 (y 0) l)) * invd (F := Ideal)
  | b => S b

/-- The statistics of block `t`, and zero sums. -/
def startSumsOut (t : ℕ) (S : Sta) : Sta
  | .muS => fun y => S .mu (si t (y 0).val)
  | .rS => fun y => S .rstd (si t (y 0).val)
  | .sg => fun _ => 0
  | .sgx => fun _ => 0
  | b => S b

/-- The exponent of the scale of a row of block `t`. -/
def exOf (t : ℕ) (S : Sta) (r : Fin 256) : BitVec 32 := expo (biased (sizeOf (S .rstd (si t r.val)) (S .wmax) r))

/-- The scales of block `t`, in their place, and their reciprocals. -/
def finishScaleOut (t : ℕ) (S : Sta) : Sta
  | .inv => fun y => inv (S .rstd (si t (y 0).val)) (exOf t S (y 0))
  | .scaleO => fun y => if 4 * (y 0).val + (y 1).val / 256 = t then pow (127#32 + exOf t S (Fin.ofNat 256 (y 1).val)) else S .scaleO y
  | b => S b

/-- Zero sizes. -/
def startDxOut (S : Sta) : Sta
  | .wmax => fun _ => 0
  | b => S b

/-- The column sums out. -/
def finishOutOut (S : Sta) : Sta
  | .dgammaO => fun y => ∑ s : Fin 8, S .dgammaS (ix2 s (y 1))
  | .dbetaO => fun y => S .dbetaS (ix2 0 (y 1))
  | b => S b

/-! ## They do -/

theorem put_eq {s : Shape} {α : Type} (x : s.Idx → α) (off : Fin s.rank → ℕ) (inb : ∀ a, off a + s.size a ≤ s.size a) (w v : s.Idx → α)
    (h : ∀ y, w y = v y) : VecWindow.put x off s.size w = v := (put_full x off inb w).trans (funext h)

theorem exec_setup (S : Sta) : exec setup S = ((), setupOut S) := by
  refine Prod.ext rfl (funext fun b => ?_)
  cases b <;> try rfl
  · exact put_eq _ _ inb_S128x5120_S128x5120_0_0 _ _ fun y => (splitV_at _ y).trans
      (congrArg (split · _) (congrFun (window_full (s := S1x5120) _ _ _) _))
  · exact put_eq _ _ inb_S8x5120_S8x5120_0_0 _ _ zeroD_at
  · exact put_eq _ _ inb_S8x5120_S8x5120_0_0 _ _ zeroD_at

theorem exec_finishSums (S : Sta) : exec (finishSums (invd (F := Ideal))) S = ((), finishSumsOut S) := by
  refine Prod.ext rfl (funext fun b => ?_)
  cases b <;> try rfl
  · exact put_eq _ _ inb_S256x128_S256x128_0_0 _ _ fun y => (meanV_at _ _ y).trans
      (congrArg (· * _) (Finset.sum_congr rfl fun l _ => congrFun (window_full (s := S256x128) _ _ _) _))
  · exact put_eq _ _ inb_S256x128_S256x128_0_0 _ _ fun y => (meanV_at _ _ y).trans
      (congrArg (· * _) (Finset.sum_congr rfl fun l _ => congrFun (window_full (s := S256x128) _ _ _) _))

theorem exec_startDx (S : Sta) : exec startDx S = ((), startDxOut S) := by
  refine Prod.ext rfl (funext fun b => ?_)
  cases b <;> try rfl
  exact put_eq _ _ inb_S256x128_S256x128_0_0 _ _ zeroV_at

theorem exec_finishOut (S : Sta) : exec finishOut S = ((), finishOutOut S) := by
  refine Prod.ext rfl (funext fun b => ?_)
  cases b <;> try rfl
  · exact put_eq _ _ inb_S1x5120_S1x5120_0_0 _ _ fun y => (dgO_at _ y).trans
      (Finset.sum_congr rfl fun l _ => congrFun (window_full (s := S8x5120) _ _ _) _)
  · refine put_eq _ _ inb_S1x5120_S1x5120_0_0 _ _ fun y => ?_
    idx_vars y
    refine congrArg (S .dbetaS) ((eq_ix2 _).trans (congrArg₂ ix2 (Fin.ext ?_) (Fin.ext ?_)))
    · show 0 + 1 * y0.val = 0
      omega
    · show 0 + 1 * y1.val = y1.val
      omega

section
variable (off : Fin 2 → ℕ) (inb : ∀ a, off a + S1x256.size a ≤ S30x1024.size a) (t : ℕ) (ht : t < 120) (ho : off = ![t / 4, 256 * (t % 4)])
include ht ho

theorem win_stat (f : S30x1024.Idx → EReal) (r : Fin 256) : VecWindow.window f off S1x256.size inb (ix2 0 r) = f (si t r.val) := by
  subst ho
  refine congrArg f ((eq_ix2 _).trans (congrArg₂ ix2 (Fin.ext ?_) (Fin.ext ?_)))
  · show t / 4 + 1 * 0 = (t / 4) % 30
    omega
  · show 256 * (t % 4) + 1 * r.val = (256 * (t % 4) + r.val) % 1024
    omega

theorem exec_startSums (S : Sta) : exec (startSums off inb) S = ((), startSumsOut t S) := by
  refine Prod.ext rfl (funext fun b => ?_)
  cases b <;> try rfl
  · refine put_eq _ _ inb_S256x128_S256x128_0_0 _ _ fun y => (congrFun (sameR_eq _) y).trans ((lanesV_at _ y).trans (win_stat off inb t ht ho _ _))
  · refine put_eq _ _ inb_S256x128_S256x128_0_0 _ _ fun y => (congrFun (sameR_eq _) y).trans ((lanesV_at _ y).trans (win_stat off inb t ht ho _ _))
  · exact put_eq _ _ inb_S256x128_S256x128_0_0 _ _ zeroV_at
  · exact put_eq _ _ inb_S256x128_S256x128_0_0 _ _ zeroV_at

theorem ex_at (S : Sta) (y : S256x128.Idx) :
    expV (biasedV (sizeV (F := Ideal) (lanesV (VecWindow.window (S .rstd) off S1x256.size inb))
      (VecWindow.window (S .wmax) ![0, 0] S256x128.size inb_S256x128_S256x128_0_0))) y = exOf t S (y 0) := by
  rw [expV_at, biasedV_at, sizeV_at, lanesV_at]
  exact congrArg₂ (fun (a : EReal) (f : S256x128.Idx → EReal) => expo (biased (sizeOf a f (y 0)))) (win_stat off inb t ht ho (S .rstd) (y 0))
    (window_full (s := S256x128) _ _ _)

theorem exec_finishScale (S : Sta) : exec (finishScale off inb) S = ((), finishScaleOut t S) := by
  refine Prod.ext rfl (funext fun b => ?_)
  cases b <;> try rfl
  · funext y
    refine Eq.trans (b := VecWindow.put (S .scaleO) off S1x256.size (scaleV (F := Ideal) (expV (biasedV (sizeV (F := Ideal) (lanesV (VecWindow.window (S .rstd) off S1x256.size inb))
      (VecWindow.window (S .wmax) ![0, 0] S256x128.size inb_S256x128_S256x128_0_0))))) y) rfl ?_
    have hy0 : (y 0).val < 30 := (y 0).isLt
    have hy1 : (y 1).val < 1024 := (y 1).isLt
    by_cases h : 4 * (y 0).val + (y 1).val / 256 = t
    · refine Eq.trans ?_ (if_pos h).symm
      have h' : ∀ a, off a ≤ (y a).val ∧ (y a).val < off a + S1x256.size a := by
        subst ho
        intro a
        match a with
        | ⟨0, _⟩ => exact ⟨show t / 4 ≤ (y 0).val by omega, show (y 0).val < t / 4 + 1 by omega⟩
        | ⟨1, _⟩ => exact ⟨show 256 * (t % 4) ≤ (y 1).val by omega, show (y 1).val < 256 * (t % 4) + 256 by omega⟩
      refine (dif_pos h').trans ?_
      refine Eq.trans (congrArg (scaleV (F := Ideal) _) (a₂ := ix2 0 (Fin.ofNat 256 (y 1).val)) ?_) ?_
      · subst ho
        refine funext fun a => Fin.ext ?_
        match a with
        | ⟨0, _⟩ => exact show (y 0).val - t / 4 = 0 by omega
        | ⟨1, _⟩ => exact show (y 1).val - 256 * (t % 4) = (y 1).val % 256 by omega
      · rw [scaleV_at, ex_at off inb t ht ho]; rfl
    · refine Eq.trans ?_ (if_neg h).symm
      refine dif_neg fun h' => h ?_
      subst ho
      have h0 : t / 4 ≤ (y 0).val ∧ (y 0).val < t / 4 + 1 := h' 0
      have h1 : 256 * (t % 4) ≤ (y 1).val ∧ (y 1).val < 256 * (t % 4) + 256 := h' 1
      omega
  · refine put_eq _ _ inb_S256x128_S256x128_0_0 _ _ fun y => (invV_at _ _ y).trans ?_
    exact congrArg₂ inv ((lanesV_at _ y).trans (win_stat off inb t ht ho _ _)) (ex_at off inb t ht ho S y)

end

/-! ## The five ways a step runs -/

section
variable (off off' : Fin 2 → ℕ) (inb : ∀ a, off a + S1x256.size a ≤ S30x1024.size a)
  (inb' : ∀ a, off' a + S1x256.size a ≤ S30x1024.size a) (S : Sta)

theorem exec_pass1 (ho : off = ![0 / 4, 256 * (0 % 4)]) :
    (exec (do setup; pass1 off inb) S).2 = colsOut ⟨true, false, false⟩ (startSumsOut 0 (setupOut S)) 10 := by
  unfold pass1
  simp only [Machine.exec_bind, exec_setup, exec_startSums off inb 0 (by decide) ho, exec_columns]

theorem exec_pass2 (ho : off = ![1 / 4, 256 * (1 % 4)]) :
    (exec (pass2 (invd (F := Ideal)) off inb) S).2 = colsOut ⟨true, true, false⟩ (startDxOut (startSumsOut 1 (finishSumsOut S))) 10 := by
  unfold pass2
  simp only [Machine.exec_bind, exec_finishSums, exec_startSums off inb 1 (by decide) ho, exec_startDx, exec_columns]

theorem exec_pass3 (t : ℕ) (ht : t + 2 < 120) (ho : off = ![(t + 2) / 4, 256 * ((t + 2) % 4)]) (ho' : off' = ![t / 4, 256 * (t % 4)]) :
    (exec (pass3 (invd (F := Ideal)) off off' inb inb') S).2
      = colsOut ⟨true, true, true⟩ (startDxOut (startSumsOut (t + 2) (finishSumsOut (finishScaleOut t S)))) 10 := by
  unfold pass3
  simp only [Machine.exec_bind, exec_finishScale off' inb' t (by omega) ho', exec_finishSums, exec_startSums off inb (t + 2) ht ho, exec_startDx,
    exec_columns]

theorem exec_pass4 (ho' : off' = ![118 / 4, 256 * (118 % 4)]) :
    (exec (pass4 (invd (F := Ideal)) off' inb') S).2
      = colsOut ⟨false, true, true⟩ (startDxOut (finishSumsOut (finishScaleOut 118 S))) 10 := by
  unfold pass4
  simp only [Machine.exec_bind, exec_finishScale off' inb' 118 (by omega) ho', exec_finishSums, exec_startDx, exec_columns]

theorem exec_pass5 (ho' : off' = ![119 / 4, 256 * (119 % 4)]) :
    (exec (pass5 (F := Ideal) off' inb') S).2
      = finishOutOut (colsOut ⟨false, false, true⟩ (finishScaleOut 119 S) 10) := by
  unfold pass5
  simp only [Machine.exec_bind, exec_finishScale off' inb' 119 (by omega) ho', exec_columns, exec_finishOut]

end

end Cert.Body

end
-- ==== Proof.Steps.lean ====
/- What the scratch buffers hold after `n` steps, what a step finds in the windows and what it leaves there; and that each of the
   five kinds of step keeps this. -/
module

public import proofs.«01_k».proof.Proof.Blocks
public import proofs.«01_k».proof.Proof.Stages

@[expose] public section

set_option maxRecDepth 16384

noncomputable section

namespace Cert.Body

open Idealize.ShloMosaic Idealize.SL.Sem Idealize.ShloMosaic.Pointwise
open Cert.KernelIdeal Cert.KernelIdeal.Gen Cert.Machine

variable (A : Args)

/-- The scratch buffers after `n` steps: the sums of block `n - 1`, the gradient of block `n - 2`, the column sums so far. -/
structure Inv (n : ℕ) (S : Sta) : Prop where
  gsplit : 1 ≤ n → S .gsplit = blk0 A 0 .gsplit
  dg : 1 ≤ n → S .dgammaS = dgTo A (min n 120)
  db : 1 ≤ n → S .dbetaS = dbTo A (min n 120)
  sums : 1 ≤ n → n ≤ 120 → SumsOut A (n - 1) S
  dx : 2 ≤ n → n ≤ 121 → DxOut A (n - 2) S

/-- Step `n` finds block `n` of the two large arrays, and the small arrays whole. -/
structure Found (n : ℕ) (S : Sta) : Prop where
  x : n < 120 → S .x = blk0 A n .x
  dy : n < 120 → S .dy = blk0 A n .dy
  gamma : S .gamma = A.gamma
  mu : S .mu = A.mu
  rstd : S .rstd = A.rstd

/-- The scales of the rows, those of block `t` put in. -/
def scaleIn (t : ℕ) (f : S30x1024.Idx → EReal) : S30x1024.Idx → EReal :=
  fun y => if 4 * (y 0).val + (y 1).val / 256 = t then rowScale A t (Fin.ofNat 256 (y 1).val) else f y

/-- Step `n`, from `S`, leaves the inputs, puts out the codes and the scales of block `n - 2`, and at the end the column sums. -/
structure Left (n : ℕ) (S S' : Sta) : Prop where
  x : S' .x = S .x
  dy : S' .dy = S .dy
  gamma : S' .gamma = S .gamma
  mu : S' .mu = S .mu
  rstd : S' .rstd = S .rstd
  dgammaO : n = 121 → S' .dgammaO = fun y => ∑ s : Fin 8, dgTo A 120 (ix2 s (y 1))
  dbetaO : n = 121 → S' .dbetaO = fun y => dbTo A 120 (ix2 0 (y 1))
  codes : 2 ≤ n → S' .codes = blkCodes A (n - 2)
  scaleO : 2 ≤ n → S' .scaleO = scaleIn A (n - 2) (S .scaleO)
  scaleO' : n < 2 → S' .scaleO = S .scaleO

variable {A}

/-- The buffers after `startSums`. -/
theorem sumsIn_start {n : ℕ} {S : Sta} (hx : S .x = blk0 A n .x) (hdy : S .dy = blk0 A n .dy) (hg : S .gamma = A.gamma)
    (hm : S .mu = A.mu) (hr : S .rstd = A.rstd) (hs : S .gsplit = blk0 A 0 .gsplit) : SumsIn A n (startSumsOut n S) where
  x := hx
  dy := hdy
  gamma := hg
  muS := funext fun y => congrFun hm _
  rS := funext fun y => congrFun hr _
  gsplit := hs
  sg := rfl
  sgx := rfl

/-- The means are those of the block whose sums the buffers hold. -/
theorem means {n : ℕ} {S : Sta} (h : SumsOut A n S) :
    finishSumsOut S .mg = blk2 A n .mg ∧ finishSumsOut S .mgx = blk2 A n .mgx :=
  ⟨congrArg (fun (f : S256x128.Idx → EReal) => fun y : S256x128.Idx => (∑ l : Fin 128, f (ix2 (y 0) l)) * invd (F := Ideal)) h.sg,
   congrArg (fun (f : S256x128.Idx → EReal) => fun y : S256x128.Idx => (∑ l : Fin 128, f (ix2 (y 0) l)) * invd (F := Ideal)) h.sgx⟩

/-- The exponents of a block whose gradient the buffers hold. -/
theorem exOf_eq {n : ℕ} {S : Sta} (h : DxOut A n S) (hr : S .rstd = A.rstd) : exOf n S = rowE A n := by
  unfold exOf rowE; rw [h.wmax, hr]

theorem scale_out {n : ℕ} {S : Sta} (h : DxOut A n S) (hr : S .rstd = A.rstd) :
    finishScaleOut n S .scaleO = scaleIn A n (S .scaleO) ∧ finishScaleOut n S .inv = blk4 A n .inv := by
  have e := exOf_eq h hr
  constructor
  · funext y
    show (if _ then pow (127#32 + exOf n S _) else _) = _
    rw [e]; rfl
  · funext y
    show inv (S .rstd _) (exOf n S (y 0)) = _
    rw [e, hr]; rfl

variable {S : Sta}

/-- The first step. -/
theorem step1 (hF : Found A 0 S) :
    Inv A 1 (colsOut ⟨true, false, false⟩ (startSumsOut 0 (setupOut S)) 10)
      ∧ Left A 0 S (colsOut ⟨true, false, false⟩ (startSumsOut 0 (setupOut S)) 10) := by
  have hs : SumsIn A 0 (startSumsOut 0 (setupOut S)) := by
    refine sumsIn_start (hF.x (by decide)) (hF.dy (by decide)) hF.gamma hF.mu hF.rstd ?_
    funext y
    exact congrArg (fun f : S1x5120.Idx → EReal => split (f (ix2 0 (y 1))) (y 0).val) hF.gamma
  refine ⟨⟨fun _ => hs.gsplit, fun _ => ?_, fun _ => ?_, fun _ _ => cols_sums _ _ rfl hs, fun h => absurd h (by decide)⟩,
    ⟨rfl, rfl, rfl, rfl, rfl, fun h => absurd h (by decide), fun h => absurd h (by decide), fun h => absurd h (by decide),
      fun h => absurd h (by decide), fun _ => rfl⟩⟩
  · exact (cols_dg _ _ rfl hs).trans (dgTo_succ A 0)
  · exact (cols_db _ _ rfl hs).trans (dbTo_succ A 0)

/-- The second step. -/
theorem step2 (hF : Found A 1 S) (hI : Inv A 1 S) :
    Inv A 2 (colsOut ⟨true, true, false⟩ (startDxOut (startSumsOut 1 (finishSumsOut S))) 10)
      ∧ Left A 1 S (colsOut ⟨true, true, false⟩ (startDxOut (startSumsOut 1 (finishSumsOut S))) 10) := by
  have h1 := hI.sums (by decide) (by decide)
  have hs0 : SumsIn A 1 (startSumsOut 1 (finishSumsOut S)) :=
    sumsIn_start (hF.x (by decide)) (hF.dy (by decide)) hF.gamma hF.mu hF.rstd (hI.gsplit (by decide))
  have hs : SumsIn A 1 (startDxOut (startSumsOut 1 (finishSumsOut S))) :=
    ⟨hs0.x, hs0.dy, hs0.gamma, hs0.muS, hs0.rS, hs0.gsplit, rfl, rfl⟩
  have hd : DxIn A 0 (startDxOut (startSumsOut 1 (finishSumsOut S))) := ⟨h1.g, (means h1).1, h1.xhat, (means h1).2, rfl⟩
  refine ⟨⟨fun _ => hs.gsplit, fun _ => ?_, fun _ => ?_, fun _ _ => cols_sums _ _ rfl hs, fun _ _ => cols_dx _ _ rfl hd⟩,
    ⟨rfl, rfl, rfl, rfl, rfl, fun h => absurd h (by decide), fun h => absurd h (by decide), fun h => absurd h (by decide),
      fun h => absurd h (by decide), fun _ => rfl⟩⟩
  · refine ((cols_dg _ _ rfl hs).trans ?_).trans (dgTo_succ A 1)
    exact congrArg (fun f : S8x5120.Idx → EReal => fun y : S8x5120.Idx => f y + q32 (blk0 A 1) (y 0).val (y 1).val) (hI.dg (by decide))
  · refine ((cols_db _ _ rfl hs).trans ?_).trans (dbTo_succ A 1)
    exact congrArg (fun f : S8x5120.Idx → EReal => fun y : S8x5120.Idx => f y + dbDot (blk0 A 1) (y 1).val) (hI.db (by decide))

/-- A step in between. -/
theorem step3 (t : ℕ) (ht : t + 2 < 120) (hF : Found A (t + 2) S) (hI : Inv A (t + 2) S) :
    Inv A (t + 3) (colsOut ⟨true, true, true⟩ (startDxOut (startSumsOut (t + 2) (finishSumsOut (finishScaleOut t S)))) 10)
      ∧ Left A (t + 2) S (colsOut ⟨true, true, true⟩ (startDxOut (startSumsOut (t + 2) (finishSumsOut (finishScaleOut t S)))) 10) := by
  have h1 := hI.sums (by omega) (by omega)
  have h1' : SumsOut A (t + 1) (finishScaleOut t S) := ⟨h1.xhat, h1.g, h1.sg, h1.sgx⟩
  have h2 := hI.dx (by omega) (by omega)
  obtain ⟨c1, c2⟩ := scale_out h2 hF.rstd
  have hs0 : SumsIn A (t + 2) (startSumsOut (t + 2) (finishSumsOut (finishScaleOut t S))) :=
    sumsIn_start (hF.x ht) (hF.dy ht) hF.gamma hF.mu hF.rstd (hI.gsplit (by omega))
  have hs : SumsIn A (t + 2) (startDxOut (startSumsOut (t + 2) (finishSumsOut (finishScaleOut t S)))) :=
    ⟨hs0.x, hs0.dy, hs0.gamma, hs0.muS, hs0.rS, hs0.gsplit, rfl, rfl⟩
  have hd : DxIn A (t + 1) (startDxOut (startSumsOut (t + 2) (finishSumsOut (finishScaleOut t S)))) :=
    ⟨h1.g, (means h1').1, h1.xhat, (means h1').2, rfl⟩
  have m1 : min (t + 2) 120 = t + 2 := by omega
  have m2 : min (t + 3) 120 = t + 3 := by omega
  refine ⟨⟨fun _ => hs.gsplit, fun _ => ?_, fun _ => ?_, fun _ _ => cols_sums _ _ rfl hs, fun _ _ => cols_dx _ _ rfl hd⟩,
    ⟨rfl, rfl, rfl, rfl, rfl, fun h => by omega, fun h => by omega, fun _ => cols_codes _ _ rfl h2.w c2, fun _ => c1,
      fun h => by omega⟩⟩
  · rw [m2]
    refine ((cols_dg _ _ rfl hs).trans ?_).trans (dgTo_succ A (t + 2))
    exact congrArg (fun f : S8x5120.Idx → EReal => fun y : S8x5120.Idx => f y + q32 (blk0 A (t + 2)) (y 0).val (y 1).val)
      ((hI.dg (by omega)).trans (congrArg (dgTo A) m1))
  · rw [m2]
    refine ((cols_db _ _ rfl hs).trans ?_).trans (dbTo_succ A (t + 2))
    exact congrArg (fun f : S8x5120.Idx → EReal => fun y : S8x5120.Idx => f y + dbDot (blk0 A (t + 2)) (y 1).val)
      ((hI.db (by omega)).trans (congrArg (dbTo A) m1))

/-- The last step but one. -/
theorem step4 (hF : Found A 120 S) (hI : Inv A 120 S) :
    Inv A 121 (colsOut ⟨false, true, true⟩ (startDxOut (finishSumsOut (finishScaleOut 118 S))) 10)
      ∧ Left A 120 S (colsOut ⟨false, true, true⟩ (startDxOut (finishSumsOut (finishScaleOut 118 S))) 10) := by
  have h1 := hI.sums (by decide) (by decide)
  have h1' : SumsOut A 119 (finishScaleOut 118 S) := ⟨h1.xhat, h1.g, h1.sg, h1.sgx⟩
  have h2 : DxOut A 118 S := hI.dx (by decide) (by decide)
  obtain ⟨c1, c2⟩ := scale_out h2 hF.rstd
  have hd : DxIn A 119 (startDxOut (finishSumsOut (finishScaleOut 118 S))) :=
    ⟨h1.g, (means h1').1, h1.xhat, (means h1').2, rfl⟩
  refine ⟨⟨fun _ => hI.gsplit (by decide), fun _ => ?_, fun _ => ?_, fun _ h => absurd h (by decide), fun _ _ => cols_dx _ _ rfl hd⟩,
    ⟨rfl, rfl, rfl, rfl, rfl, fun h => absurd h (by decide), fun h => absurd h (by decide), fun _ => cols_codes _ _ rfl h2.w c2,
      fun _ => c1, fun h => absurd h (by decide)⟩⟩
  · exact (cols_dg_off _ _ rfl).trans (hI.dg (by decide))
  · exact (cols_db_off _ _ rfl).trans (hI.db (by decide))

/-- The last step. -/
theorem step5 (hF : Found A 121 S) (hI : Inv A 121 S) :
    Inv A 122 (finishOutOut (colsOut ⟨false, false, true⟩ (finishScaleOut 119 S) 10))
      ∧ Left A 121 S (finishOutOut (colsOut ⟨false, false, true⟩ (finishScaleOut 119 S) 10)) := by
  have h2 : DxOut A 119 S := hI.dx (by decide) (by decide)
  obtain ⟨c1, c2⟩ := scale_out h2 hF.rstd
  have dg : colsOut ⟨false, false, true⟩ (finishScaleOut 119 S) 10 .dgammaS = dgTo A 120 :=
    (cols_dg_off _ _ rfl).trans (hI.dg (by decide))
  have db : colsOut ⟨false, false, true⟩ (finishScaleOut 119 S) 10 .dbetaS = dbTo A 120 :=
    (cols_db_off _ _ rfl).trans (hI.db (by decide))
  refine ⟨⟨fun _ => hI.gsplit (by decide), fun _ => dg, fun _ => db, fun _ h => absurd h (by decide), fun _ h => absurd h (by decide)⟩,
    ⟨rfl, rfl, rfl, rfl, rfl, fun _ => ?_, fun _ => ?_, fun _ => cols_codes _ _ rfl h2.w c2, fun _ => c1,
      fun h => absurd h (by decide)⟩⟩
  · exact congrArg (fun f : S8x5120.Idx → EReal => fun y : S1x5120.Idx => ∑ s : Fin 8, f (ix2 s (y 1))) dg
  · exact congrArg (fun f : S8x5120.Idx → EReal => fun y : S1x5120.Idx => f (ix2 0 (y 1))) db

end Cert.Body

end
-- ==== Proof.Grid.lean ====
/- The launch's windows: where each block lies, what a step finds in its inputs, and the step's offsets by its number. -/
module

public import proofs.«01_k».proof.Proof.IdealRun
public import proofs.«01_k».proof.Proof.Steps
public import proofs.«01_k».proof.Proof.Gen.KernelIdeal.Points
public import Idealize.ShloMosaic.Lib.Pipeline.ValueKit.Geometry

@[expose] public section

set_option maxRecDepth 16384

noncomputable section

namespace Cert.KernelIdeal.Gen

open Idealize.ShloMosaic Idealize.ShloMosaic.TcCoe
open Idealize.SL Idealize.SL.Sem
open Idealize.ShloMosaic.Pipeline (RDat)
open Idealize.ShloMosaic.Pointwise
open Cert.Machine Cert.Body

/-! ## By the step's number -/

/-- Where each kind of step finds its rows' statistics. -/
theorem offs : ∀ t : Fin cfg0.N,
    (t.val = 0 → k0_off1 (grid0.coords t) = ![t.val / 4, 256 * (t.val % 4)])
      ∧ (t.val = 1 → k0_off15 (grid0.coords t) = ![t.val / 4, 256 * (t.val % 4)])
      ∧ (2 ≤ t.val ∧ t.val < 120 → k0_off30 (grid0.coords t) = ![t.val / 4, 256 * (t.val % 4)])
      ∧ (2 ≤ t.val ∧ t.val < 120 → k0_off29 (grid0.coords t) = ![(t.val - 2) / 4, 256 * ((t.val - 2) % 4)])
      ∧ (t.val = 120 → k0_off44 (grid0.coords t) = ![(t.val - 2) / 4, 256 * ((t.val - 2) % 4)])
      ∧ (t.val = 121 → k0_off53 (grid0.coords t) = ![(t.val - 2) / 4, 256 * ((t.val - 2) % 4)]) := by
  show ∀ t : Fin grid0.N, _
  decide +kernel

/-- The two large inputs are fetched at each of the first 120 steps. -/
theorem fetch_xy : ∀ t : Fin cfg0.N, t.val < 120 → (cfg0.win 0).fetch t = true ∧ (cfg0.win 1).fetch t = true :=
  (by decide +kernel : ∀ t : Fin grid0.N, t.val < 120 → win0_0.fetch t = true ∧ win0_1.fetch t = true)

/-- Block `t` of the two large inputs. -/
theorem index_xy : ∀ t : Fin grid0.N, t.val < 120 → win0_0.index t = ![t.val, 0] ∧ win0_1.index t = ![t.val, 0] := by
  decide +kernel

/-- The other inputs are one block. -/
theorem index_in : ∀ t : Fin grid0.N, win0_2.index t = ![0, 0] ∧ win0_3.index t = ![0, 0] ∧ win0_4.index t = ![0, 0] := by
  decide +kernel

/-- The codes are written back from the third step on: block `t - 2`. -/
theorem index_codes : ∀ t : Fin grid0.N, win0_7.flush t = true → 2 ≤ t.val ∧ win0_7.index t = ![t.val - 2, 0] := by
  decide +kernel

/-- The scales are not fetched, and written back at the end alone. -/
theorem sched_scale : ∀ t : Fin cfg0.N, (cfg0.win 8).fetch t = false ∧ ((cfg0.win 8).flush t = true ↔ t.val = 121) :=
  (by decide +kernel : ∀ t : Fin grid0.N, win0_8.fetch t = false ∧ (win0_8.flush t = true ↔ t.val = 121))

/-- The small inputs are fetched at the first step, and not written back. -/
theorem sched_in : ∀ t : Fin cfg0.N,
    ((cfg0.win 2).fetch t = true ↔ t.val = 0) ∧ ((cfg0.win 3).fetch t = true ↔ t.val = 0) ∧ ((cfg0.win 4).fetch t = true ↔ t.val = 0)
      ∧ (cfg0.win 2).flush t = false ∧ (cfg0.win 3).flush t = false ∧ (cfg0.win 4).flush t = false :=
  (by decide +kernel : ∀ t : Fin grid0.N,
    (win0_2.fetch t = true ↔ t.val = 0) ∧ (win0_3.fetch t = true ↔ t.val = 0) ∧ (win0_4.fetch t = true ↔ t.val = 0)
      ∧ win0_2.flush t = false ∧ win0_3.flush t = false ∧ win0_4.flush t = false)

/-! ## The blocks -/

variable (m : (ℓ : Loc nD τ sig) → Buf (Elt Ideal) ℓ)

/-- The arrays the kernel is given, on core `c`. -/
def argsOf (c : Dev nD) : Args where
  x := V m c main_v0
  dy := V m c main_v1
  gamma := V m c main_v2
  mu := V m c main_arg3
  rstd := V m c main_arg4

variable (c : Dev nD) (t : Fin cfg0.N)

theorem iblk_x (ht : t.val < 120) : iblk m c 0 t = blk0 (argsOf m c) t.val .x := by
  have hi := (index_xy t ht).1
  funext j
  show iblk m c 0 t j = V m c main_v0 (bi t.val j)
  blk_simp [iblk]
  refine congrArg (V m c main_v0) (funext fun a => Fin.ext ?_)
  match a with
  | ⟨0, _⟩ =>
    have h0 : (j 0).val < 256 := (j 0).isLt
    blk_simp [hi]
    show t.val * 256 + (j 0).val = (256 * t.val + (j 0).val) % 30720
    omega
  | ⟨1, _⟩ =>
    blk_simp [hi]
    rfl

theorem iblk_dy (ht : t.val < 120) : iblk m c 1 t = blk0 (argsOf m c) t.val .dy := by
  have hi := (index_xy t ht).2
  funext j
  show iblk m c 1 t j = V m c main_v1 (bi t.val j)
  blk_simp [iblk]
  refine congrArg (V m c main_v1) (funext fun a => Fin.ext ?_)
  match a with
  | ⟨0, _⟩ =>
    have h0 : (j 0).val < 256 := (j 0).isLt
    blk_simp [hi]
    show t.val * 256 + (j 0).val = (256 * t.val + (j 0).val) % 30720
    omega
  | ⟨1, _⟩ =>
    blk_simp [hi]
    rfl

theorem iblk_gamma : iblk m c 2 t = (argsOf m c).gamma := by
  have hi := (index_in t).1
  funext j
  show iblk m c 2 t j = V m c main_v2 j
  blk_simp [iblk]
  refine congrArg (V m c main_v2) (funext fun a => Fin.ext ?_)
  match a with
  | ⟨0, _⟩ => blk_simp [hi]
  | ⟨1, _⟩ => blk_simp [hi]

theorem iblk_mu : iblk m c 3 t = (argsOf m c).mu := by
  have hi := (index_in t).2.1
  funext j
  show iblk m c 3 t j = V m c main_arg3 j
  blk_simp [iblk]
  refine congrArg (V m c main_arg3) (funext fun a => Fin.ext ?_)
  match a with
  | ⟨0, _⟩ => blk_simp [hi]
  | ⟨1, _⟩ => blk_simp [hi]

theorem iblk_rstd : iblk m c 4 t = (argsOf m c).rstd := by
  have hi := (index_in t).2.2
  funext j
  show iblk m c 4 t j = V m c main_arg4 j
  blk_simp [iblk]
  refine congrArg (V m c main_arg4) (funext fun a => Fin.ext ?_)
  match a with
  | ⟨0, _⟩ => blk_simp [hi]
  | ⟨1, _⟩ => blk_simp [hi]

/-! ## What a step finds -/

/-- The invariant of the scratch buffers, and what a step leaves in each window. -/
abbrev inv' (c : Dev nD) (n : Fin (cfg0.N + 1)) (S : State Ideal) : Prop := Inv (argsOf m c) n.val S

/-- What a step leaves in each window, from what it found. -/
def aft (c : Dev nD) : (w : Fin cfg0.W) → (t : Fin cfg0.N) → (Y X : (cfg0.win w).block.Idx → Elt Ideal (cfg0.win w).elt) → Prop
  | 0, _, Y, X => X = Y
  | 1, _, Y, X => X = Y
  | 2, _, Y, X => X = Y
  | 3, _, Y, X => X = Y
  | 4, _, Y, X => X = Y
  | 5, t, _, X => t.val = 121 → X = fun y : S1x5120.Idx => ∑ s : Fin 8, dgTo (argsOf m c) 120 (ix2 s (y 1))
  | 6, t, _, X => t.val = 121 → X = fun y : S1x5120.Idx => dbTo (argsOf m c) 120 (ix2 0 (y 1))
  | 7, t, _, X => 2 ≤ t.val → X = blkCodes (argsOf m c) (t.val - 2)
  | 8, t, Y, X => (2 ≤ t.val → X = scaleIn (argsOf m c) (t.val - 2) Y) ∧ (t.val < 2 → X = Y)

/-- The launch's data. -/
abbrev dat (c : Dev nD) := rdat m (inv' m) (aft m) c

variable {m c} {w : Fin cfg0.W} {X : (cfg0.win w).block.Idx → Elt Ideal (cfg0.win w).elt}

theorem finds_x {X} (h : (dat m c).Finds 0 t X) (ht : t.val < 120) : X = blk0 (argsOf m c) t.val .x := by
  rw [RDat.finds_of_fetch _ (fetch_xy t ht).1] at h
  obtain ⟨d, rfl⟩ := h
  exact (show (dat m c).fetched 0 t d = iblk m c 0 t from rfl).trans (iblk_x m c t ht)

theorem finds_dy {X} (h : (dat m c).Finds 1 t X) (ht : t.val < 120) : X = blk0 (argsOf m c) t.val .dy := by
  rw [RDat.finds_of_fetch _ (fetch_xy t ht).2] at h
  obtain ⟨d, rfl⟩ := h
  exact (show (dat m c).fetched 1 t d = iblk m c 1 t from rfl).trans (iblk_dy m c t ht)

/-- A window fetched at the first step alone and left in place holds, at every step, what was fetched. -/
theorem finds_kept (w : Fin cfg0.W) (Z : (cfg0.win w).block.Idx → Elt Ideal (cfg0.win w).elt)
    (hf : ∀ t, (cfg0.win w).fetch t = true ↔ t.val = 0) (hn : ∀ t, (cfg0.win w).flush t = false)
    (ha : ∀ t Y X, aft m c w t Y X → X = Y) (h0 : ∀ t d, t.val = 0 → (dat m c).fetched w t d = Z) :
    ∀ (n : ℕ) (t : Fin cfg0.N) (X : (cfg0.win w).block.Idx → Elt Ideal (cfg0.win w).elt), t.val = n → (dat m c).Finds w t X → X = Z := by
  intro n
  induction n with
  | zero =>
    intro t X ht h
    rw [RDat.finds_of_fetch _ ((hf t).mpr ht)] at h
    obtain ⟨d, rfl⟩ := h
    exact h0 t d ht
  | succ n ih =>
    intro t X ht h
    have hft : (cfg0.win w).fetch t = false := by
      rw [← Bool.not_eq_true, hf]; omega
    rw [RDat.finds_of_pos _ hft (by omega)] at h
    rcases h with h | ⟨Y, hY, hX⟩
    · rw [hn] at h; cases h
    · exact (ha _ Y X hX).trans (ih _ Y (by show t.val - 1 = n; omega) hY)

theorem finds_gamma {X} (h : (dat m c).Finds 2 t X) : X = (argsOf m c).gamma :=
  finds_kept 2 (argsOf m c).gamma (fun t => (sched_in t).1) (fun t => (sched_in t).2.2.2.1) (fun _ _ _ h => h)
    (fun t d _ => (show (dat m c).fetched 2 t d = iblk m c 2 t from rfl).trans (iblk_gamma m c t)) t.val t X rfl h

theorem finds_mu {X} (h : (dat m c).Finds 3 t X) : X = (argsOf m c).mu :=
  finds_kept 3 (argsOf m c).mu (fun t => (sched_in t).2.1) (fun t => (sched_in t).2.2.2.2.1) (fun _ _ _ h => h)
    (fun t d _ => (show (dat m c).fetched 3 t d = iblk m c 3 t from rfl).trans (iblk_mu m c t)) t.val t X rfl h

theorem finds_rstd {X} (h : (dat m c).Finds 4 t X) : X = (argsOf m c).rstd :=
  finds_kept 4 (argsOf m c).rstd (fun t => (sched_in t).2.2.1) (fun t => (sched_in t).2.2.2.2.2) (fun _ _ _ h => h)
    (fun t d _ => (show (dat m c).fetched 4 t d = iblk m c 4 t from rfl).trans (iblk_rstd m c t)) t.val t X rfl h

/-- Step `t` finds its blocks. -/
theorem found (Y : Wins Ideal) (S : State Ideal) (hY : ∀ w, (dat m c).Finds w t (Y w)) : Found (argsOf m c) t.val (enter Y S) where
  x h := finds_x t (hY 0) h
  dy h := finds_dy t (hY 1) h
  gamma := finds_gamma t (hY 2)
  mu := finds_mu t (hY 3)
  rstd := finds_rstd t (hY 4)

/-- The invariant speaks of the scratch buffers alone. -/
theorem inv_enter (n : ℕ) (Y : Wins Ideal) (S : State Ideal) (h : Inv (argsOf m c) n S) : Inv (argsOf m c) n (enter Y S) where
  gsplit := h.gsplit
  dg := h.dg
  db := h.db
  sums h1 h2 := ⟨(h.sums h1 h2).xhat, (h.sums h1 h2).g, (h.sums h1 h2).sg, (h.sums h1 h2).sgx⟩
  dx h1 h2 := ⟨(h.dx h1 h2).w, (h.dx h1 h2).wmax⟩

/-! ## A step keeps the invariant -/

/-- Step `t`, from buffers that hold what it is to find. -/
theorem step_left (S : State Ideal) (hF : Found (argsOf m c) t.val S) (hI : Inv (argsOf m c) t.val S) :
    Inv (argsOf m c) (t.val + 1) (exec (stepProg (grid0.coords t)) S).2
      ∧ Left (argsOf m c) t.val S (exec (stepProg (grid0.coords t)) S).2 := by
  have T := tests t
  have O := offs t
  have hlt : t.val < 122 := t.isLt
  unfold stepProg
  by_cases h2 : k0_cond2 (grid0.coords t) = 1#1
  · rw [dif_pos h2]
    have ht := T.2.1.mp h2
    rw [exec_pass1 _ _ _ ((O.1 ht).trans (by rw [ht]))]
    rw [ht] at hF ⊢
    exact step1 hF
  rw [dif_neg h2]
  by_cases h3 : k0_cond3 (grid0.coords t) = 1#1
  · rw [dif_pos h3]
    have ht := T.2.2.1.mp h3
    rw [exec_pass2 _ _ _ ((O.2.1 ht).trans (by rw [ht]))]
    rw [ht] at hF hI ⊢
    exact step2 hF hI
  rw [dif_neg h3]
  by_cases h4 : k0_cond4 (grid0.coords t) = 1#1
  · rw [dif_pos h4]
    have ht := T.2.2.2.1.mp h4
    obtain ⟨n, hn⟩ : ∃ n, t.val = n + 2 := ⟨t.val - 2, by omega⟩
    rw [exec_pass3 _ _ _ _ _ n (by omega) ((O.2.2.1 ht).trans (by rw [hn])) ((O.2.2.2.1 ht).trans (by rw [hn]; rfl))]
    rw [hn] at hF hI ⊢
    exact step3 n (by omega) hF hI
  rw [dif_neg h4]
  by_cases h5 : k0_cond5 (grid0.coords t) = 1#1
  · rw [dif_pos h5]
    have ht := T.2.2.2.2.1.mp h5
    rw [exec_pass4 _ _ _ ((O.2.2.2.2.1 ht).trans (by rw [ht]))]
    rw [ht] at hF hI ⊢
    exact step4 hF hI
  rw [dif_neg h5]
  by_cases h6 : k0_cond6 (grid0.coords t) = 1#1
  · rw [dif_pos h6]
    have ht := T.2.2.2.2.2.mp h6
    rw [exec_pass5 _ _ _ ((O.2.2.2.2.2 ht).trans (by rw [ht]))]
    rw [ht] at hF hI ⊢
    exact step5 hF hI
  exfalso
  rw [T.2.1] at h2
  rw [T.2.2.1] at h3
  rw [T.2.2.2.1] at h4
  rw [T.2.2.2.2.1] at h5
  rw [T.2.2.2.2.2] at h6
  omega

/-- Step `t` keeps the invariant and leaves the windows as said. -/
theorem step_keeps (Y : Wins Ideal) (S : State Ideal) (hY : ∀ w, (dat m c).Finds w t (Y w)) (hI : inv' m c t.castSucc S) :
    inv' m c t.succ (exec (stepProg (grid0.coords t)) (enter Y S)).2
      ∧ ∀ w, aft m c w t (Y w) (leave (exec (stepProg (grid0.coords t)) (enter Y S)).2 w) := by
  obtain ⟨h, L⟩ := step_left t (enter Y S) (found t Y S hY) (inv_enter t.val Y S hI)
  refine ⟨h, fun w => ?_⟩
  match w with
  | 0 => exact L.x
  | 1 => exact L.dy
  | 2 => exact L.gamma
  | 3 => exact L.mu
  | 4 => exact L.rstd
  | 5 => exact L.dgammaO
  | 6 => exact L.dbetaO
  | 7 => exact L.codes
  | 8 => exact ⟨L.scaleO, L.scaleO'⟩

variable (m) in
/-- The run. -/
theorem run_values (ρ : Dev nD → PrngReg) :
    θ_run defs (onTc (τ := τ) (main (F := Ideal))) (s₀ m ρ)
      (fun r => RDat.FramePost (cfgs 0) (rdat m (inv' m) (aft m)) (V m) r ∧ r.2.sem = fun _ => 0) :=
  run_of m ρ (inv' m) (aft m)
    (fun _ _ => ⟨fun h => absurd h (by decide), fun h => absurd h (by decide), fun h => absurd h (by decide),
      fun h => absurd h (by decide), fun h => absurd h (by decide)⟩)
    (fun _ t Y S hY hI => step_keeps t Y S hY hI)

end Cert.KernelIdeal.Gen

end
-- ==== Proof.Arrays.lean ====
/- What the four result arrays hold after the run. -/
module

public import proofs.«01_k».proof.Proof.Grid
public import Idealize.ShloMosaic.Lib.Pipeline.ArrRel

@[expose] public section

set_option maxRecDepth 16384

noncomputable section

namespace Cert.KernelIdeal.Gen

open Idealize.ShloMosaic Idealize.ShloMosaic.TcCoe
open Idealize.SL Idealize.SL.Sem
open Idealize.ShloMosaic.Pipeline (RDat)
open Idealize.ShloMosaic.Pointwise
open Cert.Machine Cert.Body

variable {m : (ℓ : Loc nD τ sig) → Idealize.ShloMosaic.Buf (Elt Ideal) ℓ} {c : Dev nD}

/-- The kernel's column sums of the products of cotangent and normalised input. -/
def kerDgamma (A : Args) : S1x5120.Idx → EReal := fun y => ∑ s : Fin 8, dgTo A 120 (ix2 s (y 1))

/-- The kernel's column sums of the cotangents. -/
def kerDbeta (A : Args) : S1x5120.Idx → EReal := fun y => dbTo A 120 (ix2 0 (y 1))

/-- The kernel's scales. -/
def kerScale (A : Args) : S30x1024.Idx → EReal :=
  fun y => rowScale A (4 * (y 0).val + (y 1).val / 256) (Fin.ofNat 256 (y 1).val)

/-- The kernel's codes. -/
def kerCodes (A : Args) : S30720x5120.Idx → EReal :=
  fun i => blkCodes A ((i 0).val / 256) (ix2 (Fin.ofNat 256 (i 0).val) (i 1))

/-- The last step. -/
abbrev lastStep : Fin cfg0.N := ⟨121, by decide⟩

/-- What step `n` finds among the scales: those of the blocks two steps back and more. -/
theorem finds_scale : ∀ (n : ℕ) (t : Fin cfg0.N) (X : S30x1024.Idx → EReal), t.val = n → (dat m c).Finds 8 t X →
    ∀ y : S30x1024.Idx, 4 * (y 0).val + (y 1).val / 256 + 2 < n → X y = kerScale (argsOf m c) y := by
  intro n
  induction n with
  | zero => intro t X _ _ y hy; exact absurd hy (Nat.not_lt_zero _)
  | succ n ih =>
    intro t X ht h y hy
    have hlt : t.val < 122 := t.isLt
    rw [RDat.finds_of_pos _ (sched_scale t).1 (by omega)] at h
    rcases h with h | ⟨Y, hY, hX⟩
    · have h' : t.val - 1 = 121 := (sched_scale _).2.mp h
      omega
    · have hX' : 2 ≤ t.val - 1 → X = scaleIn (argsOf m c) (t.val - 1 - 2) Y := hX.1
      rw [hX' (by omega)]
      unfold scaleIn
      by_cases hb : 4 * (y 0).val + (y 1).val / 256 = t.val - 1 - 2
      · rw [if_pos hb]; unfold kerScale; rw [hb]
      · rw [if_neg hb]
        exact ih _ Y (by show t.val - 1 = n; omega) hY y (by omega)

variable {r : PUnit × MemSt nD τ sig (Elt Ideal)} (h : RDat.FramePost (cfgs 0) (rdat m (inv' m) (aft m)) (V m) r)

include h

theorem post_dgamma : r.2.mem ((c : Thread nD τ).loc main_v3_0) = kerDgamma (argsOf m c) := by
  obtain ⟨X, ⟨Y, hY, hX⟩, hG⟩ := RDat.ArrAt.emb_eq_of_wholeAt (w := (5 : Fin cfg0.W)) ((h c).1 5) (t₀ := lastStep) (by decide +kernel)
  have hX' : X = kerDgamma (argsOf m c) := hX rfl
  subst hX'
  exact funext fun j => hG j

theorem post_dbeta : r.2.mem ((c : Thread nD τ).loc main_v3_1) = kerDbeta (argsOf m c) := by
  obtain ⟨X, ⟨Y, hY, hX⟩, hG⟩ := RDat.ArrAt.emb_eq_of_wholeAt (w := (6 : Fin cfg0.W)) ((h c).1 6) (t₀ := lastStep) (by decide +kernel)
  have hX' : X = kerDbeta (argsOf m c) := hX rfl
  subst hX'
  exact funext fun j => hG j

theorem post_scale : r.2.mem ((c : Thread nD τ).loc main_v3_3) = kerScale (argsOf m c) := by
  obtain ⟨X, ⟨Y, hY, hX⟩, hG⟩ := RDat.ArrAt.emb_eq_of_wholeAt (w := (8 : Fin cfg0.W)) ((h c).1 8) (t₀ := lastStep) (by decide +kernel)
  have hX' : X = scaleIn (argsOf m c) 119 Y := hX.1 (by decide)
  subst hX'
  refine funext fun j => (hG j).trans ?_
  show scaleIn (argsOf m c) 119 Y j = _
  unfold scaleIn
  by_cases hb : 4 * (j 0).val + (j 1).val / 256 = 119
  · rw [if_pos hb]; unfold kerScale; rw [hb]
  · rw [if_neg hb]
    have h0 : (j 0).val < 30 := (j 0).isLt
    have h1 : (j 1).val < 1024 := (j 1).isLt
    exact finds_scale 121 lastStep Y rfl hY j (by omega)

theorem post_codes : r.2.mem ((c : Thread nD τ).loc main_v3_2) = kerCodes (argsOf m c) := by
  obtain ⟨after, hL, hA⟩ := RDat.FramePost.exists_exact h c
  refine (hA 7).trans ?_
  refine Pipeline.Dat.arrAt_eq_of_covers ((dat m c).withAfter after) 7 (kerCodes (argsOf m c)) (by decide +kernel) fun t hf y => ?_
  obtain ⟨Y, hY, hX⟩ := hL 7 t hf
  obtain ⟨ht, hi⟩ := index_codes t hf
  have hX' : after 7 t = blkCodes (argsOf m c) (t.val - 2) := hX ht
  have h0 : (y 0).val < 256 := (y 0).isLt
  have hlt : t.val < 122 := t.isLt
  have e0 : ((((cfg0.win 7).blk t).view.emb y : S30720x5120.Idx) 0).val = 256 * (t.val - 2) + (y 0).val := by
    blk_simp [hi]; omega
  have e1 : ((((cfg0.win 7).blk t).view.emb y : S30720x5120.Idx) 1).val = (y 1).val := by
    blk_simp [hi]
  show after 7 t y = kerCodes (argsOf m c) (((cfg0.win 7).blk t).view.emb y)
  rw [hX']
  unfold kerCodes
  rw [e0]
  have d : (256 * (t.val - 2) + (y 0).val) / 256 = t.val - 2 := by omega
  rw [d]
  refine congrArg (blkCodes (argsOf m c) (t.val - 2)) (funext fun a => Fin.ext ?_)
  match a with
  | ⟨0, _⟩ =>
    show (y 0).val = (256 * (t.val - 2) + (y 0).val) % 256
    omega
  | ⟨1, _⟩ => exact e1.symm

end Cert.KernelIdeal.Gen

end
-- ==== Proof.Exponent.lean ====
/- The exponent of a row's scale: the kernel's search over powers of two finds the exponent that the logarithm gives, for a size
   that is zero or a normal number below `2 ^ 126`. -/
module

public import proofs.«01_k».proof.Proof.Vectors
public import Idealize.ShloMosaic.Lib.IdealHost
public import Mathlib.Analysis.SpecialFunctions.Log.Basic
public import Mathlib.Analysis.SpecialFunctions.Pow.Real

@[expose] public section

set_option maxRecDepth 16384

noncomputable section

namespace Cert.Body

open Idealize.ShloMosaic

/-! ## The constants -/

/-- The reciprocal of the largest code. -/
def unit : EReal := Ideal.ofBits .f32 0x37924925#32

theorem unit_pos : ∃ u : ℝ, 0 < u ∧ unit = (u : EReal) := by
  refine ⟨(9586981 : ℝ) * 2 ^ (-39 : ℤ), by positivity, ?_⟩
  simp [unit, Ideal.ofBits, Ideal.ieee, -EReal.coe_mul]

theorem ofBits_d : Ideal.ofBits .f32 0x45A00000#32 = ((5120 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_tiny : Ideal.ofBits .f32 0x00800000#32 = (((2 : ℝ) ^ (-126 : ℤ) : ℝ) : EReal) := by
  simp [Ideal.ofBits, Ideal.ieee, -EReal.coe_mul]; norm_num

theorem ofBits_huge : Ideal.ofBits .f32 0x7E800000#32 = (((2 : ℝ) ^ (126 : ℤ) : ℝ) : EReal) := by
  simp [Ideal.ofBits, Ideal.ieee, -EReal.coe_mul, -EReal.coe_pow]; norm_num

/-- The largest finite number. -/
def fmax : ℝ := 16777215 * 2 ^ (104 : ℤ)

theorem ofBits_fmax : Ideal.ofBits .f32 0x7F7FFFFF#32 = (fmax : EReal) := by
  simp [fmax, Ideal.ofBits, Ideal.ieee, -EReal.coe_mul]

theorem ofBits_neg_fmax : Ideal.ofBits .f32 0xFF7FFFFF#32 = ((-fmax : ℝ) : EReal) := by
  simp [fmax, Ideal.ofBits, Ideal.ieee, -EReal.coe_mul, -EReal.coe_neg]

/-! ## The powers of two -/

theorem pow_bits : ∀ n : Fin 256, ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by decide +kernel

/-- The pattern with exponent field `n`. -/
theorem pow_eq (n : ℕ) (h1 : 1 ≤ n) (h2 : n ≤ 254) : pow (BitVec.ofNat 32 n) = (((2 : ℝ) ^ ((n : ℤ) - 127) : ℝ) : EReal) := by
  obtain ⟨e1, e2, e3⟩ := pow_bits ⟨n, by omega⟩
  simp only at e1 e2 e3
  show Ideal.ieee 8 23 (BitVec.ofNat 32 n <<< 23) = _
  unfold Ideal.ieee
  simp only [Nat.reduceAdd]
  rw [e1, e2, e3, if_neg (by omega), if_neg (by omega)]
  refine congrArg (fun z : ℝ => (z : EReal)) ?_
  have : ((n : ℤ) - 127) = 23 + ((n : ℤ) - (2 ^ (8 - 1) - 1) - 23) := by norm_num
  rw [this, zpow_add₀ (by norm_num)]
  norm_num

theorem pow_top : pow (BitVec.ofNat 32 255) = ⊤ := by
  simp [pow, Ideal.ofBits, Ideal.ieee]

/-! ## The search -/

section
variable {m : EReal} {B : ℕ} (h : ∀ n, 1 ≤ n → n ≤ 255 → (pow (BitVec.ofNat 32 n) ≤ m ↔ n ≤ B))
include h

theorem probe_step (bit x : ℕ) (hb : 1 ≤ bit) (h1 : x ≤ B) (h2 : B < x + 2 * bit) (h3 : x + 2 * bit ≤ 256) :
    ∃ x', probe m (BitVec.ofNat 32 bit) (BitVec.ofNat 32 x) = BitVec.ofNat 32 x' ∧ x' ≤ B ∧ B < x' + bit ∧ x' + bit ≤ 256 := by
  unfold probe
  rw [← BitVec.ofNat_add]
  by_cases c : x + bit ≤ B
  · exact ⟨x + bit, if_pos ((h _ (by omega) (by omega)).mpr c), c, by omega, by omega⟩
  · exact ⟨x, if_neg fun e => c ((h _ (by omega) (by omega)).mp e), h1, by omega, by omega⟩

theorem biased_eq (hB : B ≤ 255) : biased m = BitVec.ofNat 32 B := by
  obtain ⟨x1, e1, a1, b1, c1⟩ := probe_step h 128 0 (by omega) (by omega) (by omega) (by omega)
  obtain ⟨x2, e2, a2, b2, c2⟩ := probe_step h 64 x1 (by omega) (by omega) (by omega) (by omega)
  obtain ⟨x3, e3, a3, b3, c3⟩ := probe_step h 32 x2 (by omega) (by omega) (by omega) (by omega)
  obtain ⟨x4, e4, a4, b4, c4⟩ := probe_step h 16 x3 (by omega) (by omega) (by omega) (by omega)
  obtain ⟨x5, e5, a5, b5, c5⟩ := probe_step h 8 x4 (by omega) (by omega) (by omega) (by omega)
  obtain ⟨x6, e6, a6, b6, c6⟩ := probe_step h 4 x5 (by omega) (by omega) (by omega) (by omega)
  obtain ⟨x7, e7, a7, b7, c7⟩ := probe_step h 2 x6 (by omega) (by omega) (by omega) (by omega)
  obtain ⟨x8, e8, a8, b8, c8⟩ := probe_step h 1 x7 (by omega) (by omega) (by omega) (by omega)
  have : x8 = B := by omega
  unfold biased
  rw [e1, e2, e3, e4, e5, e6, e7, e8, this]
end

theorem biased_zero : biased 0 = 0#32 := by
  refine biased_eq (B := 0) (fun n h1 h2 => ?_) (by omega)
  refine ⟨fun h => ?_, fun h => by omega⟩
  rcases Nat.lt_or_ge n 255 with h3 | h3
  · rw [pow_eq n h1 (by omega)] at h
    have h := EReal.coe_nonpos.mp h
    exact absurd h (not_le.mpr (by positivity))
  · obtain rfl : n = 255 := by omega
    rw [pow_top] at h
    exact absurd (top_le_iff.mp h) (by simp)

/-- The whole part of a number's binary logarithm. -/
def lg (r : ℝ) : ℤ := ⌊Real.log r / Real.log 2⌋

theorem zpow_le_iff (r : ℝ) (hr : 0 < r) (x : ℤ) : (2 : ℝ) ^ x ≤ r ↔ x ≤ lg r := by
  have hp : (0 : ℝ) < 2 ^ x := by positivity
  rw [lg, Int.le_floor, le_div_iff₀ (Real.log_pos (by norm_num)), ← Real.log_zpow, Real.log_le_log_iff hp hr]

theorem biased_real (r : ℝ) (h1 : (2 : ℝ) ^ (-126 : ℤ) ≤ r) (h2 : r < (2 : ℝ) ^ (126 : ℤ)) :
    -126 ≤ lg r ∧ lg r < 126 ∧ biased (r : EReal) = BitVec.ofNat 32 (lg r + 127).toNat := by
  have hr : 0 < r := lt_of_lt_of_le (by positivity) h1
  have k1 : -126 ≤ lg r := (zpow_le_iff r hr _).mp h1
  have k2 : lg r < 126 := lt_of_not_ge fun c => absurd h2 (not_lt.mpr ((zpow_le_iff r hr _).mpr c))
  refine ⟨k1, k2, biased_eq (fun n a b => ?_) (by omega)⟩
  rcases Nat.lt_or_ge n 255 with h3 | h3
  · rw [pow_eq n a (by omega), EReal.coe_le_coe_iff]
    rw [zpow_le_iff r hr]; omega
  · obtain rfl : n = 255 := by omega
    rw [pow_top]
    exact ⟨fun h => absurd (top_le_iff.mp h) (EReal.coe_ne_top r), fun h => by omega⟩

/-! ## The exponent -/

/-- The exponent that the logarithm gives for a row whose largest gradient is `a`. -/
def logExp (a : EReal) : EReal :=
  if a = 0 then 0
  else Ideal.liftRound Int.floor (Ideal.div (Ideal.log (a * unit)) (Ideal.log (Ideal.ofBits .f32 0x40000000#32))) + 1

/-- A row's size in units of the largest code is zero, or a normal number below `2 ^ 126`. -/
def Normal (m : EReal) : Prop :=
  m = 0 ∨ (Ideal.ofBits .f32 0x00800000#32 ≤ m ∧ m < Ideal.ofBits .f32 0x7E800000#32)

theorem pow_two (e : ℤ) : Ideal.pow (Ideal.ofBits .f32 0x40000000#32) (((e : ℝ)) : EReal) = (((2 : ℝ) ^ e : ℝ) : EReal) := by
  rw [ofBits_two]
  show ((Real.rpow 2 (e : ℝ) : ℝ) : EReal) = _
  congr 1
  exact Real.rpow_intCast 2 e

/-- The two exponents agree, and with them the powers of two of them. -/
theorem exponent (a : EReal) (h : Normal (a * unit)) : ∃ e : ℤ, logExp a = ((e : ℝ) : EReal)
    ∧ pow (127#32 + expo (biased (a * unit))) = (((2 : ℝ) ^ e : ℝ) : EReal)
    ∧ pow (127#32 - expo (biased (a * unit))) = (((2 : ℝ) ^ (-e) : ℝ) : EReal) := by
  obtain ⟨u, hu, eu⟩ := unit_pos
  rcases eq_or_ne a 0 with rfl | ha
  · refine ⟨0, by simp [logExp], ?_⟩
    rw [zero_mul, biased_zero]
    have : expo 0#32 = 0#32 := by decide
    rw [this]
    have h127 := pow_eq 127 (by omega) (by omega)
    constructor
    · exact h127.trans (by norm_num)
    · exact h127.trans (by norm_num)
  · rcases h with h | ⟨h1, h2⟩
    · rw [eu, mul_eq_zero] at h
      rcases h with h | h
      · exact absurd h ha
      · exact absurd (EReal.coe_eq_zero.mp h) hu.ne'
    · rw [ofBits_tiny] at h1
      rw [ofBits_huge] at h2
      obtain ⟨r, hr⟩ : ∃ r : ℝ, a * unit = (r : EReal) := by
        induction hm : a * unit with
        | bot => rw [hm] at h1; exact absurd (le_bot_iff.mp h1) (EReal.coe_ne_bot _)
        | top => rw [hm] at h2; exact absurd h2 not_top_lt
        | coe r => exact ⟨r, rfl⟩
      rw [hr, EReal.coe_le_coe_iff] at h1
      rw [hr, EReal.coe_lt_coe_iff] at h2
      have r0 : 0 < r := lt_of_lt_of_le (by positivity) h1
      obtain ⟨k1, k2, k3⟩ := biased_real r h1 h2
      generalize hL : lg r = L at k1 k2 k3
      obtain ⟨n, hn⟩ : ∃ n : ℕ, L + 127 = n := ⟨(L + 127).toNat, by omega⟩
      have hx : expo (BitVec.ofNat 32 n) = BitVec.ofNat 32 n - 126#32 := by
        refine if_neg ?_
        rintro (e | e)
        · have := congrArg BitVec.toNat e
          simp only [BitVec.toNat_ofNat] at this; omega
        · have := congrArg BitVec.toNat e
          simp only [BitVec.toNat_ofNat] at this; omega
      refine ⟨L + 1, ?_, ?_, ?_⟩
      · unfold logExp
        rw [if_neg ha, hr, ofBits_two]
        have l1 : Ideal.log (r : EReal) = ((Real.log r : ℝ) : EReal) := if_neg (not_le.mpr r0)
        have l2 : Ideal.log ((2 : ℝ) : EReal) = ((Real.log 2 : ℝ) : EReal) := if_neg (by norm_num)
        have hlog : Real.log 2 ≠ 0 := (Real.log_pos (by norm_num)).ne'
        have l3 : Ideal.div ((Real.log r : ℝ) : EReal) ((Real.log 2 : ℝ) : EReal) = ((Real.log r / Real.log 2 : ℝ) : EReal) := by
          unfold Ideal.div
          rw [if_neg (fun e => hlog (EReal.coe_eq_zero.mp e)), ← EReal.coe_inv, ← EReal.coe_mul]
          rfl
        have l4 : Ideal.liftRound Int.floor ((Real.log r / Real.log 2 : ℝ) : EReal) = ((L : ℝ) : EReal) := by
          rw [← hL]; rfl
        rw [l1, l2, l3, l4]
        norm_cast
      · rw [hr, k3, hn, Int.toNat_natCast, hx]
        have : 127#32 + (BitVec.ofNat 32 n - 126#32) = BitVec.ofNat 32 (n + 1) := by
          rw [BitVec.ofNat_add]; generalize BitVec.ofNat 32 n = b
          apply BitVec.eq_of_toNat_eq; simp; omega
        rw [this, pow_eq (n + 1) (by omega) (by omega)]
        congr 2; push_cast; omega
      · rw [hr, k3, hn, Int.toNat_natCast, hx]
        have : 127#32 - (BitVec.ofNat 32 n - 126#32) = BitVec.ofNat 32 (253 - n) := by
          apply BitVec.eq_of_toNat_eq; simp; omega
        rw [this, pow_eq (253 - n) (by omega) (by omega)]
        congr 2; omega

end Cert.Body

end
-- ==== Proof.Spec.lean ====
/- The reference's operations, stage by stage, as functions of the argument arrays, and what each stage holds at a place. -/
module

public import proofs.«01_k».proof.ReferenceIdeal
public import proofs.«01_k».proof.Proof.Exponent
public import Idealize.ShloMosaic.Lib.Pointwise
public import Idealize.ShloMosaic.PureOps.Ideal

@[expose] public section

set_option maxRecDepth 16384

noncomputable section

namespace Cert.Spec

open Idealize.ShloMosaic Idealize.ShloMosaic.Pointwise
open Cert.ReferenceIdeal Cert.ReferenceIdeal.Facts₀

variable [Cert.ReferenceIdeal.Facts₀]

/-- One value per row, spread over the row. -/
def spread (v : FVec Ideal S30x1024x1 .f32) : FVec Ideal S30x1024x5120 .f32 :=
  broadcastInDim S30x1024x5120 ![0, 1, 2] bcast_S30x1024x1_S30x1024x5120_0_1_2 v

/-- One value per row, as a column. -/
def col (v : FVec Ideal S30x1024 .f32) : FVec Ideal S30x1024x1 .f32 :=
  broadcastInDim S30x1024x1 ![0, 1] bcast_S30x1024_S30x1024x1_0_1 v

/-- The same number in every row. -/
def colConst (v : FVec Ideal S_ .f32) : FVec Ideal S30x1024x1 .f32 :=
  broadcastInDim S30x1024x1 ![] bcast_S_S30x1024x1 v

/-- The normalised input. -/
def xhat (x : FVec Ideal S30x1024x5120 .bf16) (mu rstd : FVec Ideal S30x1024 .f32) : FVec Ideal S30x1024x5120 .f32 :=
  mulf (subf ((extf .f32 · bitsLt_bf16_f32) x) (spread (col mu))) (spread (col rstd))

/-- The cotangent times gamma. -/
def gam (dy : FVec Ideal S30x1024x5120 .bf16) (gamma : FVec Ideal S5120 .f32) : FVec Ideal S30x1024x5120 .f32 :=
  mulf ((extf .f32 · bitsLt_bf16_f32) dy)
    (broadcastInDim S30x1024x5120 ![0, 1, 2] bcast_S1x1x5120_S30x1024x5120_0_1_2 (broadcastInDim S1x1x5120 ![2] bcast_S5120_S1x1x5120_2 gamma))

/-- The mean of each row. -/
def mean (v : FVec Ideal S30x1024x5120 .f32) : FVec Ideal S30x1024x1 .f32 :=
  Host.divf (col (Host.reduceAdd v (constant S_ .f32 0x00000000#32) reducesTo_S30x1024x5120_S30x1024_d2 h_S_))
    (colConst (constant S_ .f32 0x45A00000#32))

/-- The gradient over the deviation. -/
def grad (xh g : FVec Ideal S30x1024x5120 .f32) : FVec Ideal S30x1024x5120 .f32 :=
  subf (subf g (spread (mean g))) (mulf xh (spread (mean (mulf g xh))))

/-- The gradient. -/
def dx (rstd : FVec Ideal S30x1024 .f32) (xh g : FVec Ideal S30x1024x5120 .f32) : FVec Ideal S30x1024x5120 .f32 :=
  mulf (spread (col rstd)) (grad xh g)

/-- The sum of each column. -/
def colSum (v : FVec Ideal S30x1024x5120 .f32) : FVec Ideal S1x5120 .f32 :=
  broadcastInDim S1x5120 ![1] bcast_S5120_S1x5120_1
    (Host.reduceAdd v (constant S_ .f32 0x00000000#32) reducesTo_S30x1024x5120_S5120_d0_1 h_S_)

/-- The largest absolute value of each row. -/
def amax (v : FVec Ideal S30x1024x5120 .f32) : FVec Ideal S30x1024x1 .f32 :=
  col (Host.reduce FloatOps.maximumf (Host.absf v) (constant S_ .f32 0xFF800000#32) reducesTo_S30x1024x5120_S30x1024_d2 h_S_)

/-- That value in units of the format's largest. -/
def units (a : FVec Ideal S30x1024x1 .f32) : FVec Ideal S30x1024x1 .f32 := mulf a (colConst (constant S_ .f32 0x37924925#32))

/-- The exponent of each row. -/
def expn (a : FVec Ideal S30x1024x1 .f32) : FVec Ideal S30x1024x1 .f32 :=
  select (cmpf .oeq a (colConst (constant S_ .f32 0x00000000#32))) (colConst (id (constant S_ .f32 0x00000000#32)))
    (addf (Host.floor (Host.divf (Host.log (units a)) (colConst (id (Host.log (constant S_ .f32 0x40000000#32))))))
      (colConst (constant S_ .f32 0x3F800000#32)))

/-- Two to the power of each row's exponent. -/
def pow2 (e : FVec Ideal S30x1024x1 .f32) : FVec Ideal S30x1024x1 .f32 := Host.powf (colConst (constant S_ .f32 0x40000000#32)) e

/-- The scaled gradient, clipped to the format's range, one row after the other. -/
def scaled (v : FVec Ideal S30x1024x5120 .f32) (e : FVec Ideal S30x1024x1 .f32) : FVec Ideal S30720x5120 .f32 :=
  shapeCast S30720x5120
    (minimumf (broadcastInDim S30x1024x5120 ![] bcast_S_S30x1024x5120 (id (constant S_ .f32 0x47600000#32)))
      (maximumf (broadcastInDim S30x1024x5120 ![] bcast_S_S30x1024x5120 (id (constant S_ .f32 0xC7600000#32)))
        (mulf v (spread (pow2 (Host.negf e)))))) shapeCasts_S30x1024x5120_S30720x5120

/-- Each row's scale. -/
def scale (e : FVec Ideal S30x1024x1 .f32) : FVec Ideal S30x1024 .f32 := shapeCast S30x1024 (pow2 e) shapeCasts_S30x1024x1_S30x1024

/-! ## At a place -/

variable (x dy : FVec Ideal S30x1024x5120 .bf16) (gamma : FVec Ideal S5120 .f32) (mu rstd : FVec Ideal S30x1024 .f32)
variable (v : FVec Ideal S30x1024x5120 .f32) (a : FVec Ideal S30x1024x1 .f32) (b : Fin 30) (s : Fin 1024) (j : Fin 5120)

theorem spread_at : spread a (ix3 b s j) = a (ix3 b s 0) := by
  unfold spread; pointwise

theorem col_at : col rstd (ix3 b s 0) = rstd (ix2 b s) := by
  unfold col; pointwise

theorem xhat_at : xhat x mu rstd (ix3 b s j) = ((x (ix3 b s j) : EReal) - mu (ix2 b s)) * rstd (ix2 b s) := by
  unfold xhat; show FloatOps.mulf (FloatOps.subf _ (spread _ _)) (spread _ _) = _
  rw [spread_at, spread_at, col_at, col_at]; rfl

theorem gam_at : gam dy gamma (ix3 b s j) = (dy (ix3 b s j) : EReal) * gamma (ix1 j) := by
  unfold gam; pointwise

theorem mean_at : mean v (ix3 b s 0) = Ideal.div (∑ k : Fin 5120, v (ix3 b s k)) ((5120 : ℝ) : EReal) := by
  unfold mean col colConst; pointwise
  rw [show Ideal.ofBits .f32 1168113664#32 = ((5120 : ℝ) : EReal) by simp [Ideal.ofBits, Ideal.ieee, -EReal.coe_mul]; norm_num]

/-- The rows that a column's place stands for. -/
theorem column_fiber (h : S30x1024x5120.ReducesTo [0, 1] S5120) (j : Fin 5120) (i : S30x1024x5120.Idx) :
    h.drop i = ix1 j ↔ i = ix3 (i 0) (i 1) j := by
  constructor
  · intro e
    funext a; apply Fin.ext
    match a with
    | ⟨0, _⟩ => rfl
    | ⟨1, _⟩ => rfl
    | ⟨2, _⟩ => exact congrArg Fin.val (congrFun e 0)
  · intro e
    rw [e]
    funext a; apply Fin.ext
    match a with
    | ⟨0, _⟩ => rfl

theorem sum_column (h : S30x1024x5120.ReducesTo [0, 1] S5120) (f : S30x1024x5120.Idx → EReal) (j : Fin 5120) :
    Ideal.hostReduceAdd h f 0 (ix1 j) = ∑ b : Fin 30, ∑ s : Fin 1024, f (ix3 b s j) := by
  unfold Ideal.hostReduceAdd
  rw [zero_add, ← Fintype.sum_prod_type' (f := fun b s => f (ix3 b s j))]
  refine Finset.sum_bij' (fun i _ => (i 0, i 1)) (fun k _ => ix3 k.1 k.2 j) (fun _ _ => Finset.mem_univ _)
    (fun k _ => Finset.mem_filter.mpr ⟨Finset.mem_univ _, (column_fiber h j _).mpr rfl⟩)
    (fun i hi => ((column_fiber h j i).mp (Finset.mem_filter.mp hi).2).symm) (fun _ _ => rfl)
    (fun i hi => congrArg f ((column_fiber h j i).mp (Finset.mem_filter.mp hi).2))

theorem colSum_at (y : S1x5120.Idx) : colSum v y = ∑ b : Fin 30, ∑ s : Fin 1024, (v (ix3 b s (y 1)) : EReal) := by
  unfold colSum; pointwise
  exact sum_column _ v (y 1)

theorem amax_at : amax v (ix3 b s 0) = Finset.univ.sup fun k : Fin 5120 => max (v (ix3 b s k) : EReal) (-v (ix3 b s k)) := by
  unfold amax col; pointwise
  rw [show Ideal.ofBits .f32 4286578688#32 = ⊥ by simp [Ideal.ofBits, Ideal.ieee]]
  rfl

variable (e : FVec Ideal S30x1024x1 .f32) (g xh : FVec Ideal S30x1024x5120 .f32)

theorem grad_at : grad xh g (ix3 b s j) = ((g (ix3 b s j) : EReal) - mean g (ix3 b s 0)) - xh (ix3 b s j) * mean (mulf g xh) (ix3 b s 0) := by
  unfold grad
  show FloatOps.subf (FloatOps.subf _ (spread _ _)) (FloatOps.mulf _ (spread _ _)) = _
  rw [spread_at, spread_at]; rfl

theorem dx_at : dx rstd xh g (ix3 b s j) = (rstd (ix2 b s) : EReal) * grad xh g (ix3 b s j) := by
  unfold dx
  show FloatOps.mulf (spread _ _) _ = _
  rw [spread_at, col_at]; rfl

theorem units_at : units a (ix3 b s 0) = (a (ix3 b s 0) : EReal) * Cert.Body.unit := by
  unfold units colConst; pointwise
  rfl

theorem expn_at : expn a (ix3 b s 0) = Cert.Body.logExp (a (ix3 b s 0)) := by
  unfold expn units colConst; pointwise
  unfold Cert.Body.logExp
  split_ifs
  · exact Ideal.ofBits_zero_f32
  · rfl

theorem pow2_at : pow2 e (ix3 b s 0) = Ideal.pow (Ideal.ofBits .f32 0x40000000#32) (e (ix3 b s 0)) := by
  unfold pow2 colConst; pointwise

theorem negf_at (i : S30x1024x1.Idx) : Host.negf e i = (-(e i) : EReal) := rfl

theorem scale_at : scale e (ix2 b s) = pow2 e (ix3 b s 0) := by
  unfold scale; pointwise

theorem scaled_at (R : Fin 30720) : scaled v e (ix2 R j) = min (Ideal.ofBits .f32 0x47600000#32) (max (Ideal.ofBits .f32 0xC7600000#32)
    ((v (ix3 ⟨R.val / 1024, by omega⟩ ⟨R.val % 1024, by omega⟩ j) : EReal)
      * pow2 (Host.negf e) (ix3 ⟨R.val / 1024, by omega⟩ ⟨R.val % 1024, by omega⟩ 0))) := by
  unfold scaled; pointwise
  rw [spread_at]
  rfl

end Cert.Spec

end
-- ==== Proof.Sums.lean ====
/- Sums and largest values over the extended reals, taken block by block and lane by lane. -/
module

public import proofs.«01_k».proof.Proof.Columns

@[expose] public section

noncomputable section

namespace Cert.Body

open Idealize.ShloMosaic

/-- A sum taken block by block. -/
theorem sum_blocks (f : ℕ → EReal) (m n : ℕ) : (∑ k ∈ Finset.range n, ∑ c ∈ Finset.range m, f (m * k + c)) = ∑ j ∈ Finset.range (m * n), f j := by
  induction n with
  | zero => rfl
  | succ n ih => rw [Finset.sum_range_succ, ih, Nat.mul_succ, Finset.sum_range_add]

/-- A sum over a row taken lane by lane: the lanes of ten chunks of four cells. -/
theorem sum_lanes (f : ℕ → EReal) :
    (∑ l : Fin 128, ∑ k ∈ Finset.range 10, (f (512 * k + 128 * 0 + l.val) + f (512 * k + 128 * 1 + l.val)
      + f (512 * k + 128 * 2 + l.val) + f (512 * k + 128 * 3 + l.val))) = ∑ j ∈ Finset.range 5120, f j := by
  rw [Finset.sum_comm, ← sum_blocks f 512 10]
  refine Finset.sum_congr rfl fun k _ => ?_
  rw [← sum_blocks (fun c => f (512 * k + c)) 128 4, Finset.sum_comm,
    Finset.sum_range (f := fun l => ∑ i ∈ Finset.range 4, f (512 * k + (128 * i + l)))]
  refine Finset.sum_congr rfl fun l _ => ?_
  simp only [Finset.sum_range_succ, Finset.range_zero, Finset.sum_empty, zero_add, ← Nat.add_assoc]

/-- A sum over a block's rows taken sublane by sublane: eight groups of four. -/
theorem sum_sublanes (f : ℕ → EReal) :
    (∑ s : Fin 8, ∑ i ∈ Finset.range 8, (f (32 * i + (0 + s.val)) + f (32 * i + (8 + s.val)) + f (32 * i + (16 + s.val))
      + f (32 * i + (24 + s.val)))) = ∑ r ∈ Finset.range 256, f r := by
  rw [Finset.sum_comm, ← sum_blocks f 32 8]
  refine Finset.sum_congr rfl fun i _ => ?_
  rw [← sum_blocks (fun c => f (32 * i + c)) 8 4, Finset.sum_comm,
    Finset.sum_range (f := fun s => ∑ u ∈ Finset.range 4, f (32 * i + (8 * u + s)))]
  refine Finset.sum_congr rfl fun s _ => ?_
  simp only [Finset.sum_range_succ, Finset.range_zero, Finset.sum_empty, zero_add, Nat.mul_zero, Nat.mul_one, Nat.reduceMul]

theorem size_eq_abs (x : EReal) : size x = (x.abs : EReal) := by
  unfold size
  induction x with
  | bot => simp
  | top => simp
  | coe r => rw [EReal.coe_abs, abs_eq_max_neg, ← EReal.coe_neg]; exact (EReal.coe_strictMono.monotone.map_max).symm

theorem size_mul (x y : EReal) : size (x * y) = size x * size y := by
  rw [size_eq_abs, size_eq_abs, size_eq_abs, EReal.abs_mul]; exact EReal.coe_ennreal_mul _ _

theorem size_nonneg (x : EReal) : 0 ≤ size x := by
  rw [size_eq_abs]; exact EReal.coe_ennreal_nonneg _

/-- A number that is not negative comes out of a largest value. -/
theorem sup_mul {n : ℕ} (r : EReal) (hr : 0 ≤ r) (f : Fin (n + 1) → EReal) :
    (Finset.univ.sup fun j => r * f j) = r * Finset.univ.sup f := by
  refine le_antisymm (Finset.sup_le fun j hj => mul_le_mul_of_nonneg_left (Finset.le_sup hj) hr) ?_
  obtain ⟨j, hj, e⟩ := Finset.exists_mem_eq_sup Finset.univ ⟨0, Finset.mem_univ _⟩ f
  rw [e]
  exact Finset.le_sup (f := fun j => r * f j) hj

/-- The largest value after `n` chunks, bounded. -/
theorem wTo_le (S : Sta) (r l : ℕ) (a B : EReal) (n : ℕ) : wTo S r l a n ≤ B ↔ a ≤ B ∧ ∀ k < n, w4 S k r l ≤ B := by
  induction n with
  | zero => simp [wTo]
  | succ n ih =>
    unfold wTo
    rw [max_le_iff, ih]
    constructor
    · rintro ⟨⟨h1, h2⟩, h3⟩
      refine ⟨h1, fun k hk => ?_⟩
      rcases Nat.lt_succ_iff_lt_or_eq.mp hk with h | rfl
      · exact h2 k h
      · exact h3
    · rintro ⟨h1, h2⟩
      exact ⟨⟨h1, fun k hk => h2 k (by omega)⟩, h2 n (by omega)⟩

/-- The largest size over a row, taken lane by lane. -/
theorem sup_lanes (S : Sta) (r : ℕ) :
    (Finset.univ.sup fun l : Fin 128 => wTo S r l.val 0 10) = Finset.univ.sup fun j : Fin 5120 => size (wN S r j.val) := by
  refine eq_of_forall_ge_iff fun B => ?_
  rw [Finset.sup_le_iff, Finset.sup_le_iff]
  constructor
  · intro h j _
    have := ((wTo_le S r (j.val % 128) 0 B 10).mp (h ⟨j.val % 128, by omega⟩ (Finset.mem_univ _))).2 (j.val / 512) (by omega)
    unfold w4 at this
    rw [max_le_iff, max_le_iff, max_le_iff] at this
    obtain ⟨⟨⟨h0, h1⟩, h2⟩, h3⟩ := this
    have hj : j.val % 512 / 128 < 4 := by omega
    interval_cases hc : j.val % 512 / 128
    · rwa [show 512 * (j.val / 512) + 128 * 0 + j.val % 128 = j.val by omega] at h0
    · rwa [show 512 * (j.val / 512) + 128 * 1 + j.val % 128 = j.val by omega] at h1
    · rwa [show 512 * (j.val / 512) + 128 * 2 + j.val % 128 = j.val by omega] at h2
    · rwa [show 512 * (j.val / 512) + 128 * 3 + j.val % 128 = j.val by omega] at h3
  · intro h l _
    have hl := l.isLt
    refine (wTo_le S r l.val 0 B 10).mpr ⟨le_trans (size_nonneg _) (h 0 (Finset.mem_univ _)), fun k hk => ?_⟩
    have g (j : ℕ) (hj : j < 5120) : size (wN S r j) ≤ B := h ⟨j, hj⟩ (Finset.mem_univ _)
    exact max_le (max_le (max_le (g _ (by omega)) (g _ (by omega))) (g _ (by omega))) (g _ (by omega))

end Cert.Body

end
-- ==== Proof.Rows.lean ====
/- The kernel's rows are the reference's: the normalised input, the means, the gradient, and the size of a row of a block. -/
module

public import proofs.«01_k».proof.Proof.Spec
public import proofs.«01_k».proof.Proof.Sums
public import proofs.«01_k».proof.Proof.Arrays

@[expose] public section

set_option maxRecDepth 16384

noncomputable section

namespace Cert.Body

open Idealize.ShloMosaic Idealize.ShloMosaic.Pointwise
open Cert.KernelIdeal Cert.KernelIdeal.Gen
open Cert.Spec (xhat gam mean grad dx amax units expn pow2 scaled scale colSum)

/-- The kernel's arrays are the reference's arguments, the rows of `x` and `dy` one after the other. -/
structure Agree (A : Args) (x dy : FVec Ideal S30x1024x5120 .bf16) (gamma : FVec Ideal S5120 .f32) (mu rstd : FVec Ideal S30x1024 .f32) : Prop where
  x : ∀ (R : Fin 30720) (j : Fin 5120), A.x (ix2 R j) = x (ix3 ⟨R.val / 1024, by omega⟩ ⟨R.val % 1024, by omega⟩ j)
  dy : ∀ (R : Fin 30720) (j : Fin 5120), A.dy (ix2 R j) = dy (ix3 ⟨R.val / 1024, by omega⟩ ⟨R.val % 1024, by omega⟩ j)
  gamma : ∀ j : Fin 5120, A.gamma (ix2 0 j) = gamma (ix1 j)
  mu : A.mu = mu
  rstd : A.rstd = rstd

/-- The sequence that block `t` is in. -/
abbrev rb (t : ℕ) : Fin 30 := Fin.ofNat 30 (t / 4)

/-- The place in it of row `r` of block `t`. -/
abbrev rs (t r : ℕ) : Fin 1024 := Fin.ofNat 1024 (256 * (t % 4) + r)

/-- The place in the reference's arrays. -/
abbrev at3 (t r c : ℕ) : S30x1024x5120.Idx := ix3 (rb t) (rs t r) (Fin.ofNat 5120 c)

variable [Cert.ReferenceIdeal.Facts₀]
variable {A : Args} {x dy : FVec Ideal S30x1024x5120 .bf16} {gamma : FVec Ideal S5120 .f32} {mu rstd : FVec Ideal S30x1024 .f32}
variable (h : Agree A x dy gamma mu rstd) (t : ℕ) (ht : t < 120) (r : ℕ) (hr : r < 256) (c : ℕ)
include h ht hr

theorem x_at : blk0 A t .x (rc r c) = x (at3 t r c) := by
  refine (h.x _ _).trans (congrArg x ?_)
  have e : (256 * t + r % 256) % 30720 = 256 * t + r := by omega
  refine congrArg₂ (fun b s => ix3 b s (Fin.ofNat 5120 c)) (Fin.ext ?_) (Fin.ext ?_)
  · show (256 * t + r % 256) % 30720 / 1024 = t / 4 % 30
    omega
  · show (256 * t + r % 256) % 30720 % 1024 = (256 * (t % 4) + r) % 1024
    omega

theorem dy_at : dyN (blk0 A t) r c = dy (at3 t r c) := by
  refine (h.dy _ _).trans (congrArg dy ?_)
  refine congrArg₂ (fun b s => ix3 b s (Fin.ofNat 5120 c)) (Fin.ext ?_) (Fin.ext ?_)
  · show (256 * t + r % 256) % 30720 / 1024 = t / 4 % 30
    omega
  · show (256 * t + r % 256) % 30720 % 1024 = (256 * (t % 4) + r) % 1024
    omega

theorem xhatN_at : xhatN (blk0 A t) r c = xhat x mu rstd (at3 t r c) := by
  rw [Cert.Spec.xhat_at, ← x_at h t ht r hr c, ← h.mu, ← h.rstd]
  unfold xhatN
  have e : (rl r c 0).val = r := Nat.mod_eq_of_lt hr
  show (_ - A.mu (si t (rl r c 0).val)) * A.rstd (si t (rl r c 0).val) = _
  rw [e]; rfl

theorem gN_at : gN (blk0 A t) r c = gam dy gamma (at3 t r c) := by
  rw [Cert.Spec.gam_at, ← dy_at h t ht r hr c, ← h.gamma]; rfl

/-- The terms of a row's second mean. -/
theorem gxN_at : gxN (blk0 A t) r c = mulf (gam dy gamma) (xhat x mu rstd) (at3 t r c) := by
  unfold gxN; rw [gN_at h t ht r hr, xhatN_at h t ht r hr]; rfl

/-- The terms of a column's first sum. -/
theorem qN_at : qN (blk0 A t) r c = mulf (F := Ideal) (φ := .f32) ((extf .f32 · Cert.ReferenceIdeal.Facts₀.bitsLt_bf16_f32) dy) (xhat x mu rstd) (at3 t r c) := by
  unfold qN; rw [dy_at h t ht r hr, xhatN_at h t ht r hr]; rfl

omit h ht hr in
theorem mean_of (v : FVec Ideal S30x1024x5120 .f32) (b : Fin 30) (s : Fin 1024) :
    mean v (ix3 b s 0) = (∑ j ∈ Finset.range 5120, v (ix3 b s (Fin.ofNat 5120 j))) * invd (F := Ideal) := by
  rw [Cert.Spec.mean_at, Finset.sum_range]
  have e : ∀ k : Fin 5120, Fin.ofNat 5120 k.val = k := fun k => Fin.ext (Nat.mod_eq_of_lt k.isLt)
  simp only [e]
  unfold Ideal.div
  rw [if_neg (fun e => by have := EReal.coe_eq_zero.mp e; norm_num at this), ← EReal.coe_inv]
  refine congrArg _ ?_
  show _ = ((1 / 5120 : ℝ) : EReal)
  norm_num

theorem mgx_at : blk2 A t .mgx (rl r c) = mean (mulf (gam dy gamma) (xhat x mu rstd)) (ix3 (rb t) (rs t r) 0) := by
  rw [mean_of]
  refine congrArg (· * invd (F := Ideal)) ?_
  simp only [← gxN_at h t ht r hr]
  rw [← sum_lanes]
  refine Finset.sum_congr rfl fun l _ => ?_
  have e : (rl r c 0).val = r := Nat.mod_eq_of_lt hr
  show 0 + ∑ k ∈ Finset.range 10, gx4 (blk0 A t) k (rl r c 0).val l.val = _
  rw [zero_add, e]; rfl

variable (hg : ∀ j : Fin 5120, ∃ q : ℝ, gamma (ix1 j) = (q : EReal))
include hg

omit hr ht in
theorem split_at (l : ℕ) : blk0 A t .gsplit (sc l c) = if l % 128 = 0 then A.gamma (gc c) else 0 := by
  obtain ⟨q, hq⟩ := hg (Fin.ofNat 5120 c)
  have e : A.gamma (gc c) = (q : EReal) := (h.gamma _).trans hq
  show split (A.gamma (gc c)) (l % 128) = _
  rw [e]
  have z : (q : EReal) - (q : EReal) = 0 := by rw [← EReal.coe_sub, sub_self]; rfl
  unfold split
  split_ifs
  · rfl
  · exact z
  · rw [z, sub_zero]
  · rfl

theorem mg_at : blk2 A t .mg (rl r c) = mean (gam dy gamma) (ix3 (rb t) (rs t r) 0) := by
  rw [mean_of]
  refine congrArg (· * invd (F := Ideal)) ?_
  simp only [← gN_at h t ht r hr]
  have e : (rl r c 0).val = r := Nat.mod_eq_of_lt hr
  have sg (l : Fin 128) : blk1 A t .sg (ix2 (rl r c 0) l) = if l = 0 then ∑ j ∈ Finset.range 5120, gN (blk0 A t) r j else 0 := by
    show 0 + ∑ k ∈ Finset.range 10, sgDot (blk0 A t) k (rl r c 0).val l.val = _
    rw [zero_add, e]
    unfold sgDot
    simp only [split_at h t _ hg, Nat.mod_eq_of_lt l.isLt]
    by_cases hl : l = 0
    · subst hl
      simp only [Fin.val_zero, if_true]
      rw [← sum_blocks _ 512 10]
      refine Finset.sum_congr rfl fun k _ => ?_
      rw [Finset.sum_range]; rfl
    · rw [if_neg hl, Finset.sum_eq_zero]
      intro k _
      refine Finset.sum_eq_zero fun j _ => ?_
      rw [if_neg (fun z : l.val = 0 => hl (Fin.ext z)), mul_zero]
  simp only [sg]
  rw [Finset.sum_ite_eq' Finset.univ 0, if_pos (Finset.mem_univ _)]

theorem wN_at : wN (blk2 A t) r c = grad (xhat x mu rstd) (gam dy gamma) (at3 t r c) := by
  rw [Cert.Spec.grad_at, ← mg_at h t ht r hr c hg, ← mgx_at h t ht r hr c, ← gN_at h t ht r hr, ← xhatN_at h t ht r hr]
  have e0 : (rc r c 0).val = r := Nat.mod_eq_of_lt hr
  have e1 (F : ℕ → ℕ → EReal) (hF : ∀ a b, F a b = F a (b % 5120)) : F (rc r c 0).val (rc r c 1).val = F r c := by
    rw [e0, hF r c]; rfl
  have g : blk2 A t .g (rc r c) = gN (blk0 A t) r c := e1 (gN (blk0 A t)) fun a b => by
    unfold gN dyN rc gc; rw [show Fin.ofNat 5120 (b % 5120) = Fin.ofNat 5120 b from Fin.ext (Nat.mod_mod _ _)]
  have xh : blk2 A t .xhat (rc r c) = xhatN (blk0 A t) r c := e1 (xhatN (blk0 A t)) fun a b => by
    unfold xhatN rc
    rw [show Fin.ofNat 5120 (b % 5120) = Fin.ofNat 5120 b from Fin.ext (Nat.mod_mod _ _)]; rfl
  unfold wN
  rw [g, xh]

omit hr in
/-- A row's size in units of the largest code. -/
theorem sizeOf_at (y : Fin 256) : sizeOf (A.rstd (si t y.val)) (blk3 A t .wmax) y
    = (amax (dx rstd (xhat x mu rstd) (gam dy gamma)) (ix3 (rb t) (rs t y.val) 0) : EReal) * unit := by
  rw [Cert.Spec.amax_at]
  refine congrArg (· * unit) ?_
  have e (k : Fin 5120) : max (dx rstd (xhat x mu rstd) (gam dy gamma) (ix3 (rb t) (rs t y.val) k) : EReal)
      (-dx rstd (xhat x mu rstd) (gam dy gamma) (ix3 (rb t) (rs t y.val) k))
      = size (A.rstd (si t y.val)) * size (wN (blk2 A t) y.val k.val) := by
    rw [← size_mul, wN_at h t ht y.val y.isLt k.val hg]
    have ek : Fin.ofNat 5120 k.val = k := Fin.ext (Nat.mod_eq_of_lt k.isLt)
    unfold at3
    rw [Cert.Spec.dx_at, ← h.rstd, ek]; rfl
  simp only [e]
  rw [sup_mul _ (size_nonneg _), ← sup_lanes]
  rfl

end Cert.Body

end
-- ==== Proof.Inputs.lean ====
/- The arrays that the kernel works on are the arguments: `x` and `dy` with their rows one after the other, gamma as a row. -/
module

public import proofs.«01_k».proof.Proof.Rows
public import Idealize.ShloMosaic.Lib.StableHlo.ReadAt

@[expose] public section

set_option maxRecDepth 16384

noncomputable section

namespace Cert.KernelIdeal.Gen

open Idealize.ShloMosaic Idealize.ShloMosaic.TcCoe
open Idealize.SL Idealize.SL.Sem
open Idealize.ShloMosaic.Pointwise
open Cert.Body

variable (m : (ℓ : Loc nD τ sig) → Idealize.ShloMosaic.Buf (Elt Ideal) ℓ) (c : Dev nD)

theorem V_x : V m c main_v0 = shapeCast S30720x5120 (m ((c : Thread nD τ).loc main_arg0)) Facts₀.shapeCasts_S30x1024x5120_S30720x5120 := by
  unfold V hostOps0
  after_reads_simp
  rfl

theorem V_dy : V m c main_v1 = shapeCast S30720x5120 (m ((c : Thread nD τ).loc main_arg1)) Facts₀.shapeCasts_S30x1024x5120_S30720x5120 := by
  unfold V hostOps0
  after_reads_simp
  rfl

theorem V_gamma : V m c main_v2 = shapeCast S1x5120 (m ((c : Thread nD τ).loc main_arg2)) Facts₀.shapeCasts_S5120_S1x5120 := by
  unfold V hostOps0
  after_reads_simp
  rfl

theorem rows_at (v : FVec Ideal S30x1024x5120 .bf16) (R : Fin 30720) (j : Fin 5120) :
    shapeCast S30720x5120 v Facts₀.shapeCasts_S30x1024x5120_S30720x5120 (ix2 R j) = v (ix3 ⟨R.val / 1024, by omega⟩ ⟨R.val % 1024, by omega⟩ j) := by
  pointwise

theorem row_at (v : FVec Ideal S5120 .f32) (j : Fin 5120) :
    shapeCast S1x5120 v Facts₀.shapeCasts_S5120_S1x5120 (ix2 0 j) = v (ix1 j) := by
  pointwise

theorem agree : Agree (argsOf m c) (m ((c : Thread nD τ).loc main_arg0)) (m ((c : Thread nD τ).loc main_arg1)) (m ((c : Thread nD τ).loc main_arg2))
    (m ((c : Thread nD τ).loc main_arg3)) (m ((c : Thread nD τ).loc main_arg4)) where
  x R j := (congrFun (V_x m c) _).trans (rows_at _ R j)
  dy R j := (congrFun (V_dy m c) _).trans (rows_at _ R j)
  gamma j := (congrFun (V_gamma m c) _).trans (row_at _ j)
  mu := V_main_arg3 m c
  rstd := V_main_arg4 m c

end Cert.KernelIdeal.Gen

end
-- ==== Proof.Equal.lean ====
/- The kernel's four results are the reference's: the column sums over all blocks, the scales and the codes. -/
module

public import proofs.«01_k».proof.Proof.Rows

@[expose] public section

set_option maxRecDepth 16384

noncomputable section

namespace Cert.Body

open Idealize.ShloMosaic Idealize.ShloMosaic.Pointwise
open Cert.KernelIdeal Cert.KernelIdeal.Gen

/-- Where the scaled deviation is no larger than the largest float, clipping it to that changes nothing. -/
theorem inv_eq (r : EReal) (E : BitVec 32) (e : ℤ) (h : pow (127#32 - E) = (((2 : ℝ) ^ (-e) : ℝ) : EReal))
    (hb : size r * (((2 : ℝ) ^ (-e) : ℝ) : EReal) ≤ Idealize.ShloMosaic.Ideal.ofBits .f32 0x7F7FFFFF#32) :
    Cert.Body.inv r E = r * (((2 : ℝ) ^ (-e) : ℝ) : EReal) := by
  unfold Cert.Body.inv
  rw [h]
  have p : size (((2 : ℝ) ^ (-e) : ℝ) : EReal) = (((2 : ℝ) ^ (-e) : ℝ) : EReal) := by
    refine max_eq_left ?_
    rw [← EReal.coe_neg, EReal.coe_le_coe_iff]
    have : (0 : ℝ) < 2 ^ (-e) := by positivity
    linarith
  have hb : size (r * (((2 : ℝ) ^ (-e) : ℝ) : EReal)) ≤ Ideal.ofBits .f32 0x7F7FFFFF#32 := by rw [size_mul, p]; exact hb
  obtain ⟨h1, h2⟩ := max_le_iff.mp hb
  rw [max_eq_right, min_eq_right h1]
  rw [ofBits_neg_fmax, EReal.coe_neg, ← ofBits_fmax]
  exact EReal.neg_le_of_neg_le h2

/-- A code of block `t`, from its gradient over the deviation and its inverse scale. -/
theorem blkCodes_at (A : Args) (t : ℕ) (y : Fin 256) (j : Fin 5120) :
    blkCodes A t (ix2 y j) = min (Ideal.ofBits .f32 0x47600000#32) (max (Ideal.ofBits .f32 0xC7600000#32)
      (wN (blk2 A t) y.val j.val * Cert.Body.inv (A.rstd (si t y.val)) (rowE A t y))) := by
  have ey : Fin.ofNat 256 y.val = y := Fin.ext (Nat.mod_eq_of_lt y.isLt)
  have ej : Fin.ofNat 5120 j.val = j := Fin.ext (Nat.mod_eq_of_lt j.isLt)
  show codeN (blk4 A t) y.val j.val = _
  unfold codeN rc rl
  rw [ey, ej]
  rfl

end Cert.Body

namespace Cert.KernelIdeal.Gen

open Idealize.ShloMosaic Idealize.ShloMosaic.Pointwise
open Cert.Body
open Cert.Spec (xhat gam mean grad dx amax units expn pow2 scaled scale colSum)

variable [Cert.ReferenceIdeal.Facts₀]
variable {A : Args} {x dy : FVec Ideal S30x1024x5120 .bf16} {gamma : FVec Ideal S5120 .f32} {mu rstd : FVec Ideal S30x1024 .f32}
variable (h : Agree A x dy gamma mu rstd)
/-- A sum over all rows, block by block, is the sum over the sequences. -/
theorem sum_rows (f : Fin 30 → Fin 1024 → EReal) :
    (∑ t ∈ Finset.range 120, ∑ r ∈ Finset.range 256, f (rb t) (rs t r)) = ∑ b : Fin 30, ∑ s : Fin 1024, f b s := by
  let F : ℕ → EReal := fun R => f (Fin.ofNat 30 (R / 1024)) (Fin.ofNat 1024 R)
  have e : (∑ b : Fin 30, ∑ s : Fin 1024, f b s) = ∑ R ∈ Finset.range 30720, F R := by
    rw [← sum_blocks F 1024 30, Finset.sum_range]
    refine Finset.sum_congr rfl fun b _ => ?_
    rw [Finset.sum_range]
    refine Finset.sum_congr rfl fun s _ => ?_
    refine congrArg₂ f (Fin.ext ?_) (Fin.ext ?_)
    · show b.val = (1024 * b.val + s.val) / 1024 % 30
      omega
    · show s.val = (1024 * b.val + s.val) % 1024
      omega
  rw [e, ← sum_blocks F 256 120]
  refine Finset.sum_congr rfl fun t ht => Finset.sum_congr rfl fun r hr => ?_
  have ht := Finset.mem_range.mp ht
  have hr := Finset.mem_range.mp hr
  refine congrArg₂ f (Fin.ext ?_) (Fin.ext ?_)
  · show t / 4 % 30 = (256 * t + r) / 1024 % 30
    omega
  · show (256 * (t % 4) + r) % 1024 = (256 * t + r) % 1024
    omega

include h

/-- The kernel's column sums of the products are the reference's. -/
theorem dgamma_eq : kerDgamma A = colSum (mulf ((extf .f32 · Cert.ReferenceIdeal.Facts₀.bitsLt_bf16_f32) dy) (xhat x mu rstd)) := by
  funext y
  rw [Cert.Spec.colSum_at, ← sum_rows]
  unfold kerDgamma dgTo
  rw [Finset.sum_comm]
  refine Finset.sum_congr rfl fun t ht => ?_
  have ht := Finset.mem_range.mp ht
  have e : Fin.ofNat 5120 (y 1).val = y 1 := Fin.ext (Nat.mod_eq_of_lt (y 1).isLt)
  have q (r : ℕ) (hr : r ∈ Finset.range 256) := qN_at h t ht r (Finset.mem_range.mp hr) (y 1).val
  unfold at3 at q
  rw [e] at q
  rw [← Finset.sum_congr rfl q, ← sum_sublanes]
  refine Finset.sum_congr rfl fun s _ => ?_
  show q32 (blk0 A t) s.val (y 1).val = _
  unfold q32 q4
  simp only [Finset.sum_range_succ, Finset.range_zero, Finset.sum_empty, zero_add]

/-- The kernel's column sums of the cotangents are the reference's. -/
theorem dbeta_eq : kerDbeta A = colSum ((extf .f32 · Cert.ReferenceIdeal.Facts₀.bitsLt_bf16_f32) dy) := by
  funext y
  rw [Cert.Spec.colSum_at, ← sum_rows]
  unfold kerDbeta dbTo
  refine Finset.sum_congr rfl fun t ht => ?_
  have ht := Finset.mem_range.mp ht
  have e : Fin.ofNat 5120 (y 1).val = y 1 := Fin.ext (Nat.mod_eq_of_lt (y 1).isLt)
  have q (r : ℕ) (hr : r ∈ Finset.range 256) := dy_at h t ht r (Finset.mem_range.mp hr) (y 1).val
  unfold at3 at q
  rw [e] at q
  refine Eq.trans ?_ (Finset.sum_congr rfl q)
  rw [Finset.sum_range]; rfl

variable (hg : ∀ j : Fin 5120, ∃ q : ℝ, gamma (ix1 j) = (q : EReal))
variable (hm : ∀ b s, Normal (units (amax (dx rstd (xhat x mu rstd) (gam dy gamma))) (ix3 b s 0)))
include hg hm

/-- A row's exponent, as the reference has it, and the powers of two that the kernel takes of its own. -/
theorem row_exponent (t : ℕ) (ht : t < 120) (y : Fin 256) : ∃ e : ℤ,
    expn (amax (dx rstd (xhat x mu rstd) (gam dy gamma))) (ix3 (rb t) (rs t y.val) 0) = ((e : ℝ) : EReal)
    ∧ pow (127#32 + rowE A t y) = (((2 : ℝ) ^ e : ℝ) : EReal) ∧ pow (127#32 - rowE A t y) = (((2 : ℝ) ^ (-e) : ℝ) : EReal) := by
  have n := hm (rb t) (rs t y.val)
  rw [Cert.Spec.units_at] at n
  rw [Cert.Spec.expn_at]
  unfold rowE
  rw [sizeOf_at h t ht hg y]
  exact exponent _ n

/-- The kernel's scales are the reference's. -/
theorem scale_eq : kerScale A = scale (expn (amax (dx rstd (xhat x mu rstd) (gam dy gamma)))) := by
  funext y
  idx_vars y
  rw [Cert.Spec.scale_at, Cert.Spec.pow2_at]
  have hy0 := y0.isLt
  have hy1 := y1.isLt
  obtain ⟨e, e1, e2, -⟩ := row_exponent h hg hm (4 * y0.val + y1.val / 256) (by omega) (Fin.ofNat 256 y1.val)
  have b : rb (4 * y0.val + y1.val / 256) = y0 := Fin.ext (show (4 * y0.val + y1.val / 256) / 4 % 30 = y0.val by omega)
  have s : rs (4 * y0.val + y1.val / 256) (Fin.ofNat 256 y1.val).val = y1 :=
    Fin.ext (show (256 * ((4 * y0.val + y1.val / 256) % 4) + y1.val % 256) % 1024 = y1.val by omega)
  rw [b, s] at e1
  rw [e1, pow_two]
  exact e2

variable (hr : ∀ b s, size (rstd (ix2 b s)) * pow2 (Host.negf (expn (amax (dx rstd (xhat x mu rstd) (gam dy gamma))))) (ix3 b s 0)
  ≤ Ideal.ofBits .f32 0x7F7FFFFF#32)
include hr

/-- A code of block `t` is the reference's. -/
theorem code_at (t : ℕ) (ht : t < 120) (y : Fin 256) (j : Fin 5120) :
    blkCodes A t (ix2 y j) = min (Ideal.ofBits .f32 0x47600000#32) (max (Ideal.ofBits .f32 0xC7600000#32)
      ((dx rstd (xhat x mu rstd) (gam dy gamma) (ix3 (rb t) (rs t y.val) j) : EReal)
        * pow2 (Host.negf (expn (amax (dx rstd (xhat x mu rstd) (gam dy gamma))))) (ix3 (rb t) (rs t y.val) 0))) := by
  obtain ⟨e, e1, -, e3⟩ := row_exponent h hg hm t ht y
  have n : pow2 (Host.negf (expn (amax (dx rstd (xhat x mu rstd) (gam dy gamma))))) (ix3 (rb t) (rs t y.val) 0)
      = (((2 : ℝ) ^ (-e) : ℝ) : EReal) := by
    rw [Cert.Spec.pow2_at, ← pow_two]
    refine congrArg (Ideal.pow _) ?_
    rw [Cert.Spec.negf_at, e1]
    push_cast; rfl
  have hb := hr (rb t) (rs t y.val)
  have hw := wN_at h t ht y.val y.isLt j.val hg
  have ej : Fin.ofNat 5120 j.val = j := Fin.ext (Nat.mod_eq_of_lt j.isLt)
  unfold at3 at hw
  rw [ej] at hw
  rw [n] at hb ⊢
  have hi : Cert.Body.inv (A.rstd (si t y.val)) (rowE A t y) = rstd (ix2 (rb t) (rs t y.val)) * (((2 : ℝ) ^ (-e) : ℝ) : EReal) := by
    rw [h.rstd]; exact inv_eq _ _ e e3 hb
  rw [blkCodes_at, hi, hw, Cert.Spec.dx_at, mul_assoc, mul_left_comm]

/-- The kernel's codes are the reference's. -/
theorem codes_eq : kerCodes A = scaled (dx rstd (xhat x mu rstd) (gam dy gamma)) (expn (amax (dx rstd (xhat x mu rstd) (gam dy gamma)))) := by
  funext y
  idx_vars y
  have hy0 := y0.isLt
  have ht : y0.val / 256 < 120 := by omega
  have b : rb (y0.val / 256) = ⟨y0.val / 1024, by omega⟩ := Fin.ext (show y0.val / 256 / 4 % 30 = y0.val / 1024 by omega)
  have s : rs (y0.val / 256) (Fin.ofNat 256 y0.val).val = ⟨y0.val % 1024, by omega⟩ :=
    Fin.ext (show (256 * (y0.val / 256 % 4) + y0.val % 256) % 1024 = y0.val % 1024 by omega)
  have k := code_at h hg hm hr (y0.val / 256) ht (Fin.ofNat 256 y0.val) y1
  rw [b, s] at k
  rw [Cert.Spec.scaled_at]
  exact k

end Cert.KernelIdeal.Gen

end
-- ==== Proof.Assumed.lean ====
/- What the precondition says of the arguments: gamma is finite, every row's size is 0 or a normal number below 2^126, and every scaled
   deviation is at most the largest float. -/
module

public import proofs.«01_k».proof.Proof.Spec
public import proofs.«01_k».proof.Pre_in_range
public import Idealize.ShloMosaic.Lib.ReduceAll
public import Idealize.ShloMosaic.Lib.Affine
public import Idealize.ShloMosaic.Lib.WordCmp

@[expose] public section

set_option maxRecDepth 16384

noncomputable section

namespace Cert.Body

open Idealize.ShloMosaic Idealize.ShloMosaic.Pointwise
open Cert.ReferenceIdeal
open Cert.Spec

variable [Cert.ReferenceIdeal.Facts₀] [Cert.Pre_in_range.Facts]
variable (x dy : FVec Ideal S30x1024x5120 .bf16) (gamma : FVec Ideal S5120 .f32) (mu rstd : FVec Ideal S30x1024 .f32)

/-- The largest absolute value of each row of the gradient. -/
abbrev rowMax : FVec Ideal S30x1024x1 .f32 := amax (dx rstd (xhat x mu rstd) (gam dy gamma))

/-- The word saying that gamma is finite in a place. -/
abbrev gammaWord : IVec S5120 1 :=
  cmpf .ole (Host.absf gamma) (broadcastInDim S5120 ![] Cert.Pre_in_range.Facts.bcast_S_S5120 (constant (F := Ideal) S_ .f32 0x7F7FFFFF#32))

/-- The word saying that a row's size is in range. -/
abbrev sizeWord (u : FVec Ideal S30x1024x1 .f32) : IVec S30x1024x1 1 :=
  ori (cmpf .oeq u (colConst (constant S_ .f32 0x00000000#32)))
    (andi (cmpf .oge u (colConst (constant S_ .f32 0x00800000#32))) (cmpf .olt u (colConst (constant S_ .f32 0x7E800000#32))))

/-- The word saying that a row's scaled deviation is in range. -/
abbrev invWord (rstd : FVec Ideal S30x1024 .f32) (e : FVec Ideal S30x1024x1 .f32) : IVec S30x1024x1 1 :=
  cmpf .ole (mulf (Cert.Spec.col (Host.absf rstd)) (pow2 (Host.negf e))) (colConst (constant S_ .f32 0x7F7FFFFF#32))

theorem bit (b : Bool) : BitVec.ofBool b = 1#1 ↔ b = true := by cases b <;> decide

/-- The precondition is the conjunction of the three words over their arrays. -/
theorem fn_eq : Cert.Pre_in_range.fn (F := Ideal) x dy gamma mu rstd
    = andi (andi (Host.reduce IntOp.andi (gammaWord gamma) (constantI S_ 1 1#1) Cert.Pre_in_range.Facts.reducesTo_S5120_S_d0 Cert.Pre_in_range.Facts.h_S_)
        (Host.reduce IntOp.andi (sizeWord (units (rowMax x dy gamma mu rstd))) (constantI S_ 1 1#1) Cert.Pre_in_range.Facts.reducesTo_S30x1024x1_S_d0_1_2 Cert.Pre_in_range.Facts.h_S_))
      (Host.reduce IntOp.andi (invWord rstd (expn (rowMax x dy gamma mu rstd))) (constantI S_ 1 1#1) Cert.Pre_in_range.Facts.reducesTo_S30x1024x1_S_d0_1_2 Cert.Pre_in_range.Facts.h_S_) := rfl

variable (h : Cert.Pre_in_range.fn (F := Ideal) x dy gamma mu rstd = fun _ => 1#1)
include h

/-- The three parts of the precondition, place by place. -/
theorem parts : (∀ i, gammaWord gamma i = 1#1) ∧ (∀ i, sizeWord (units (rowMax x dy gamma mu rstd)) i = 1#1)
    ∧ ∀ i, invWord rstd (expn (rowMax x dy gamma mu rstd)) i = 1#1 := by
  rw [fn_eq] at h
  have s : Subsingleton S_.Idx := ⟨fun a b => funext fun i => i.elim0⟩
  obtain ⟨h12, h3⟩ := IntOp.andi_eq_one.mp (congrFun h ix0)
  obtain ⟨h1, h2⟩ := IntOp.andi_eq_one.mp h12
  exact ⟨Host.reduce_andi_all _ _ _ _ _ h1, Host.reduce_andi_all _ _ _ _ _ h2, Host.reduce_andi_all _ _ _ _ _ h3⟩

/-- Gamma is finite. -/
theorem gamma_real (j : Fin 5120) : ∃ q : ℝ, gamma (ix1 j) = (q : EReal) := by
  have w := (parts x dy gamma mu rstd h).1 (ix1 j)
  have w' : max (gamma (ix1 j) : EReal) (-gamma (ix1 j)) ≤ Ideal.ofBits .f32 0x7F7FFFFF#32 := by
    exact of_decide_eq_true ((bit _).mp w)
  rw [ofBits_fmax] at w'
  obtain ⟨w1, w2⟩ := max_le_iff.mp w'
  refine ⟨(gamma (ix1 j) : EReal).toReal, (EReal.coe_toReal ?_ ?_).symm⟩
  · intro e; rw [e] at w1; exact absurd w1 (not_le.mpr (EReal.coe_lt_top _))
  · intro e; rw [e, EReal.neg_bot] at w2; exact absurd w2 (not_le.mpr (EReal.coe_lt_top _))

omit h in
theorem sizeWord_at (u : FVec Ideal S30x1024x1 .f32) (i : S30x1024x1.Idx) (w : sizeWord u i = 1#1) : Normal (u i) := by
  rcases IntOp.ori_eq_one.mp w with w | w
  · exact Or.inl ((of_decide_eq_true ((bit _).mp w)).trans Ideal.ofBits_zero_f32)
  · obtain ⟨w1, w2⟩ := IntOp.andi_eq_one.mp w
    exact Or.inr ⟨of_decide_eq_true ((bit _).mp w1), of_decide_eq_true ((bit _).mp w2)⟩

omit h in
theorem invWord_at (e : FVec Ideal S30x1024x1 .f32) (b : Fin 30) (s : Fin 1024) (w : invWord rstd e (ix3 b s 0) = 1#1) :
    max (rstd (ix2 b s) : EReal) (-rstd (ix2 b s)) * pow2 (Host.negf e) (ix3 b s 0) ≤ Ideal.ofBits .f32 0x7F7FFFFF#32 := by
  have c := Cert.Spec.col_at (Host.absf rstd) b s
  unfold invWord at w
  generalize pow2 (Host.negf e) = p at w ⊢
  have w' : (Cert.Spec.col (Host.absf rstd) (ix3 b s 0) : EReal) * p (ix3 b s 0) ≤ Ideal.ofBits .f32 0x7F7FFFFF#32 :=
    of_decide_eq_true ((bit _).mp w)
  rw [c] at w'
  exact w'

/-- Every row's size is 0 or a normal number below 2^126. -/
theorem size_normal (b : Fin 30) (s : Fin 1024) : Normal (units (rowMax x dy gamma mu rstd) (ix3 b s 0)) :=
  sizeWord_at _ _ ((parts x dy gamma mu rstd h).2.1 _)

/-- Every scaled deviation is at most the largest float. -/
theorem inv_finite (b : Fin 30) (s : Fin 1024) :
    max (rstd (ix2 b s) : EReal) (-rstd (ix2 b s)) * pow2 (Host.negf (expn (rowMax x dy gamma mu rstd))) (ix3 b s 0)
      ≤ Ideal.ofBits .f32 0x7F7FFFFF#32 :=
  invWord_at rstd _ b s ((parts x dy gamma mu rstd h).2.2 _)

end Cert.Body

end
-- ==== Proof.RefValue.lean ====
/- What the reference's four result arrays hold after its run, as its operations' stages. -/
module

public import proofs.«01_k».proof.Proof.Spec
public import proofs.«01_k».proof.Proof.Gen.ReferenceIdeal.Value
public import Idealize.ShloMosaic.Lib.StableHlo.ReadAt
public import Idealize.ShloMosaic.Lib.Pipeline.ValueKit

@[expose] public section

set_option maxRecDepth 16384

noncomputable section

namespace Cert.ReferenceIdeal.Gen

open Idealize.ShloMosaic Idealize.ShloMosaic.TcCoe
open Idealize.SL Idealize.SL.Sem
open Cert.Spec

variable (m : (ℓ : Loc nD τ sig) → Buf (Elt Ideal) ℓ) (c : Dev nD)

/-- The gradient that the reference takes from its arguments. -/
def refDx : FVec Ideal S30x1024x5120 .f32 :=
  dx (m ((c : Thread nD τ).loc main_arg4))
    (xhat (m ((c : Thread nD τ).loc main_arg0)) (m ((c : Thread nD τ).loc main_arg3)) (m ((c : Thread nD τ).loc main_arg4)))
    (gam (m ((c : Thread nD τ).loc main_arg1)) (m ((c : Thread nD τ).loc main_arg2)))

/-- The largest absolute value of each of its rows. -/
def refMax : FVec Ideal S30x1024x1 .f32 := amax (refDx m c)

theorem V_dgamma : V m c main_v55 = colSum (mulf ((extf .f32 · Facts₀.bitsLt_bf16_f32) (m ((c : Thread nD τ).loc main_arg1)))
    (xhat (m ((c : Thread nD τ).loc main_arg0)) (m ((c : Thread nD τ).loc main_arg3)) (m ((c : Thread nD τ).loc main_arg4)))) := by
  unfold V hostOps0 hostOps0_1 hostOps0_2 hostOps0_3 hostOps0_4
  simp only [List.flatten_cons, List.flatten_nil, List.cons_append, List.nil_append, List.append_nil]
  after_reads_simp
  rfl

theorem V_dbeta : V m c main_v56 = colSum ((extf .f32 · Facts₀.bitsLt_bf16_f32) (m ((c : Thread nD τ).loc main_arg1))) := by
  unfold V hostOps0 hostOps0_1 hostOps0_2 hostOps0_3 hostOps0_4
  simp only [List.flatten_cons, List.flatten_nil, List.cons_append, List.nil_append, List.append_nil]
  after_reads_simp
  rfl

theorem V_scale : V m c main_v57 = scale (expn (refMax m c)) := by
  unfold V hostOps0 hostOps0_1 hostOps0_2 hostOps0_3 hostOps0_4
  simp only [List.flatten_cons, List.flatten_nil, List.cons_append, List.nil_append, List.append_nil]
  after_reads_simp
  all_goals simp -implicitDefEqProofs only [StableHlo.TRef.toBuf, StableHlo.TRef.ofBuf, cast_cast, cast_eq]
  rfl

theorem V_scaled : V m c main_v54 = scaled (refDx m c) (expn (refMax m c)) := by
  unfold V hostOps0 hostOps0_1 hostOps0_2 hostOps0_3 hostOps0_4
  simp only [List.flatten_cons, List.flatten_nil, List.cons_append, List.nil_append, List.append_nil]
  after_reads_simp
  all_goals simp -implicitDefEqProofs only [StableHlo.TRef.toBuf, StableHlo.TRef.ofBuf, cast_cast, cast_eq]
  rfl

variable {m c} {r : PUnit × MemSt nD τ sig (Elt Ideal)} (h : Pipeline.FramePost cfgs (dats m) 0 (V m) r)
include h

omit h in
/-- The cast leaves each number as it is. -/
theorem cast_at (P : S30720x5120.Idx → EReal) (j : S30720x5120.Idx) : out0_1 (F := Ideal) P j = P j := by
  unfold out0_1
  refine (Cert.ReferenceIdeal.Value.canon1_eq _ j).trans ?_
  show P _ = P j
  refine congrArg P (funext fun a => Fin.ext ?_)
  match a with
  | ⟨0, _⟩ => show 0 + 1 * (j 0).val = (j 0).val; omega
  | ⟨1, _⟩ => show 0 + 1 * (j 1).val = (j 1).val; omega

omit h in
/-- The cast's block is the whole array. -/
theorem whole (W : S30720x5120.Idx → EReal) (j : S30720x5120.Idx) : ((cfg0.win 0).blk t0_0).view.read (Elt Ideal) W j = W j := by
  refine congrArg W (funext fun a => Fin.ext ?_)
  match a with
  | ⟨0, _⟩ => blk_simp; rw [show win0_0.index t0_0 0 = 0 by decide +kernel, Nat.zero_mul, Nat.zero_add]
  | ⟨1, _⟩ => blk_simp; rw [show win0_0.index t0_0 1 = 0 by decide +kernel, Nat.zero_mul, Nat.zero_add]

omit h in
/-- So is the block that it writes. -/
theorem whole_out (y : S30720x5120.Idx) : (((cfg0.win 1).blk t0_0).view.emb y : S30720x5120.Idx) = y := by
  funext a
  refine Fin.ext ?_
  match a with
  | ⟨0, _⟩ => blk_simp; rw [show win0_1.index t0_0 0 = 0 by decide +kernel, Nat.zero_mul, Nat.zero_add]
  | ⟨1, _⟩ => blk_simp; rw [show win0_1.index t0_0 1 = 0 by decide +kernel, Nat.zero_mul, Nat.zero_add]

/-- The codes: the scaled gradient, cast to the format. -/
theorem ref_codes : r.2.mem ((c : Thread nD τ).loc main_v58) = scaled (refDx m c) (expn (refMax m c)) := by
  rw [Cert.ReferenceIdeal.Value.post1 m r h c, ← V_scaled]
  have hI : ∀ y : S30720x5120.Idx, iblk m c 0 t0_0 y = (V m c main_v54 : S30720x5120.Idx → EReal) y := fun y => by
    unfold iblk
    generalize V m c = V'
    exact whole (V' main_v54) y
  refine Pipeline.Dat.arrAt_eq_of_covers (dats m 0 c) 1 (V m c main_v54 : S30720x5120.Idx → EReal) (by decide +kernel) fun t hf y => ?_
  obtain rfl : t = t0_0 := Subsingleton.elim (α := Fin 1) t t0_0
  show (dats m 0 c).after 1 t0_0 y = _
  rw [after0_1]
  generalize iblk m c 0 t0_0 = I at hI ⊢
  generalize V m c main_v54 = W at hI ⊢
  refine ((cast_at I y).trans (hI y)).trans ?_
  exact congrArg W (whole_out y).symm

theorem ref_dgamma : r.2.mem ((c : Thread nD τ).loc main_v55) = colSum (mulf ((extf .f32 · Facts₀.bitsLt_bf16_f32) (m ((c : Thread nD τ).loc main_arg1)))
    (xhat (m ((c : Thread nD τ).loc main_arg0)) (m ((c : Thread nD τ).loc main_arg3)) (m ((c : Thread nD τ).loc main_arg4)))) :=
  ((h c).2 main_v55 (Pipeline.mem_restRefs_of main_v55 (by decide) (by decide))).trans (V_dgamma m c)

theorem ref_dbeta : r.2.mem ((c : Thread nD τ).loc main_v56) = colSum ((extf .f32 · Facts₀.bitsLt_bf16_f32) (m ((c : Thread nD τ).loc main_arg1))) :=
  ((h c).2 main_v56 (Pipeline.mem_restRefs_of main_v56 (by decide) (by decide))).trans (V_dbeta m c)

theorem ref_scale : r.2.mem ((c : Thread nD τ).loc main_v57) = scale (expn (refMax m c)) :=
  ((h c).2 main_v57 (Pipeline.mem_restRefs_of main_v57 (by decide) (by decide))).trans (V_scale m c)

end Cert.ReferenceIdeal.Gen

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Frame
public import proofs.«01_k».proof.Proof.Gen.ReferenceIdeal.Value
public import proofs.«01_k».proof.Proof.Gen.Pre_in_range
public import proofs.«01_k».proof.Proof.IdealRun
public import proofs.«01_k».proof.Proof.PrintedRun
public import proofs.«01_k».proof.Proof.Arrays
public import proofs.«01_k».proof.Proof.Inputs
public import proofs.«01_k».proof.Proof.Equal
public import proofs.«01_k».proof.Proof.Assumed
public import proofs.«01_k».proof.Proof.RefValue
public import Idealize.ShloMosaic.Adequacy
public import Idealize.ShloMosaic.Init

/-!
# The claims, assembled

The frames of the two kernels come from the body written once as a step program and run at every
grid point (`Proof/PrintedRun.lean`, `Proof/IdealRun.lean`); the reference's frame is the generated
one.  `preserves` is the one named constant, `1 / 5120`.  The values: what the kernel's four result
arrays hold (`Proof/Arrays.lean`), what the reference's hold (`Proof/RefValue.lean`), and that the
two are equal (`Proof/Equal.lean`) under what the precondition says (`Proof/Assumed.lean`).
-/

@[expose] public section

noncomputable section

namespace Cert.Proof

open Idealize.ShloMosaic Idealize.SL.Sem

/-- The kernel as printed terminates with its arguments unchanged and every counter at zero. -/
theorem frame_p : Cert.quiescent_Kernel := fun m ρ _ => Cert.Kernel.Gen.frame_run m ρ

/-- So does its idealization. -/
theorem frame_pi : Cert.quiescent_KernelIdeal := fun m ρ _ => Cert.KernelIdeal.Gen.frame_run m ρ

/-- And so does the reference. -/
theorem frame_ri : Cert.quiescent_ReferenceIdeal := fun m ρ _ => Cert.ReferenceIdeal.Gen.frame m ρ

/-- The one place where the idealization differs from the kernel is the constant read as `1 / 5120`. -/
theorem preserves : Cert.preserves_Kernel_KernelIdeal :=
  IdealRules.named_const.statement Cert.KernelIdeal.κ "inv_d" .f32 0x394CCCCD#32 ((1 / 5120 : ℝ) : EReal) rfl

/-- From arguments that satisfy the precondition, the kernel and the reference end with the same four results over the
    extended reals: the two column sums, the codes and the scales. -/
theorem algebraic : Cert.algebraic_KernelIdeal_ReferenceIdeal_pre_in_range := by
  intro m g m' g' hpre hargs
  refine ⟨fun c => Cert.KernelIdeal.Gen.kerDgamma (Cert.KernelIdeal.Gen.argsOf m c),
    fun c => Cert.KernelIdeal.Gen.kerDbeta (Cert.KernelIdeal.Gen.argsOf m c),
    fun c => Cert.KernelIdeal.Gen.kerCodes (Cert.KernelIdeal.Gen.argsOf m c),
    fun c => Cert.KernelIdeal.Gen.kerScale (Cert.KernelIdeal.Gen.argsOf m c),
    (θ_run (Cert.KernelIdeal.defs (F := Ideal)) _ _).mono (fun r h c => ?_) (Cert.KernelIdeal.Gen.run_values m g),
    (θ_run (Cert.ReferenceIdeal.defs (F := Ideal)) _ _).mono (fun r h c => ?_) (Cert.ReferenceIdeal.Gen.run_main m' g')⟩
  · exact ⟨Cert.KernelIdeal.Gen.post_dgamma h.1, Cert.KernelIdeal.Gen.post_dbeta h.1, Cert.KernelIdeal.Gen.post_codes h.1,
      Cert.KernelIdeal.Gen.post_scale h.1, Cert.KernelIdeal.Gen.args_of _ _ h.1 c⟩
  · obtain ⟨e0, e1, e2, e3, e4⟩ := hargs c
    have a := Cert.KernelIdeal.Gen.agree m c
    have p := hpre c
    have hg := Cert.Body.gamma_real _ _ _ _ _ p
    have hm := Cert.Body.size_normal _ _ _ _ _ p
    have hr := Cert.Body.inv_finite _ _ _ _ _ p
    have k0 := Cert.KernelIdeal.Gen.dgamma_eq a
    have k1 := Cert.KernelIdeal.Gen.dbeta_eq a
    have k2 := Cert.KernelIdeal.Gen.codes_eq a hg hm hr
    have k3 := Cert.KernelIdeal.Gen.scale_eq a hg hm
    rw [← e0, ← e1, ← e3, ← e4] at k0
    rw [← e1] at k1
    rw [← e0, ← e1, ← e2, ← e3, ← e4] at k2 k3
    exact ⟨(Cert.ReferenceIdeal.Gen.ref_dgamma h).trans k0.symm, (Cert.ReferenceIdeal.Gen.ref_dbeta h).trans k1.symm,
      (Cert.ReferenceIdeal.Gen.ref_codes h).trans k2.symm, (Cert.ReferenceIdeal.Gen.ref_scale h).trans k3.symm,
      Cert.ReferenceIdeal.Value.kept_main_arg0 m' r h c, Cert.ReferenceIdeal.Value.kept_main_arg1 m' r h c,
      Cert.ReferenceIdeal.Value.kept_main_arg2 m' r h c, Cert.ReferenceIdeal.Value.kept_main_arg3 m' r h c,
      Cert.ReferenceIdeal.Value.kept_main_arg4 m' r h c⟩

theorem claim : Cert.Claim :=
  ⟨Cert.Kernel.Gen.facts, Cert.KernelIdeal.Gen.facts, Cert.ReferenceIdeal.Gen.facts, Cert.Pre_in_range.Gen.facts,
    frame_p, frame_pi, fun m ρ _ => Cert.KernelIdeal.Gen.frame_run m ρ, frame_ri,
    fun m ρ _ => Cert.ReferenceIdeal.Gen.frame m ρ, preserves, algebraic⟩

end Cert.Proof

end
